-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Kernel2 [hPre_experts_in_range : Cert.Pre_experts_in_range.Facts] (m : (ℓ : Loc Cert.Kernel2.nD Cert.Kernel2.τ Cert.Kernel2.sig) → Buf (Elt Bits) ℓ) : Prop :=
  ∀ c : Dev Cert.Kernel2.nD,
    (Cert.Pre_experts_in_range.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5))) = (fun _ => 1#1)

def Pre_Kernel2Ideal [hPre_experts_in_range : Cert.Pre_experts_in_range.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_experts_in_range.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_experts_in_range [hPre_experts_in_range : Cert.Pre_experts_in_range.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_experts_in_range.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] [hPre_experts_in_range : Cert.Pre_experts_in_range.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] [hPre_experts_in_range : Cert.Pre_experts_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_experts_in_range [hReference2Ideal : Cert.Reference2Ideal.Facts] [hPre_experts_in_range : Cert.Pre_experts_in_range.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_experts_in_range m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] [hPre_experts_in_range : Cert.Pre_experts_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v24) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v23) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v38_0)) (v1 : (c : Dev Cert.Kernel4Ideal.nD) → Buf (Elt Ideal) ((c.tc : Thread Cert.Kernel4Ideal.nD Cert.Kernel4Ideal.τ).loc Cert.Kernel4Ideal.main_v38_1)) (v2 : (c : Dev Cert.Kernel4Ideal.nD) → Buf (Elt Ideal) ((c.tc : Thread Cert.Kernel4Ideal.nD Cert.Kernel4Ideal.τ).loc Cert.Kernel4Ideal.main_v38_2)) (v3 : (c : Dev Cert.Kernel4Ideal.nD) → Buf (Elt Ideal) ((c.tc : Thread Cert.Kernel4Ideal.nD Cert.Kernel4Ideal.τ).loc Cert.Kernel4Ideal.main_v38_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v38_0) = v0 c
          ∧ r.2.mem ((c.tc : Thread Cert.Kernel4Ideal.nD Cert.Kernel4Ideal.τ).loc Cert.Kernel4Ideal.main_v38_1) = v1 c
          ∧ r.2.mem ((c.tc : Thread Cert.Kernel4Ideal.nD Cert.Kernel4Ideal.τ).loc Cert.Kernel4Ideal.main_v38_2) = v2 c
          ∧ r.2.mem ((c.tc : Thread Cert.Kernel4Ideal.nD Cert.Kernel4Ideal.τ).loc Cert.Kernel4Ideal.main_v38_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v139) = v0 c
          ∧ r.2.mem ((c.tc : Thread Cert.Reference4Ideal.nD Cert.Reference4Ideal.τ).loc Cert.Reference4Ideal.main_v140) = v1 c
          ∧ r.2.mem ((c.tc : Thread Cert.Reference4Ideal.nD Cert.Reference4Ideal.τ).loc Cert.Reference4Ideal.main_v141) = v2 c
          ∧ r.2.mem ((c.tc : Thread Cert.Reference4Ideal.nD Cert.Reference4Ideal.τ).loc Cert.Reference4Ideal.main_v138) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts) (hPre_experts_in_range : Cert.Pre_experts_in_range.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2) (hPre_experts_in_range := hPre_experts_in_range)
    ∧ quiescent_Kernel2Ideal (hKernel2Ideal := hKernel2Ideal) (hPre_experts_in_range := hPre_experts_in_range)
    ∧ quiescent_Reference2Ideal (hReference2Ideal := hReference2Ideal)
    ∧ quiescent_Reference2Ideal_pre_experts_in_range (hReference2Ideal := hReference2Ideal) (hPre_experts_in_range := hPre_experts_in_range)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal) (hPre_experts_in_range := hPre_experts_in_range)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_experts_in_range.lean ====
abbrev S276 : Shape := ⟨1, ![276]⟩
abbrev S1 : Shape := ⟨1, ![1]⟩
abbrev S70656x1024 : Shape := ⟨2, ![70656, 1024]⟩
abbrev S16x1024x512 : Shape := ⟨3, ![16, 1024, 512]⟩
abbrev S16x512x1024 : Shape := ⟨3, ![16, 512, 1024]⟩
abbrev S_ : Shape := ⟨0, ![]⟩

class Facts : Prop where
  bcast_S_S276 : S_.BroadcastsInDim S276 (![] : Fin 0 → Fin S276.rank)
  reducesTo_S276_S_d0 : S276.ReducesTo [0] S_
  h_S_ : 0 < S_.numel

variable [Facts]

def fn {F : FTy → Type} [FloatOps F] (main_arg0 : IVec S276 32) (main_arg1 : IVec S1 32) (main_arg2 : FVec F S70656x1024 .f32) (main_arg3 : FVec F S16x1024x512 .f32) (main_arg4 : FVec F S16x1024x512 .f32) (main_arg5 : FVec F S16x512x1024 .f32) : IVec S_ 1 :=
  let main_c : IVec S_ 32 := constantI S_ 32 0#32
  let main_v0 : IVec S276 32 := broadcastInDim S276 ![] bcast_S_S276 main_c
  let main_v1 : IVec S276 1 := cmpi .sge main_arg0 main_v0
  let main_c_0 : IVec S_ 32 := constantI S_ 32 16#32
  let main_v2 : IVec S276 32 := broadcastInDim S276 ![] bcast_S_S276 main_c_0
  let main_v3 : IVec S276 1 := cmpi .slt main_arg0 main_v2
  let main_v4 : IVec S276 1 := andi main_v1 main_v3
  let main_c_1 : IVec S_ 1 := constantI S_ 1 1#1
  let main_v5 : IVec S_ 1 := (fun x v => Host.reduce IntOp.andi x v reducesTo_S276_S_d0 h_S_) main_v4 main_c_1
  main_v5
-- ==== Pre_finite.lean ====
abbrev S2x16384x1024 : Shape := ⟨3, ![2, 16384, 1024]⟩
abbrev S2x256x1024 : Shape := ⟨3, ![2, 256, 1024]⟩
abbrev S4x64 : Shape := ⟨2, ![4, 64]⟩
abbrev S128 : Shape := ⟨1, ![128]⟩
abbrev S_ : Shape := ⟨0, ![]⟩

class Facts : Prop where
  bcast_S_S2x16384x1024 : S_.BroadcastsInDim S2x16384x1024 (![] : Fin 0 → Fin S2x16384x1024.rank)
  reducesTo_S2x16384x1024_S_d0_1_2 : S2x16384x1024.ReducesTo [0, 1, 2] S_
  h_S_ : 0 < S_.numel
  bcast_S_S2x256x1024 : S_.BroadcastsInDim S2x256x1024 (![] : Fin 0 → Fin S2x256x1024.rank)
  reducesTo_S2x256x1024_S_d0_1_2 : S2x256x1024.ReducesTo [0, 1, 2] S_
  bcast_S_S4x64 : S_.BroadcastsInDim S4x64 (![] : Fin 0 → Fin S4x64.rank)
  reducesTo_S4x64_S_d0_1 : S4x64.ReducesTo [0, 1] S_

variable [Facts]

def fn_part1 {F : FTy → Type} [FloatOps F] (main_arg5 : FVec F S2x256x1024 .f32) (main_arg6 : FVec F S4x64 .f32) (main_v13 : IVec S_ 1) (main_v16 : IVec S2x256x1024 1) : IVec S_ 1 :=
  let main_c_5 : IVec S_ 1 := constantI S_ 1 1#1
  let main_v17 : IVec S_ 1 := (fun x v => Host.reduce IntOp.andi x v reducesTo_S2x256x1024_S_d0_1_2 h_S_) main_v16 main_c_5
  let main_v18 : IVec S_ 1 := andi main_v13 main_v17
  let main_v19 : FVec F S2x256x1024 .f32 := Host.absf main_arg5
  let main_cst_6 : FVec F S_ .f32 := constant S_ .f32 0x7F800000#32
  let main_v20 : FVec F S2x256x1024 .f32 := broadcastInDim S2x256x1024 ![] bcast_S_S2x256x1024 main_cst_6
  let main_v21 : IVec S2x256x1024 1 := cmpf .olt main_v19 main_v20
  let main_c_7 : IVec S_ 1 := constantI S_ 1 1#1
  let main_v22 : IVec S_ 1 := (fun x v => Host.reduce IntOp.andi x v reducesTo_S2x256x1024_S_d0_1_2 h_S_) main_v21 main_c_7
  let main_v23 : IVec S_ 1 := andi main_v18 main_v22
  let main_v24 : FVec F S4x64 .f32 := Host.absf main_arg6
  let main_cst_8 : FVec F S_ .f32 := constant S_ .f32 0x7F800000#32
  let main_v25 : FVec F S4x64 .f32 := broadcastInDim S4x64 ![] bcast_S_S4x64 main_cst_8
  let main_v26 : IVec S4x64 1 := cmpf .olt main_v24 main_v25
  let main_c_9 : IVec S_ 1 := constantI S_ 1 1#1
  let main_v27 : IVec S_ 1 := (fun x v => Host.reduce IntOp.andi x v reducesTo_S4x64_S_d0_1 h_S_) main_v26 main_c_9
  let main_v28 : IVec S_ 1 := andi main_v23 main_v27
  main_v28

def fn {F : FTy → Type} [FloatOps F] (main_arg0 : FVec F S2x16384x1024 .f32) (main_arg1 : FVec F S2x16384x1024 .f32) (main_arg2 : FVec F S2x16384x1024 .f32) (main_arg3 : FVec F S2x256x1024 .f32) (main_arg4 : FVec F S2x256x1024 .f32) (main_arg5 : FVec F S2x256x1024 .f32) (main_arg6 : FVec F S4x64 .f32) (main_arg7 : FVec F S128 .f32) : IVec S_ 1 :=
  let main_v0 : FVec F S2x16384x1024 .f32 := Host.absf main_arg0
  let main_cst : FVec F S_ .f32 := constant S_ .f32 0x7F800000#32
  let main_v1 : FVec F S2x16384x1024 .f32 := broadcastInDim S2x16384x1024 ![] bcast_S_S2x16384x1024 main_cst
  let main_v2 : IVec S2x16384x1024 1 := cmpf .olt main_v0 main_v1
  let main_c : IVec S_ 1 := constantI S_ 1 1#1
  let main_v3 : IVec S_ 1 := (fun x v => Host.reduce IntOp.andi x v reducesTo_S2x16384x1024_S_d0_1_2 h_S_) main_v2 main_c
  let main_v4 : FVec F S2x16384x1024 .f32 := Host.absf main_arg1
  let main_cst_0 : FVec F S_ .f32 := constant S_ .f32 0x7F800000#32
  let main_v5 : FVec F S2x16384x1024 .f32 := broadcastInDim S2x16384x1024 ![] bcast_S_S2x16384x1024 main_cst_0
  let main_v6 : IVec S2x16384x1024 1 := cmpf .olt main_v4 main_v5
  let main_c_1 : IVec S_ 1 := constantI S_ 1 1#1
  let main_v7 : IVec S_ 1 := (fun x v => Host.reduce IntOp.andi x v reducesTo_S2x16384x1024_S_d0_1_2 h_S_) main_v6 main_c_1
  let main_v8 : IVec S_ 1 := andi main_v3 main_v7
  let main_v9 : FVec F S2x16384x1024 .f32 := Host.absf main_arg2
  let main_cst_2 : FVec F S_ .f32 := constant S_ .f32 0x7F800000#32
  let main_v10 : FVec F S2x16384x1024 .f32 := broadcastInDim S2x16384x1024 ![] bcast_S_S2x16384x1024 main_cst_2
  let main_v11 : IVec S2x16384x1024 1 := cmpf .olt main_v9 main_v10
  let main_c_3 : IVec S_ 1 := constantI S_ 1 1#1
  let main_v12 : IVec S_ 1 := (fun x v => Host.reduce IntOp.andi x v reducesTo_S2x16384x1024_S_d0_1_2 h_S_) main_v11 main_c_3
  let main_v13 : IVec S_ 1 := andi main_v8 main_v12
  let main_v14 : FVec F S2x256x1024 .f32 := Host.absf main_arg4
  let main_cst_4 : FVec F S_ .f32 := constant S_ .f32 0x7F800000#32
  let main_v15 : FVec F S2x256x1024 .f32 := broadcastInDim S2x256x1024 ![] bcast_S_S2x256x1024 main_cst_4
  let main_v16 : IVec S2x256x1024 1 := cmpf .olt main_v14 main_v15
  fn_part1 (F := F) main_arg5 main_arg6 main_v13 main_v16
-- ==== Kernel.lean ====
abbrev S2x16384x1024 : Shape := ⟨3, ![2, 16384, 1024]⟩
abbrev S2x256x1024 : Shape := ⟨3, ![2, 256, 1024]⟩
abbrev S4x64 : Shape := ⟨2, ![4, 64]⟩
abbrev S128 : Shape := ⟨1, ![128]⟩
abbrev S2x16640x1024 : Shape := ⟨3, ![2, 16640, 1024]⟩
abbrev S_ : Shape := ⟨0, ![]⟩
abbrev S128x1 : Shape := ⟨2, ![128, 1]⟩
abbrev S1x1024x128 : Shape := ⟨3, ![1, 1024, 128]⟩
abbrev S1x16640x128 : Shape := ⟨3, ![1, 16640, 128]⟩
abbrev S128x16640 : Shape := ⟨2, ![128, 16640]⟩
abbrev S128x2048 : Shape := ⟨2, ![128, 2048]⟩
abbrev S1x2048 : Shape := ⟨2, ![1, 2048]⟩
abbrev S144x2048 : Shape := ⟨2, ![144, 2048]⟩
abbrev S4352x2048 : Shape := ⟨2, ![4352, 2048]⟩
abbrev S1x256x128 : Shape := ⟨3, ![1, 256, 128]⟩
abbrev S256x128 : Shape := ⟨2, ![256, 128]⟩
abbrev S128x256 : Shape := ⟨2, ![128, 256]⟩
abbrev S1024x128 : Shape := ⟨2, ![1024, 128]⟩
abbrev S128x1024 : Shape := ⟨2, ![128, 1024]⟩
abbrev S1x2048x128 : Shape := ⟨3, ![1, 2048, 128]⟩
abbrev S2048x128 : Shape := ⟨2, ![2048, 128]⟩
abbrev S2048x2048 : Shape := ⟨2, ![2048, 2048]⟩
abbrev S16x2048 : Shape := ⟨2, ![16, 2048]⟩
abbrev S128x4096 : Shape := ⟨2, ![128, 4096]⟩
abbrev S16x4096 : Shape := ⟨2, ![16, 4096]⟩
abbrev S144x4096 : Shape := ⟨2, ![144, 4096]⟩
abbrev S4096x2048 : Shape := ⟨2, ![4096, 2048]⟩
abbrev S2048 : Shape := ⟨1, ![2048]⟩
abbrev S256x2048 : Shape := ⟨2, ![256, 2048]⟩
abbrev S128x4352 : Shape := ⟨2, ![128, 4352]⟩
abbrev S16x4352 : Shape := ⟨2, ![16, 4352]⟩
abbrev S144x4352 : Shape := ⟨2, ![144, 4352]⟩
abbrev S1x1x2048 : Shape := ⟨3, ![1, 1, 2048]⟩
abbrev S1 : Shape := ⟨1, ![1]⟩
abbrev S1x1x1 : Shape := ⟨3, ![1, 1, 1]⟩
abbrev S16x256 : Shape := ⟨2, ![16, 256]⟩
abbrev S144x256 : Shape := ⟨2, ![144, 256]⟩
abbrev S1x64 : Shape := ⟨2, ![1, 64]⟩
abbrev S1x1 : Shape := ⟨2, ![1, 1]⟩
abbrev S1x1024 : Shape := ⟨2, ![1, 1024]⟩
abbrev S1024 : Shape := ⟨1, ![1024]⟩

abbrev nBuf : Space → Nat
  | .hbm => 24
  | .vmem => 16
  | .smem => 0
  | _ => 0

abbrev bufTy : (tb : Table) → Fin (tcTables nBuf tb) → BufTy
  | .hbm, ⟨0, _⟩ => ⟨S2x16384x1024, .f32⟩
  | .hbm, ⟨1, _⟩ => ⟨S2x16384x1024, .f32⟩
  | .hbm, ⟨2, _⟩ => ⟨S2x16384x1024, .f32⟩
  | .hbm, ⟨3, _⟩ => ⟨S2x256x1024, .f32⟩
  | .hbm, ⟨4, _⟩ => ⟨S2x256x1024, .f32⟩
  | .hbm, ⟨5, _⟩ => ⟨S2x256x1024, .f32⟩
  | .hbm, ⟨6, _⟩ => ⟨S4x64, .f32⟩
  | .hbm, ⟨7, _⟩ => ⟨S128, .f32⟩
  | .hbm, ⟨8, _⟩ => ⟨S2x16640x1024, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S2x16640x1024, .f32⟩
  | .hbm, ⟨15, _⟩ => ⟨S2x16640x1024, .f32⟩
  | .hbm, ⟨16, _⟩ => ⟨S2x16640x1024, .bf16⟩
  | .hbm, ⟨17, _⟩ => ⟨S2x16640x1024, .f32⟩
  | .hbm, ⟨18, _⟩ => ⟨S2x16640x1024, .bf16⟩
  | .hbm, ⟨19, _⟩ => ⟨S2x16640x1024, .f32⟩
  | .hbm, ⟨20, _⟩ => ⟨S2x16640x1024, .bf16⟩
  | .hbm, ⟨21, _⟩ => ⟨S128x1, .f32⟩
  | .hbm, ⟨22, _⟩ => ⟨S2x16640x1024, .bf16⟩
  | .hbm, ⟨23, _⟩ => ⟨S2x16384x1024, .bf16⟩
  | .local _ .vmem, ⟨0, _⟩ => ⟨S4x64, .f32⟩
  | .local _ .vmem, ⟨1, _⟩ => ⟨S128x1, .f32⟩
  | .local _ .vmem, ⟨2, _⟩ => ⟨S1x1024x128, .bf16⟩
  | .local _ .vmem, ⟨3, _⟩ => ⟨S1x1024x128, .bf16⟩
  | .local _ .vmem, ⟨4, _⟩ => ⟨S1x16640x128, .bf16⟩
  | .local _ .vmem, ⟨5, _⟩ => ⟨S1x16640x128, .bf16⟩
  | .local _ .vmem, ⟨6, _⟩ => ⟨S1x16640x128, .bf16⟩
  | .local _ .vmem, ⟨7, _⟩ => ⟨S1x16640x128, .bf16⟩
  | .local _ .vmem, ⟨8, _⟩ => ⟨S1x1024x128, .bf16⟩
  | .local _ .vmem, ⟨9, _⟩ => ⟨S1x1024x128, .bf16⟩
  | .local _ .vmem, ⟨10, _⟩ => ⟨S128x16640, .bf16⟩
  | .local _ .vmem, ⟨11, _⟩ => ⟨S128x2048, .bf16⟩
  | .local _ .vmem, ⟨12, _⟩ => ⟨S1x2048, .f32⟩
  | .local _ .vmem, ⟨13, _⟩ => ⟨S144x2048, .f32⟩
  | .local _ .vmem, ⟨14, _⟩ => ⟨S1x2048, .f32⟩
  | .local _ .vmem, ⟨15, _⟩ => ⟨S4352x2048, .bf16⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![2, 8, 16], ![false, false, false]⟩

@[reducible] def k0_t1_loop : Scf.Loop 32 :=
  let c0_i32_15 : BitVec 32 := 0#32
  let c3_i32 : BitVec 32 := 3#32
  let v32 : BitVec 32 := Scalar.addi c0_i32_15 c3_i32
  let c1_i32 : BitVec 32 := 1#32
  ⟨c0_i32_15, v32, c1_i32⟩
def k0_mult1 (k0_t1 : Fin k0_t1_loop.trips) : BitVec 32 :=
  let c0_i32_15 : BitVec 32 := 0#32
  let c1_i32 : BitVec 32 := 1#32
  let arg15 : BitVec 32 := Scf.iv c0_i32_15 c1_i32 k0_t1
  let c4096_i32 : BitVec 32 := 4096#32
  let v713 : BitVec 32 := Scalar.muli arg15 c4096_i32
  v713
def k0_off1 (k0_t1 : Fin k0_t1_loop.trips) (c0_i32_85 : BitVec 32) : Fin 3 → Nat :=
  let c0_86 : Index := 0#32
  let c0_i32_15 : BitVec 32 := 0#32
  let c1_i32 : BitVec 32 := 1#32
  let arg15 : BitVec 32 := Scf.iv c0_i32_15 c1_i32 k0_t1
  let c4096_i32 : BitVec 32 := 4096#32
  let v713 : BitVec 32 := Scalar.muli arg15 c4096_i32
  let v714 : BitVec 32 := v713
  let v716 : BitVec 32 := Scalar.addi v714 c0_i32_85
  let v717 : Index := Scalar.indexCast v716
  let c0_87 : Index := 0#32
  ![0, v717.toNat, 0]
def k0_off2 (k0_t1 : Fin k0_t1_loop.trips) : Fin 2 → Nat :=
  let c0_102 : Index := 0#32
  let c0_i32_15 : BitVec 32 := 0#32
  let c1_i32 : BitVec 32 := 1#32
  let arg15 : BitVec 32 := Scf.iv c0_i32_15 c1_i32 k0_t1
  let c4096_i32 : BitVec 32 := 4096#32
  let v713 : BitVec 32 := Scalar.muli arg15 c4096_i32
  let v714 : BitVec 32 := v713
  let v1254 : Index := Scalar.indexCast v714
  ![0, v1254.toNat]
@[reducible] def k0_t2_loop : Scf.Loop 32 :=
  let c0_i32_89 : BitVec 32 := 0#32
  let c65_i32 : BitVec 32 := 65#32
  let v721 : BitVec 32 := Scalar.addi c0_i32_89 c65_i32
  let c1_i32_90 : BitVec 32 := 1#32
  ⟨c0_i32_89, v721, c1_i32_90⟩
def k0_mult2 (k0_t2 : Fin k0_t2_loop.trips) : BitVec 32 :=
  let c0_i32_89 : BitVec 32 := 0#32
  let c1_i32_90 : BitVec 32 := 1#32
  let arg15 : BitVec 32 := Scf.iv c0_i32_89 c1_i32_90 k0_t2
  let c256_i32 : BitVec 32 := 256#32
  let v722 : BitVec 32 := Scalar.muli arg15 c256_i32
  v722
def k0_off3 (k0_t2 : Fin k0_t2_loop.trips) : Fin 3 → Nat :=
  let c0_94 : Index := 0#32
  let c0_i32_89 : BitVec 32 := 0#32
  let c1_i32_90 : BitVec 32 := 1#32
  let arg15 : BitVec 32 := Scf.iv c0_i32_89 c1_i32_90 k0_t2
  let c256_i32 : BitVec 32 := 256#32
  let v722 : BitVec 32 := Scalar.muli arg15 c256_i32
  let v723 : BitVec 32 := v722
  let v725 : Index := Scalar.indexCast v723
  let c0_95 : Index := 0#32
  ![0, v725.toNat, 0]
def k0_off4 (k0_t2 : Fin k0_t2_loop.trips) : Fin 2 → Nat :=
  let c0_96 : Index := 0#32
  let c0_i32_89 : BitVec 32 := 0#32
  let c1_i32_90 : BitVec 32 := 1#32
  let arg15 : BitVec 32 := Scf.iv c0_i32_89 c1_i32_90 k0_t2
  let c256_i32 : BitVec 32 := 256#32
  let v722 : BitVec 32 := Scalar.muli arg15 c256_i32
  let v723 : BitVec 32 := v722
  let v728 : Index := Scalar.indexCast v723
  ![0, v728.toNat]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .vmem S4x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .vmem S128x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x16640x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x16640x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceIdeal.lean ====
abbrev S2x16384x1024 : Shape := ⟨3, ![2, 16384, 1024]⟩
abbrev S2x256x1024 : Shape := ⟨3, ![2, 256, 1024]⟩
abbrev S4x64 : Shape := ⟨2, ![4, 64]⟩
abbrev S128 : Shape := ⟨1, ![128]⟩
abbrev S1x64 : Shape := ⟨2, ![1, 64]⟩
abbrev S64 : Shape := ⟨1, ![64]⟩
abbrev S_ : Shape := ⟨0, ![]⟩
abbrev S2x16384x8x2x64 : Shape := ⟨5, ![2, 16384, 8, 2, 64]⟩
abbrev S2x256x8x2x64 : Shape := ⟨5, ![2, 256, 8, 2, 64]⟩
abbrev S2x16640x8x2x64 : Shape := ⟨5, ![2, 16640, 8, 2, 64]⟩
abbrev S2x256x8x128 : Shape := ⟨4, ![2, 256, 8, 128]⟩
abbrev S2x16384x8x128 : Shape := ⟨4, ![2, 16384, 8, 128]⟩
abbrev S2x16640x8x128 : Shape := ⟨4, ![2, 16640, 8, 128]⟩
abbrev S2x8x2x16384x16640 : Shape := ⟨5, ![2, 8, 2, 16384, 16640]⟩
abbrev S2x8x2x16384 : Shape := ⟨4, ![2, 8, 2, 16384]⟩
abbrev S2x8x2x16384x1 : Shape := ⟨5, ![2, 8, 2, 16384, 1]⟩
abbrev S2x8x1x16384x16640 : Shape := ⟨5, ![2, 8, 1, 16384, 16640]⟩
abbrev S2x8x16384x16640 : Shape := ⟨4, ![2, 8, 16384, 16640]⟩
abbrev S2x8x128x16384 : Shape := ⟨4, ![2, 8, 128, 16384]⟩
abbrev S2x16384x8 : Shape := ⟨3, ![2, 16384, 8]⟩
abbrev S2x16384x8x1 : Shape := ⟨4, ![2, 16384, 8, 1]⟩
abbrev S1x1x1x128 : Shape := ⟨4, ![1, 1, 1, 128]⟩

abbrev nBuf : Space → Nat
  | .hbm => 82
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S2x16384x1024, .f32⟩
  | .hbm, ⟨2, _⟩ => ⟨S2x16384x1024, .f32⟩
  | .hbm, ⟨3, _⟩ => ⟨S2x256x1024, .f32⟩
  | .hbm, ⟨4, _⟩ => ⟨S2x256x1024, .f32⟩
  | .hbm, ⟨5, _⟩ => ⟨S2x256x1024, .f32⟩
  | .hbm, ⟨6, _⟩ => ⟨S4x64, .f32⟩
  | .hbm, ⟨7, _⟩ => ⟨S128, .f32⟩
  | .hbm, ⟨8, _⟩ => ⟨S1x64, .f32⟩
  | .hbm, ⟨9, _⟩ => ⟨S64, .f32⟩
  | .hbm, ⟨10, _⟩ => ⟨S1x64, .f32⟩
  | .hbm, ⟨11, _⟩ => ⟨S64, .f32⟩
  | .hbm, ⟨12, _⟩ => ⟨S64, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S1x64, .f32⟩
  | .hbm, ⟨17, _⟩ => ⟨S64, .f32⟩
  | .hbm, ⟨18, _⟩ => ⟨S1x64, .f32⟩
  | .hbm, ⟨19, _⟩ => ⟨S64, .f32⟩
  | .hbm, ⟨20, _⟩ => ⟨S64, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S2x16384x8x2x64, .f32⟩
  | .hbm, ⟨28, _⟩ => ⟨S2x256x8x2x64, .f32⟩
  | .hbm, ⟨29, _⟩ => ⟨S2x16384x8x2x64, .f32⟩
  | .hbm, ⟨30, _⟩ => ⟨S2x16640x8x2x64, .f32⟩
  | .hbm, ⟨31, _⟩ => ⟨S2x256x8x128, .f32⟩
  | .hbm, ⟨32, _⟩ => ⟨S2x16384x8x128, .f32⟩
  | .hbm, ⟨33, _⟩ => ⟨S2x16640x8x128, .f32⟩
  | .hbm, ⟨34, _⟩ => ⟨S2x8x2x16384x16640, .f32⟩
  | .hbm, ⟨35, _⟩ => ⟨S_, .f32⟩
  | .hbm, ⟨36, _⟩ => ⟨S2x8x2x16384x16640, .f32⟩
  | .hbm, ⟨37, _⟩ => ⟨S2x8x2x16384x16640, .f32⟩
  | .hbm, ⟨38, _⟩ => ⟨S_, .f32⟩
  | .hbm, ⟨39, _⟩ => ⟨S2x8x2x16384, .f32⟩
  | .hbm, ⟨40, _⟩ => ⟨S_, .f32⟩
  | .hbm, ⟨41, _⟩ => ⟨S2x8x2x16384, .f32⟩
  | .hbm, ⟨42, _⟩ => ⟨S2x8x2x16384, .f32⟩
  | .hbm, ⟨43, _⟩ => ⟨S2x8x2x16384x1, .f32⟩
  | .hbm, ⟨44, _⟩ => ⟨S2x8x2x16384x16640, .f32⟩
  | .hbm, ⟨45, _⟩ => ⟨S2x8x2x16384x16640, .f32⟩
  | .hbm, ⟨46, _⟩ => ⟨S2x8x2x16384x16640, .f32⟩
  | .hbm, ⟨47, _⟩ => ⟨S_, .f32⟩
  | .hbm, ⟨48, _⟩ => ⟨S2x8x2x16384, .f32⟩
  | .hbm, ⟨49, _⟩ => ⟨S2x8x2x16384x1, .f32⟩
  | .hbm, ⟨50, _⟩ => ⟨S2x8x2x16384x16640, .f32⟩
  | .hbm, ⟨51, _⟩ => ⟨S2x8x2x16384x16640, .f32⟩
  | .hbm, ⟨52, _⟩ => ⟨S2x8x1x16384x16640, .f32⟩
  | .hbm, ⟨53, _⟩ => ⟨S2x8x16384x16640, .f32⟩
  | .hbm, ⟨54, _⟩ => ⟨S2x8x1x16384x16640, .f32⟩
  | .hbm, ⟨55, _⟩ => ⟨S2x8x16384x16640, .f32⟩
  | .hbm, ⟨56, _⟩ => ⟨S2x8x16384x16640, .f32⟩
  | .hbm, ⟨57, _⟩ => ⟨S2x8x16384x16640, .f32⟩
  | .hbm, ⟨58, _⟩ => ⟨S2x8x16384x16640, .f32⟩
  | .hbm, ⟨59, _⟩ => ⟨S2x8x128x16384, .f32⟩
  | .hbm, ⟨60, _⟩ => ⟨S2x16384x8x128, .f32⟩
  | .hbm, ⟨61, _⟩ => ⟨S2x16384x8x128, .f32⟩
  | .hbm, ⟨62, _⟩ => ⟨S_, .f32⟩
  | .hbm, ⟨63, _⟩ => ⟨S2x16384x8, .f32⟩
  | .hbm, ⟨64, _⟩ => ⟨S2x16384x8x1, .f32⟩
  | .hbm, ⟨65, _⟩ => ⟨S_, .f32⟩
  | .hbm, ⟨66, _⟩ => ⟨S2x16384x8x1, .f32⟩
  | .hbm, ⟨67, _⟩ => ⟨S2x16384x8x1, .f32⟩
  | .hbm, ⟨68, _⟩ => ⟨S_, .f32⟩
  | .hbm, ⟨69, _⟩ => ⟨S2x16384x8x1, .f32⟩
  | .hbm, ⟨70, _⟩ => ⟨S2x16384x8x1, .f32⟩
  | .hbm, ⟨71, _⟩ => ⟨S2x16384x8x1, .f32⟩
  | .hbm, ⟨72, _⟩ => ⟨S2x16384x8x128, .f32⟩
  | .hbm, ⟨73, _⟩ => ⟨S2x16384x8x128, .f32⟩
  | .hbm, ⟨74, _⟩ => ⟨S1x1x1x128, .f32⟩
  | .hbm, ⟨75, _⟩ => ⟨S2x16384x8x128, .f32⟩
  | .hbm, ⟨76, _⟩ => ⟨S2x16384x8x128, .f32⟩
  | .hbm, ⟨77, _⟩ => ⟨S_, .f32⟩
  | .hbm, ⟨78, _⟩ => ⟨S2x16384x8x128, .f32⟩
  | .hbm, ⟨79, _⟩ => ⟨S2x16384x8x128, .f32⟩
  | .hbm, ⟨80, _⟩ => ⟨S2x16384x1024, .f32⟩
  | .hbm, ⟨81, _⟩ => ⟨S2x16384x1024, .bf16⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_2 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_cst_4 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_5 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_6 : Ref sig .tc := ⟨.hbm, 62, rfl⟩
abbrev main_v47 : Ref sig .tc := ⟨.hbm, 63, rfl⟩
abbrev main_v48 : Ref sig .tc := ⟨.hbm, 64, rfl⟩
abbrev main_cst_7 : Ref sig .tc := ⟨.hbm, 65, rfl⟩
abbrev main_v49 : Ref sig .tc := ⟨.hbm, 66, rfl⟩
abbrev main_v50 : Ref sig .tc := ⟨.hbm, 67, rfl⟩
abbrev main_cst_8 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_cst_9 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩

abbrev nD : Nat := 1
abbrev τ : Topo := Topo.v7x

variable {F : FTy → Type} [FloatOps F]
-- ==== Kernel2.lean ====
abbrev S276 : Shape := ⟨1, ![276]⟩
abbrev S1 : Shape := ⟨1, ![1]⟩
abbrev S70656x1024 : Shape := ⟨2, ![70656, 1024]⟩
abbrev S16x1024x512 : Shape := ⟨3, ![16, 1024, 512]⟩
abbrev S16x512x1024 : Shape := ⟨3, ![16, 512, 1024]⟩
abbrev S256x1024 : Shape := ⟨2, ![256, 1024]⟩
abbrev S1x1024x512 : Shape := ⟨3, ![1, 1024, 512]⟩
abbrev S1x512x1024 : Shape := ⟨3, ![1, 512, 1024]⟩
abbrev S1024x512 : Shape := ⟨2, ![1024, 512]⟩
abbrev S256x512 : Shape := ⟨2, ![256, 512]⟩
abbrev S512x1024 : Shape := ⟨2, ![512, 1024]⟩

abbrev nBuf : Space → Nat
  | .hbm => 5
  | .vmem => 10
  | .smem => 2
  | _ => 0

abbrev bufTy : (tb : Table) → Fin (tcTables nBuf tb) → BufTy
  | .hbm, ⟨0, _⟩ => ⟨S70656x1024, .f32⟩
  | .hbm, ⟨1, _⟩ => ⟨S16x1024x512, .f32⟩
  | .hbm, ⟨2, _⟩ => ⟨S16x1024x512, .f32⟩
  | .hbm, ⟨3, _⟩ => ⟨S16x512x1024, .f32⟩
  | .hbm, ⟨4, _⟩ => ⟨S70656x1024, .f32⟩
  | .local _ .vmem, ⟨0, _⟩ => ⟨S256x1024, .f32⟩
  | .local _ .vmem, ⟨1, _⟩ => ⟨S256x1024, .f32⟩
  | .local _ .vmem, ⟨2, _⟩ => ⟨S1x1024x512, .f32⟩
  | .local _ .vmem, ⟨3, _⟩ => ⟨S1x1024x512, .f32⟩
  | .local _ .vmem, ⟨4, _⟩ => ⟨S1x1024x512, .f32⟩
  | .local _ .vmem, ⟨5, _⟩ => ⟨S1x1024x512, .f32⟩
  | .local _ .vmem, ⟨6, _⟩ => ⟨S1x512x1024, .f32⟩
  | .local _ .vmem, ⟨7, _⟩ => ⟨S1x512x1024, .f32⟩
  | .local _ .vmem, ⟨8, _⟩ => ⟨S256x1024, .f32⟩
  | .local _ .vmem, ⟨9, _⟩ => ⟨S256x1024, .f32⟩
  | .local _ .smem, ⟨0, _⟩ => ⟨S276, .i32⟩
  | .local _ .smem, ⟨1, _⟩ => ⟨S1, .i32⟩
  | _, _ => ⟨S70656x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![276], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S276.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S276) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S276.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S276) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S276.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S276) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference2Ideal.lean ====
abbrev S276 : Shape := ⟨1, ![276]⟩
abbrev S1 : Shape := ⟨1, ![1]⟩
abbrev S70656x1024 : Shape := ⟨2, ![70656, 1024]⟩
abbrev S16x1024x512 : Shape := ⟨3, ![16, 1024, 512]⟩
abbrev S16x512x1024 : Shape := ⟨3, ![16, 512, 1024]⟩
abbrev S70656x16x512 : Shape := ⟨3, ![70656, 16, 512]⟩
abbrev S_ : Shape := ⟨0, ![]⟩
abbrev S16x1024x70656 : Shape := ⟨3, ![16, 1024, 70656]⟩
abbrev S70656x16x1024 : Shape := ⟨3, ![70656, 16, 1024]⟩
abbrev S276x1 : Shape := ⟨2, ![276, 1]⟩
abbrev S16 : Shape := ⟨1, ![16]⟩
abbrev S1x16 : Shape := ⟨2, ![1, 16]⟩
abbrev S276x16 : Shape := ⟨2, ![276, 16]⟩
abbrev S276x1x16 : Shape := ⟨3, ![276, 1, 16]⟩
abbrev S276x256x16 : Shape := ⟨3, ![276, 256, 16]⟩
abbrev S70656x16 : Shape := ⟨2, ![70656, 16]⟩
abbrev S70656x16x1 : Shape := ⟨3, ![70656, 16, 1]⟩

abbrev nBuf : Space → Nat
  | .hbm => 44
  | .vmem => 0
  | .smem => 0
  | _ => 0

abbrev bufTy : (tb : Table) → Fin (tcTables nBuf tb) → BufTy
  | .hbm, ⟨0, _⟩ => ⟨S276, .i32⟩
  | .hbm, ⟨1, _⟩ => ⟨S1, .i32⟩
  | .hbm, ⟨2, _⟩ => ⟨S70656x1024, .f32⟩
  | .hbm, ⟨3, _⟩ => ⟨S16x1024x512, .f32⟩
  | .hbm, ⟨4, _⟩ => ⟨S16x1024x512, .f32⟩
  | .hbm, ⟨5, _⟩ => ⟨S16x512x1024, .f32⟩
  | .hbm, ⟨6, _⟩ => ⟨S70656x16x512, .f32⟩
  | .hbm, ⟨7, _⟩ => ⟨S70656x16x512, .f32⟩
  | .hbm, ⟨8, _⟩ => ⟨S70656x16x512, .f32⟩
  | .hbm, ⟨9, _⟩ => ⟨S70656x16x512, .f32⟩
  | .hbm, ⟨10, _⟩ => ⟨S_, .f32⟩
  | .hbm, ⟨11, _⟩ => ⟨S70656x16x512, .f32⟩
  | .hbm, ⟨12, _⟩ => ⟨S70656x16x512, .f32⟩
  | .hbm, ⟨13, _⟩ => ⟨S_, .f32⟩
  | .hbm, ⟨14, _⟩ => ⟨S70656x16x512, .f32⟩
  | .hbm, ⟨15, _⟩ => ⟨S70656x16x512, .f32⟩
  | .hbm, ⟨16, _⟩ => ⟨S70656x16x512, .f32⟩
  | .hbm, ⟨17, _⟩ => ⟨S70656x16x512, .f32⟩
  | .hbm, ⟨18, _⟩ => ⟨S16x1024x70656, .f32⟩
  | .hbm, ⟨19, _⟩ => ⟨S70656x16x1024, .f32⟩
  | .hbm, ⟨20, _⟩ => ⟨S276, .i32⟩
  | .hbm, ⟨21, _⟩ => ⟨S276x1, .i32⟩
  | .hbm, ⟨22, _⟩ => ⟨S16, .i32⟩
  | .hbm, ⟨23, _⟩ => ⟨S1x16, .i32⟩
  | .hbm, ⟨24, _⟩ => ⟨S276x16, .i32⟩
  | .hbm, ⟨25, _⟩ => ⟨S276x16, .i32⟩
  | .hbm, ⟨26, _⟩ => ⟨S276x16, .i1⟩
  | .hbm, ⟨27, _⟩ => ⟨S_, .i32⟩
  | .hbm, ⟨28, _⟩ => ⟨S276, .i32⟩
  | .hbm, ⟨29, _⟩ => ⟨S276, .i1⟩
  | .hbm, ⟨30, _⟩ => ⟨S276x1, .i1⟩
  | .hbm, ⟨31, _⟩ => ⟨S276x16, .i1⟩
  | .hbm, ⟨32, _⟩ => ⟨S276x16, .i1⟩
  | .hbm, ⟨33, _⟩ => ⟨S276x1x16, .i1⟩
  | .hbm, ⟨34, _⟩ => ⟨S276x256x16, .i1⟩
  | .hbm, ⟨35, _⟩ => ⟨S70656x16, .i1⟩
  | .hbm, ⟨36, _⟩ => ⟨S70656x16x1, .i1⟩
  | .hbm, ⟨37, _⟩ => ⟨S_, .f32⟩
  | .hbm, ⟨38, _⟩ => ⟨S_, .f32⟩
  | .hbm, ⟨39, _⟩ => ⟨S70656x16x1024, .i1⟩
  | .hbm, ⟨40, _⟩ => ⟨S70656x16x1024, .f32⟩
  | .hbm, ⟨41, _⟩ => ⟨S70656x16x1024, .f32⟩
  | .hbm, ⟨42, _⟩ => ⟨S_, .f32⟩
  | .hbm, ⟨43, _⟩ => ⟨S70656x1024, .f32⟩
  | _, _ => ⟨S276, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_v23 : Ref sig .tc := ⟨.hbm, 41, rfl⟩
abbrev main_cst_0 : Ref sig .tc := ⟨.hbm, 42, rfl⟩
abbrev main_v24 : Ref sig .tc := ⟨.hbm, 43, rfl⟩

abbrev nD : Nat := 1
abbrev τ : Topo := Topo.v7x

variable {F : FTy → Type} [FloatOps F]
-- ==== Kernel3.lean ====
abbrev S2x16384x1024 : Shape := ⟨3, ![2, 16384, 1024]⟩
abbrev S2x256x1024 : Shape := ⟨3, ![2, 256, 1024]⟩
abbrev S8x6144 : Shape := ⟨2, ![8, 6144]⟩
abbrev S1024 : Shape := ⟨1, ![1024]⟩
abbrev S2x16640x1024 : Shape := ⟨3, ![2, 16640, 1024]⟩
abbrev S8x6x1024 : Shape := ⟨3, ![8, 6, 1024]⟩
abbrev S1x1024 : Shape := ⟨2, ![1, 1024]⟩
abbrev S1x256x1024 : Shape := ⟨3, ![1, 256, 1024]⟩
abbrev S1x6x1024 : Shape := ⟨3, ![1, 6, 1024]⟩
abbrev S256x1024 : Shape := ⟨2, ![256, 1024]⟩
abbrev S6x1024 : Shape := ⟨2, ![6, 1024]⟩
abbrev S256 : Shape := ⟨1, ![256]⟩
abbrev S256x1 : Shape := ⟨2, ![256, 1]⟩

abbrev nBuf : Space → Nat
  | .hbm => 11
  | .vmem => 9
  | .smem => 0
  | _ => 0

abbrev bufTy : (tb : Table) → Fin (tcTables nBuf tb) → BufTy
  | .hbm, ⟨0, _⟩ => ⟨S2x16384x1024, .f32⟩
  | .hbm, ⟨1, _⟩ => ⟨S2x256x1024, .f32⟩
  | .hbm, ⟨2, _⟩ => ⟨S2x16384x1024, .f32⟩
  | .hbm, ⟨3, _⟩ => ⟨S2x256x1024, .f32⟩
  | .hbm, ⟨4, _⟩ => ⟨S8x6144, .f32⟩
  | .hbm, ⟨5, _⟩ => ⟨S1024, .f32⟩
  | .hbm, ⟨6, _⟩ => ⟨S2x16640x1024, .f32⟩
  | .hbm, ⟨7, _⟩ => ⟨S2x16640x1024, .f32⟩
  | .hbm, ⟨8, _⟩ => ⟨S8x6x1024, .f32⟩
  | .hbm, ⟨9, _⟩ => ⟨S1x1024, .f32⟩
  | .hbm, ⟨10, _⟩ => ⟨S2x16384x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x6x1024, .f32⟩
  | .local _ .vmem, ⟨5, _⟩ => ⟨S1x6x1024, .f32⟩
  | .local _ .vmem, ⟨6, _⟩ => ⟨S1x1024, .f32⟩
  | .local _ .vmem, ⟨7, _⟩ => ⟨S1x256x1024, .f32⟩
  | .local _ .vmem, ⟨8, _⟩ => ⟨S1x256x1024, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 64], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x6x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference3Ideal.lean ====
abbrev S2x16384x1024 : Shape := ⟨3, ![2, 16384, 1024]⟩
abbrev S2x256x1024 : Shape := ⟨3, ![2, 256, 1024]⟩
abbrev S8x6144 : Shape := ⟨2, ![8, 6144]⟩
abbrev S1024 : Shape := ⟨1, ![1024]⟩
abbrev S2x6144 : Shape := ⟨2, ![2, 6144]⟩
abbrev S2x1024 : Shape := ⟨2, ![2, 1024]⟩
abbrev S2x1x1024 : Shape := ⟨3, ![2, 1, 1024]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩

abbrev nBuf : Space → Nat
  | .hbm => 33
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S2x256x1024, .f32⟩
  | .hbm, ⟨2, _⟩ => ⟨S2x16384x1024, .f32⟩
  | .hbm, ⟨3, _⟩ => ⟨S2x256x1024, .f32⟩
  | .hbm, ⟨4, _⟩ => ⟨S8x6144, .f32⟩
  | .hbm, ⟨5, _⟩ => ⟨S1024, .f32⟩
  | .hbm, ⟨6, _⟩ => ⟨S2x6144, .f32⟩
  | .hbm, ⟨7, _⟩ => ⟨S2x1024, .f32⟩
  | .hbm, ⟨8, _⟩ => ⟨S2x1024, .f32⟩
  | .hbm, ⟨9, _⟩ => ⟨S2x1024, .f32⟩
  | .hbm, ⟨10, _⟩ => ⟨S2x1024, .f32⟩
  | .hbm, ⟨11, _⟩ => ⟨S2x1024, .f32⟩
  | .hbm, ⟨12, _⟩ => ⟨S2x1024, .f32⟩
  | .hbm, ⟨13, _⟩ => ⟨S2x1x1024, .f32⟩
  | .hbm, ⟨14, _⟩ => ⟨S2x16384x1024, .f32⟩
  | .hbm, ⟨15, _⟩ => ⟨S2x16384x1024, .f32⟩
  | .hbm, ⟨16, _⟩ => ⟨S2x16384x1024, .f32⟩
  | .hbm, ⟨17, _⟩ => ⟨S2x16384x1024, .f32⟩
  | .hbm, ⟨18, _⟩ => ⟨S_, .f32⟩
  | .hbm, ⟨19, _⟩ => ⟨S2x16384, .f32⟩
  | .hbm, ⟨20, _⟩ => ⟨S2x16384x1, .f32⟩
  | .hbm, ⟨21, _⟩ => ⟨S_, .f32⟩
  | .hbm, ⟨22, _⟩ => ⟨S2x16384x1, .f32⟩
  | .hbm, ⟨23, _⟩ => ⟨S2x16384x1, .f32⟩
  | .hbm, ⟨24, _⟩ => ⟨S_, .f32⟩
  | .hbm, ⟨25, _⟩ => ⟨S2x16384x1, .f32⟩
  | .hbm, ⟨26, _⟩ => ⟨S2x16384x1, .f32⟩
  | .hbm, ⟨27, _⟩ => ⟨S2x16384x1, .f32⟩
  | .hbm, ⟨28, _⟩ => ⟨S2x16384x1024, .f32⟩
  | .hbm, ⟨29, _⟩ => ⟨S2x16384x1024, .f32⟩
  | .hbm, ⟨30, _⟩ => ⟨S1x1x1024, .f32⟩
  | .hbm, ⟨31, _⟩ => ⟨S2x16384x1024, .f32⟩
  | .hbm, ⟨32, _⟩ => ⟨S2x16384x1024, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== Kernel4.lean ====
abbrev S2x16384x1024 : Shape := ⟨3, ![2, 16384, 1024]⟩
abbrev S2x256x1024 : Shape := ⟨3, ![2, 256, 1024]⟩
abbrev S8x6144 : Shape := ⟨2, ![8, 6144]⟩
abbrev S1024 : Shape := ⟨1, ![1024]⟩
abbrev S1024x3584 : Shape := ⟨2, ![1024, 3584]⟩
abbrev S16384x128 : Shape := ⟨2, ![16384, 128]⟩
abbrev S_ : Shape := ⟨0, ![]⟩
abbrev S256x128 : Shape := ⟨2, ![256, 128]⟩
abbrev S16640x128 : Shape := ⟨2, ![16640, 128]⟩
abbrev S2x16640x1024 : Shape := ⟨3, ![2, 16640, 1024]⟩
abbrev S8x6x1024 : Shape := ⟨3, ![8, 6, 1024]⟩
abbrev S1x1024 : Shape := ⟨2, ![1, 1024]⟩
abbrev S2x16640x512 : Shape := ⟨3, ![2, 16640, 512]⟩
abbrev S1x256x1024 : Shape := ⟨3, ![1, 256, 1024]⟩
abbrev S1x6x1024 : Shape := ⟨3, ![1, 6, 1024]⟩
abbrev S1x256x512 : Shape := ⟨3, ![1, 256, 512]⟩
abbrev S256x1024 : Shape := ⟨2, ![256, 1024]⟩
abbrev S6x1024 : Shape := ⟨2, ![6, 1024]⟩
abbrev S256 : Shape := ⟨1, ![256]⟩
abbrev S256x1 : Shape := ⟨2, ![256, 1]⟩
abbrev S1024x256 : Shape := ⟨2, ![1024, 256]⟩
abbrev S256x256 : Shape := ⟨2, ![256, 256]⟩
abbrev S1x256x128 : Shape := ⟨3, ![1, 256, 128]⟩
abbrev S1x256x256 : Shape := ⟨3, ![1, 256, 256]⟩

abbrev nBuf : Space → Nat
  | .hbm => 62
  | .vmem => 18
  | .smem => 0
  | _ => 0

abbrev bufTy : (tb : Table) → Fin (tcTables nBuf tb) → BufTy
  | .hbm, ⟨0, _⟩ => ⟨S2x16384x1024, .f32⟩
  | .hbm, ⟨1, _⟩ => ⟨S2x256x1024, .f32⟩
  | .hbm, ⟨2, _⟩ => ⟨S8x6144, .f32⟩
  | .hbm, ⟨3, _⟩ => ⟨S1024, .f32⟩
  | .hbm, ⟨4, _⟩ => ⟨S1024x3584, .f32⟩
  | .hbm, ⟨5, _⟩ => ⟨S16384x128, .i32⟩
  | .hbm, ⟨6, _⟩ => ⟨S16384x128, .i32⟩
  | .hbm, ⟨7, _⟩ => ⟨S_, .i32⟩
  | .hbm, ⟨8, _⟩ => ⟨S16384x128, .i32⟩
  | .hbm, ⟨9, _⟩ => ⟨S16384x128, .i32⟩
  | .hbm, ⟨10, _⟩ => ⟨S_, .i32⟩
  | .hbm, ⟨11, _⟩ => ⟨S16384x128, .i32⟩
  | .hbm, ⟨12, _⟩ => ⟨S16384x128, .i1⟩
  | .hbm, ⟨13, _⟩ => ⟨S_, .i32⟩
  | .hbm, ⟨14, _⟩ => ⟨S16384x128, .i32⟩
  | .hbm, ⟨15, _⟩ => ⟨S16384x128, .i32⟩
  | .hbm, ⟨16, _⟩ => ⟨S_, .i32⟩
  | .hbm, ⟨17, _⟩ => ⟨S16384x128, .i32⟩
  | .hbm, ⟨18, _⟩ => ⟨S16384x128, .i32⟩
  | .hbm, ⟨19, _⟩ => ⟨S16384x128, .i32⟩
  | .hbm, ⟨20, _⟩ => ⟨S16384x128, .f32⟩
  | .hbm, ⟨21, _⟩ => ⟨S_, .i32⟩
  | .hbm, ⟨22, _⟩ => ⟨S16384x128, .i32⟩
  | .hbm, ⟨23, _⟩ => ⟨S16384x128, .i32⟩
  | .hbm, ⟨24, _⟩ => ⟨S16384x128, .f32⟩
  | .hbm, ⟨25, _⟩ => ⟨S16384x128, .f32⟩
  | .hbm, ⟨26, _⟩ => ⟨S_, .f32⟩
  | .hbm, ⟨27, _⟩ => ⟨S16384x128, .f32⟩
  | .hbm, ⟨28, _⟩ => ⟨S16384x128, .f32⟩
  | .hbm, ⟨29, _⟩ => ⟨S_, .f32⟩
  | .hbm, ⟨30, _⟩ => ⟨S16384x128, .f32⟩
  | .hbm, ⟨31, _⟩ => ⟨S16384x128, .f32⟩
  | .hbm, ⟨32, _⟩ => ⟨S16384x128, .f32⟩
  | .hbm, ⟨33, _⟩ => ⟨S_, .i32⟩
  | .hbm, ⟨34, _⟩ => ⟨S16384x128, .i32⟩
  | .hbm, ⟨35, _⟩ => ⟨S16384x128, .i32⟩
  | .hbm, ⟨36, _⟩ => ⟨S_, .i32⟩
  | .hbm, ⟨37, _⟩ => ⟨S16384x128, .i32⟩
  | .hbm, ⟨38, _⟩ => ⟨S16384x128, .i1⟩
  | .hbm, ⟨39, _⟩ => ⟨S_, .f32⟩
  | .hbm, ⟨40, _⟩ => ⟨S_, .f32⟩
  | .hbm, ⟨41, _⟩ => ⟨S16384x128, .f32⟩
  | .hbm, ⟨42, _⟩ => ⟨S16384x128, .f32⟩
  | .hbm, ⟨43, _⟩ => ⟨S16384x128, .f32⟩
  | .hbm, ⟨44, _⟩ => ⟨S16384x128, .f32⟩
  | .hbm, ⟨45, _⟩ => ⟨S_, .f32⟩
  | .hbm, ⟨46, _⟩ => ⟨S256x128, .f32⟩
  | .hbm, ⟨47, _⟩ => ⟨S16640x128, .f32⟩
  | .hbm, ⟨48, _⟩ => ⟨S16384x128, .f32⟩
  | .hbm, ⟨49, _⟩ => ⟨S16384x128, .f32⟩
  | .hbm, ⟨50, _⟩ => ⟨S16384x128, .f32⟩
  | .hbm, ⟨51, _⟩ => ⟨S_, .f32⟩
  | .hbm, ⟨52, _⟩ => ⟨S256x128, .f32⟩
  | .hbm, ⟨53, _⟩ => ⟨S16640x128, .f32⟩
  | .hbm, ⟨54, _⟩ => ⟨S2x16640x1024, .f32⟩
  | .hbm, ⟨55, _⟩ => ⟨S8x6x1024, .f32⟩
  | .hbm, ⟨56, _⟩ => ⟨S1x1024, .f32⟩
  | .hbm, ⟨57, _⟩ => ⟨S1024x3584, .bf16⟩
  | .hbm, ⟨58, _⟩ => ⟨S2x16640x1024, .bf16⟩
  | .hbm, ⟨59, _⟩ => ⟨S2x16640x1024, .bf16⟩
  | .hbm, ⟨60, _⟩ => ⟨S2x16640x1024, .bf16⟩
  | .hbm, ⟨61, _⟩ => ⟨S2x16640x512, .f32⟩
  | .local _ .vmem, ⟨0, _⟩ => ⟨S1x256x1024, .f32⟩
  | .local _ .vmem, ⟨1, _⟩ => ⟨S1x256x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x3584, .bf16⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S1x256x1024, .bf16⟩
  | .local _ .vmem, ⟨11, _⟩ => ⟨S1x256x1024, .bf16⟩
  | .local _ .vmem, ⟨12, _⟩ => ⟨S1x256x1024, .bf16⟩
  | .local _ .vmem, ⟨13, _⟩ => ⟨S1x256x1024, .bf16⟩
  | .local _ .vmem, ⟨14, _⟩ => ⟨S1x256x1024, .bf16⟩
  | .local _ .vmem, ⟨15, _⟩ => ⟨S1x256x1024, .bf16⟩
  | .local _ .vmem, ⟨16, _⟩ => ⟨S1x256x512, .f32⟩
  | .local _ .vmem, ⟨17, _⟩ => ⟨S1x256x512, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_c_1 : Ref sig .tc := ⟨.hbm, 13, rfl⟩
abbrev main_v6 : Ref sig .tc := ⟨.hbm, 14, rfl⟩
abbrev main_v7 : Ref sig .tc := ⟨.hbm, 15, rfl⟩
abbrev main_c_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c_5 : Ref sig .tc := ⟨.hbm, 33, rfl⟩
abbrev main_v21 : Ref sig .tc := ⟨.hbm, 34, rfl⟩
abbrev main_v22 : Ref sig .tc := ⟨.hbm, 35, rfl⟩
abbrev main_c_6 : Ref sig .tc := ⟨.hbm, 36, rfl⟩
abbrev main_v23 : Ref sig .tc := ⟨.hbm, 37, rfl⟩
abbrev main_v24 : Ref sig .tc := ⟨.hbm, 38, rfl⟩
abbrev main_cst_7 : Ref sig .tc := ⟨.hbm, 39, rfl⟩
abbrev main_cst_8 : Ref sig .tc := ⟨.hbm, 40, rfl⟩
abbrev main_call1_v0 : Ref sig .tc := ⟨.hbm, 41, rfl⟩
abbrev main_call1_v1 : Ref sig .tc := ⟨.hbm, 42, rfl⟩
abbrev main_v25 : Ref sig .tc := ⟨.hbm, 43, rfl⟩
abbrev main_v26 : Ref sig .tc := ⟨.hbm, 44, rfl⟩
abbrev main_cst_9 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_10 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38_0 : Ref sig .tc := ⟨.hbm, 58, rfl⟩
abbrev main_v38_1 : Ref sig .tc := ⟨.hbm, 59, rfl⟩
abbrev main_v38_2 : Ref sig .tc := ⟨.hbm, 60, rfl⟩
abbrev main_v38_3 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![2, 65], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 1 := Scalar.cmpi .eq arg1 c64_i32
  let c2_i32 : BitVec 32 := 2#32
  let v1 : BitVec 32 := Scalar.select v0 c2_i32 arg0
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x3584 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference4Ideal.lean ====
abbrev S2x16384x1024 : Shape := ⟨3, ![2, 16384, 1024]⟩
abbrev S2x256x1024 : Shape := ⟨3, ![2, 256, 1024]⟩
abbrev S8x6144 : Shape := ⟨2, ![8, 6144]⟩
abbrev S1024 : Shape := ⟨1, ![1024]⟩
abbrev S1024x3584 : Shape := ⟨2, ![1024, 3584]⟩
abbrev S8x1024 : Shape := ⟨2, ![8, 1024]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S2x1024 : Shape := ⟨2, ![2, 1024]⟩
abbrev S2x1x1024 : Shape := ⟨3, ![2, 1, 1024]⟩
abbrev S2x256 : Shape := ⟨2, ![2, 256]⟩
abbrev S2x256x1 : Shape := ⟨3, ![2, 256, 1]⟩
abbrev S1x1024 : Shape := ⟨2, ![1, 1024]⟩
abbrev S2x16384x3584 : Shape := ⟨3, ![2, 16384, 3584]⟩
abbrev S2x256x3584 : Shape := ⟨3, ![2, 256, 3584]⟩
abbrev S256 : Shape := ⟨1, ![256]⟩
abbrev S256x1 : Shape := ⟨2, ![256, 1]⟩
abbrev S256x64 : Shape := ⟨2, ![256, 64]⟩
abbrev S16384 : Shape := ⟨1, ![16384]⟩
abbrev S64 : Shape := ⟨1, ![64]⟩
abbrev S1x64 : Shape := ⟨2, ![1, 64]⟩
abbrev S16 : Shape := ⟨1, ![16]⟩
abbrev S16384x1 : Shape := ⟨2, ![16384, 1]⟩
abbrev S1x16 : Shape := ⟨2, ![1, 16]⟩
abbrev S16384x16 : Shape := ⟨2, ![16384, 16]⟩
abbrev S16384x32 : Shape := ⟨2, ![16384, 32]⟩
abbrev S2x16384x16x2x32 : Shape := ⟨5, ![2, 16384, 16, 2, 32]⟩
abbrev S2x16384x16x2x16 : Shape := ⟨5, ![2, 16384, 16, 2, 16]⟩
abbrev S16384x2x16 : Shape := ⟨3, ![16384, 2, 16]⟩
abbrev S1x16384x1x2x16 : Shape := ⟨5, ![1, 16384, 1, 2, 16]⟩
abbrev S2x16640x1024 : Shape := ⟨3, ![2, 16640, 1024]⟩
abbrev S2x16384x512 : Shape := ⟨3, ![2, 16384, 512]⟩
abbrev S2x256x512 : Shape := ⟨3, ![2, 256, 512]⟩
abbrev S2x16640x512 : Shape := ⟨3, ![2, 16640, 512]⟩

abbrev nBuf : Space → Nat
  | .hbm => 158
  | .vmem => 0
  | .smem => 0
  | _ => 0

abbrev hbmTy0_0 (i : Nat) : BufTy := match i % 128 with
  | 0 => ⟨S2x16384x1024, .f32⟩
  | 1 => ⟨S2x256x1024, .f32⟩
  | 2 => ⟨S8x6144, .f32⟩
  | 3 => ⟨S1024, .f32⟩
  | 4 => ⟨S1024x3584, .f32⟩
  | 5 => ⟨S8x1024, .f32⟩
  | 6 => ⟨S8x1024, .f32⟩
  | 7 => ⟨S8x1024, .f32⟩
  | 8 => ⟨S8x1024, .f32⟩
  | 9 => ⟨S8x1024, .f32⟩
  | 10 => ⟨S8x1024, .f32⟩
  | 11 => ⟨S2x16384x1024, .f32⟩
  | 12 => ⟨S_, .f32⟩
  | 13 => ⟨S2x16384, .f32⟩
  | 14 => ⟨S2x16384x1, .f32⟩
  | 15 => ⟨S_, .f32⟩
  | 16 => ⟨S2x16384x1, .f32⟩
  | 17 => ⟨S2x16384x1, .f32⟩
  | 18 => ⟨S_, .f32⟩
  | 19 => ⟨S2x16384x1, .f32⟩
  | 20 => ⟨S2x16384x1, .f32⟩
  | 21 => ⟨S2x16384x1, .f32⟩
  | 22 => ⟨S2x16384x1024, .f32⟩
  | 23 => ⟨S2x16384x1024, .f32⟩
  | 24 => ⟨S1x1x1024, .f32⟩
  | 25 => ⟨S2x16384x1024, .f32⟩
  | 26 => ⟨S2x16384x1024, .f32⟩
  | 27 => ⟨S2x1024, .f32⟩
  | 28 => ⟨S2x1x1024, .f32⟩
  | 29 => ⟨S_, .f32⟩
  | 30 => ⟨S2x1x1024, .f32⟩
  | 31 => ⟨S2x1x1024, .f32⟩
  | 32 => ⟨S2x16384x1024, .f32⟩
  | 33 => ⟨S2x16384x1024, .f32⟩
  | 34 => ⟨S2x1024, .f32⟩
  | 35 => ⟨S2x1x1024, .f32⟩
  | 36 => ⟨S2x16384x1024, .f32⟩
  | 37 => ⟨S2x16384x1024, .f32⟩
  | 38 => ⟨S2x256x1024, .f32⟩
  | 39 => ⟨S_, .f32⟩
  | 40 => ⟨S2x256, .f32⟩
  | 41 => ⟨S2x256x1, .f32⟩
  | 42 => ⟨S_, .f32⟩
  | 43 => ⟨S2x256x1, .f32⟩
  | 44 => ⟨S2x256x1, .f32⟩
  | 45 => ⟨S_, .f32⟩
  | 46 => ⟨S2x256x1, .f32⟩
  | 47 => ⟨S2x256x1, .f32⟩
  | 48 => ⟨S2x256x1, .f32⟩
  | 49 => ⟨S2x256x1024, .f32⟩
  | 50 => ⟨S2x256x1024, .f32⟩
  | 51 => ⟨S1x1x1024, .f32⟩
  | 52 => ⟨S2x256x1024, .f32⟩
  | 53 => ⟨S2x256x1024, .f32⟩
  | 54 => ⟨S1x1024, .f32⟩
  | 55 => ⟨S1024, .f32⟩
  | 56 => ⟨S_, .f32⟩
  | 57 => ⟨S1024, .f32⟩
  | 58 => ⟨S1024, .f32⟩
  | 59 => ⟨S1x1x1024, .f32⟩
  | 60 => ⟨S2x256x1024, .f32⟩
  | 61 => ⟨S2x256x1024, .f32⟩
  | 62 => ⟨S1x1024, .f32⟩
  | 63 => ⟨S1024, .f32⟩
  | 64 => ⟨S1x1x1024, .f32⟩
  | 65 => ⟨S2x256x1024, .f32⟩
  | 66 => ⟨S2x256x1024, .f32⟩
  | 67 => ⟨S2x16384x3584, .f32⟩
  | 68 => ⟨S2x256x3584, .f32⟩
  | 69 => ⟨S256, .i32⟩
  | 70 => ⟨S256x1, .i32⟩
  | 71 => ⟨S256x64, .i32⟩
  | 72 => ⟨S16384, .i32⟩
  | 73 => ⟨S64, .i32⟩
  | 74 => ⟨S1x64, .i32⟩
  | 75 => ⟨S256x64, .i32⟩
  | 76 => ⟨S16384, .i32⟩
  | 77 => ⟨S16, .f32⟩
  | 78 => ⟨S16, .f32⟩
  | 79 => ⟨S_, .f32⟩
  | 80 => ⟨S16, .f32⟩
  | 81 => ⟨S16, .f32⟩
  | 82 => ⟨S_, .f32⟩
  | 83 => ⟨S16, .f32⟩
  | 84 => ⟨S16, .f32⟩
  | 85 => ⟨S16384x1, .i32⟩
  | 86 => ⟨S16384x1, .f32⟩
  | 87 => ⟨S1x16, .f32⟩
  | 88 => ⟨S16384x16, .f32⟩
  | 89 => ⟨S16384x16, .f32⟩
  | 90 => ⟨S16384x16, .f32⟩
  | 91 => ⟨S16384x1, .i32⟩
  | 92 => ⟨S16384x1, .f32⟩
  | 93 => ⟨S1x16, .f32⟩
  | 94 => ⟨S16384x16, .f32⟩
  | 95 => ⟨S16384x16, .f32⟩
  | 96 => ⟨S16384x16, .f32⟩
  | 97 => ⟨S16384x32, .f32⟩
  | 98 => ⟨S2x16384x1024, .f32⟩
  | 99 => ⟨S2x16384x16x2x32, .f32⟩
  | 100 => ⟨S2x16384x16x2x16, .f32⟩
  | 101 => ⟨S2x16384x16x2x16, .f32⟩
  | 102 => ⟨S16384x32, .f32⟩
  | 103 => ⟨S16384x2x16, .f32⟩
  | 104 => ⟨S1x16384x1x2x16, .f32⟩
  | 105 => ⟨S16384x32, .f32⟩
  | 106 => ⟨S16384x2x16, .f32⟩
  | 107 => ⟨S1x16384x1x2x16, .f32⟩
  | 108 => ⟨S2x16384x16x2x16, .f32⟩
  | 109 => ⟨S2x16384x16x2x16, .f32⟩
  | 110 => ⟨S2x16384x16x2x16, .f32⟩
  | 111 => ⟨S2x16384x16x2x16, .f32⟩
  | 112 => ⟨S2x16384x16x2x16, .f32⟩
  | 113 => ⟨S2x16384x16x2x16, .f32⟩
  | 114 => ⟨S2x16384x16x2x16, .f32⟩
  | 115 => ⟨S2x16384x16x2x16, .f32⟩
  | 116 => ⟨S2x16384x16x2x16, .f32⟩
  | 117 => ⟨S2x16384x16x2x16, .f32⟩
  | 118 => ⟨S2x16384x16x2x32, .f32⟩
  | 119 => ⟨S2x16384x1024, .f32⟩
  | 120 => ⟨S2x256x1024, .f32⟩
  | 121 => ⟨S2x16640x1024, .f32⟩
  | 122 => ⟨S_, .f32⟩
  | 123 => ⟨S2x16640x1024, .f32⟩
  | 124 => ⟨S2x16640x1024, .f32⟩
  | 125 => ⟨S2x16384x1024, .f32⟩
  | 126 => ⟨S2x16384x16x2x32, .f32⟩
  | 127 => ⟨S2x16384x16x2x16, .f32⟩
  | _ => ⟨S2x16384x1024, .f32⟩

abbrev hbmTy0_1 (i : Nat) : BufTy := match i % 128 with
  | 0 => ⟨S2x16384x16x2x16, .f32⟩
  | 1 => ⟨S16384x32, .f32⟩
  | 2 => ⟨S16384x2x16, .f32⟩
  | 3 => ⟨S1x16384x1x2x16, .f32⟩
  | 4 => ⟨S16384x32, .f32⟩
  | 5 => ⟨S16384x2x16, .f32⟩
  | 6 => ⟨S1x16384x1x2x16, .f32⟩
  | 7 => ⟨S2x16384x16x2x16, .f32⟩
  | 8 => ⟨S2x16384x16x2x16, .f32⟩
  | 9 => ⟨S2x16384x16x2x16, .f32⟩
  | 10 => ⟨S2x16384x16x2x16, .f32⟩
  | 11 => ⟨S2x16384x16x2x16, .f32⟩
  | 12 => ⟨S2x16384x16x2x16, .f32⟩
  | 13 => ⟨S2x16384x16x2x16, .f32⟩
  | 14 => ⟨S2x16384x16x2x16, .f32⟩
  | 15 => ⟨S2x16384x16x2x16, .f32⟩
  | 16 => ⟨S2x16384x16x2x16, .f32⟩
  | 17 => ⟨S2x16384x16x2x32, .f32⟩
  | 18 => ⟨S2x16384x1024, .f32⟩
  | 19 => ⟨S2x256x1024, .f32⟩
  | 20 => ⟨S2x16640x1024, .f32⟩
  | 21 => ⟨S2x16384x1024, .f32⟩
  | 22 => ⟨S2x256x1024, .f32⟩
  | 23 => ⟨S2x16640x1024, .f32⟩
  | 24 => ⟨S2x16384x512, .f32⟩
  | 25 => ⟨S2x256x512, .f32⟩
  | 26 => ⟨S2x16640x512, .f32⟩
  | 27 => ⟨S2x16640x1024, .bf16⟩
  | 28 => ⟨S2x16640x1024, .bf16⟩
  | 29 => ⟨S2x16640x1024, .bf16⟩
  | _ => ⟨S2x16384x1024, .f32⟩

abbrev hbmTy (i : Nat) : BufTy := match i / 128 with
  | 0 => hbmTy0_0 i
  | 1 => hbmTy0_1 i
  | _ => ⟨S2x16384x1024, .f32⟩

abbrev bufTy : (tb : Table) → Fin (tcTables nBuf tb) → BufTy
  | .hbm, ⟨i, _⟩ => hbmTy i
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_3 : Ref sig .tc := ⟨.hbm, 39, rfl⟩
abbrev main_v30 : Ref sig .tc := ⟨.hbm, 40, rfl⟩
abbrev main_v31 : Ref sig .tc := ⟨.hbm, 41, rfl⟩
abbrev main_cst_4 : Ref sig .tc := ⟨.hbm, 42, rfl⟩
abbrev main_v32 : Ref sig .tc := ⟨.hbm, 43, rfl⟩
abbrev main_v33 : Ref sig .tc := ⟨.hbm, 44, rfl⟩
abbrev main_cst_5 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_cst_6 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_cst_7 : Ref sig .tc := ⟨.hbm, 79, rfl⟩
abbrev main_v66 : Ref sig .tc := ⟨.hbm, 80, rfl⟩
abbrev main_v67 : Ref sig .tc := ⟨.hbm, 81, rfl⟩
abbrev main_cst_8 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_cst_9 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_v111 : Ref sig .tc := ⟨.hbm, 127, rfl⟩
abbrev main_v112 : Ref sig .tc := ⟨.hbm, 128, rfl⟩
abbrev main_v113 : Ref sig .tc := ⟨.hbm, 129, rfl⟩
abbrev main_v114 : Ref sig .tc := ⟨.hbm, 130, rfl⟩
abbrev main_v115 : Ref sig .tc := ⟨.hbm, 131, rfl⟩
abbrev main_v116 : Ref sig .tc := ⟨.hbm, 132, rfl⟩
abbrev main_v117 : Ref sig .tc := ⟨.hbm, 133, rfl⟩
abbrev main_v118 : Ref sig .tc := ⟨.hbm, 134, rfl⟩
abbrev main_v119 : Ref sig .tc := ⟨.hbm, 135, rfl⟩
abbrev main_v120 : Ref sig .tc := ⟨.hbm, 136, rfl⟩
abbrev main_v121 : Ref sig .tc := ⟨.hbm, 137, rfl⟩
abbrev main_v122 : Ref sig .tc := ⟨.hbm, 138, rfl⟩
abbrev main_v123 : Ref sig .tc := ⟨.hbm, 139, rfl⟩
abbrev main_v124 : Ref sig .tc := ⟨.hbm, 140, rfl⟩
abbrev main_v125 : Ref sig .tc := ⟨.hbm, 141, rfl⟩
abbrev main_v126 : Ref sig .tc := ⟨.hbm, 142, rfl⟩
abbrev main_v127 : Ref sig .tc := ⟨.hbm, 143, rfl⟩
abbrev main_v128 : Ref sig .tc := ⟨.hbm, 144, rfl⟩
abbrev main_v129 : Ref sig .tc := ⟨.hbm, 145, rfl⟩
abbrev main_v130 : Ref sig .tc := ⟨.hbm, 146, rfl⟩
abbrev main_v131 : Ref sig .tc := ⟨.hbm, 147, rfl⟩
abbrev main_v132 : Ref sig .tc := ⟨.hbm, 148, rfl⟩
abbrev main_v133 : Ref sig .tc := ⟨.hbm, 149, rfl⟩
abbrev main_v134 : Ref sig .tc := ⟨.hbm, 150, rfl⟩
abbrev main_v135 : Ref sig .tc := ⟨.hbm, 151, rfl⟩
abbrev main_v136 : Ref sig .tc := ⟨.hbm, 152, rfl⟩
abbrev main_v137 : Ref sig .tc := ⟨.hbm, 153, rfl⟩
abbrev main_v138 : Ref sig .tc := ⟨.hbm, 154, rfl⟩
abbrev main_v139 : Ref sig .tc := ⟨.hbm, 155, rfl⟩
abbrev main_v140 : Ref sig .tc := ⟨.hbm, 156, rfl⟩
abbrev main_v141 : Ref sig .tc := ⟨.hbm, 157, rfl⟩

abbrev nD : Nat := 1
abbrev τ : Topo := Topo.v7x

variable {F : FTy → Type} [FloatOps F]
-- ==== Proof.Fns.lean ====
/-
  The values of one grid point of the attention kernel, as functions of the blocks it is given: the transposed keys and
  queries it multiplies, one trip of the first loop, the last block of keys, one trip of the second loop, and the block
  it stores.
-/
module

public import proofs.«01_k».proof.Proof.Gen.KernelIdeal.Skeleton
public import Idealize.ShloMosaic.Lib.Exec
public import Idealize.ShloMosaic.Lib.Tactic
public import Idealize.ShloMosaic.Lib.Pipeline.Kit
public import Idealize.ShloMosaic.Lib.Pipeline.Value

@[expose] public section

noncomputable section

namespace Cert.Attn

open Cert.KernelIdeal Cert.KernelIdeal.Gen
open Idealize.ShloMosaic
open Idealize.ShloMosaic.TcCoe Idealize.ShloMosaic.Tactic

variable {F : FTy → Type} [FloatOps F]

/-- What the kernel carries over the keys: the running exponent `m`, the weighted sums `a` (rows 0 to 127, and the sum of
    the weights in row 128) and the largest step `g` the exponent has made. -/
structure St (F : FTy → Type) where
  /-- the running exponent, one per column -/
  m : Vec F S1x2048 .f32
  /-- the weighted sums -/
  a : Vec F S144x2048 .f32
  /-- the largest step so far -/
  g : Vec F S1x2048 .f32

section Keys

variable (KX : Vec F S1x16640x128 .bf16) (VT : Vec F S128x16640 .bf16) (Q : Vec F S128x2048 .bf16)

/-- The first 2048 keys of trip `k`. -/
def keysA (k : Fin k0_t1_loop.trips) : Vec F S1x2048x128 .bf16 :=
  View.ld KX (Rect.unit (s := S1x16640x128) (k0_off1 k 0#32) S1x2048x128.size (k0_off1_inb k 0))
/-- The second 2048 keys of trip `k`. -/
def keysB (k : Fin k0_t1_loop.trips) : Vec F S1x2048x128 .bf16 :=
  View.ld KX (Rect.unit (s := S1x16640x128) (k0_off1 k 2048#32) S1x2048x128.size (k0_off1_inb k 1))
/-- The transposed values of trip `k`. -/
def valsT (k : Fin k0_t1_loop.trips) : Vec F S128x4096 .bf16 :=
  View.ld VT (Rect.unit (s := S128x16640) (k0_off2 k) S128x4096.size (k0_off2_inb k))

/-- The greatest weights, sixteen rows of them, of two blocks of 2048 keys. -/
def pmax1 (m : Vec F S1x2048 .f32) (KA KB : Vec F S1x2048x128 .bf16) : FVec F S16x2048 .bf16 :=
  k0_pay86 (k0_pay81 m KB Q) (k0_pay85 (k0_pay81 m KB Q) (k0_pay84 (k0_pay81 m KB Q) (k0_pay83
    (k0_pay80 (k0_pay74 m KA Q) (k0_pay79 (k0_pay74 m KA Q) (k0_pay78 (k0_pay74 m KA Q) (k0_pay77 (k0_pay74 m KA Q)
      (k0_pay76 m KA Q))))) (k0_pay81 m KB Q))))

/-- The weights of two blocks of 2048 keys, as the kernel keeps them: one block under the other. -/
def wts1 (m : Vec F S1x2048 .f32) (KA KB : Vec F S1x2048x128 .bf16) : Vec F S4352x2048 .bf16 :=
  View.canon [⟨Rect.unit (s := S4352x2048) ![2048, 0] S2048x2048.size inb_S4352x2048_S2048x2048_2048_0, k0_pay82 (k0_pay81 m KB Q)⟩,
    ⟨Rect.unit (s := S4352x2048) ![0, 0] S2048x2048.size inb_S4352x2048_S2048x2048_0_0, k0_pay75 m KA Q⟩]

/-- One trip of the first loop. -/
def step1 (k : Fin k0_t1_loop.trips) (s : St F) : St F where
  m := k0_pay101 (k0_pay89 s.m (k0_pay81 s.m (keysB KX k) Q) (pmax1 Q s.m (keysA KX k) (keysB KX k)))
  a := k0_pay100 (k0_pay87 s.a (valsT VT k)
        (View.ld (wts1 Q s.m (keysA KX k) (keysB KX k)) (Rect.unit (s := S4352x2048) ![0, 0] S4096x2048.size inb_S4352x2048_S4096x2048_0_0)))
      (k0_pay90 s.m (k0_pay81 s.m (keysB KX k) Q) (pmax1 Q s.m (keysA KX k) (keysB KX k)))
  g := k0_pay102 (k0_pay88 (k0_pay81 s.m (keysB KX k) Q) (pmax1 Q s.m (keysA KX k) (keysB KX k))) s.g

/-- The state before trip `n` of the first loop, from `m`, `a`, `g`. -/
def iter1 (m : Vec F S1x2048 .f32) (a : Vec F S144x2048 .f32) (g : Vec F S1x2048 .f32) : ℕ → St F
  | 0 => ⟨m, a, g⟩
  | n + 1 => if h : n < k0_t1_loop.trips then step1 KX VT Q ⟨n, h⟩ (iter1 m a g n) else iter1 m a g n

theorem iter1_succ (m : Vec F S1x2048 .f32) (a : Vec F S144x2048 .f32) (g : Vec F S1x2048 .f32) (k : Fin k0_t1_loop.trips) :
    iter1 KX VT Q m a g (k.val + 1) = step1 KX VT Q k (iter1 KX VT Q m a g k.val) := by
  rw [iter1.eq_2]; exact dif_pos k.isLt

/-- The keys of the last block: 2048 at 12288, 2048 at 14336, 256 at 16384. -/
def keysC : Vec F S1x2048x128 .bf16 :=
  View.ld KX (Rect.unit (s := S1x16640x128) ![0, 12288, 0] S1x2048x128.size inb_S1x16640x128_S1x2048x128_0_12288_0)
def keysD : Vec F S1x2048x128 .bf16 :=
  View.ld KX (Rect.unit (s := S1x16640x128) ![0, 14336, 0] S1x2048x128.size inb_S1x16640x128_S1x2048x128_0_14336_0)
def keysE : Vec F S1x256x128 .bf16 :=
  View.ld KX (Rect.unit (s := S1x16640x128) ![0, 16384, 0] S1x256x128.size inb_S1x16640x128_S1x256x128_0_16384_0)

/-- The weights of the last block, as the kernel keeps them. -/
def wts3 (m : Vec F S1x2048 .f32) : Vec F S4352x2048 .bf16 :=
  View.canon [⟨Rect.unit (s := S4352x2048) ![4096, 0] S256x2048.size inb_S4352x2048_S256x2048_4096_0, k0_pay125 m (keysE KX) Q⟩,
    ⟨Rect.unit (s := S4352x2048) ![2048, 0] S2048x2048.size inb_S4352x2048_S2048x2048_2048_0, k0_pay115 (k0_pay114 m (keysD KX) Q)⟩,
    ⟨Rect.unit (s := S4352x2048) ![0, 0] S2048x2048.size inb_S4352x2048_S2048x2048_0_0, k0_pay104 m (keysC KX) Q⟩]

/-- The greatest weights of the first 2048 keys of the last block. -/
def pmaxC (v41 : FVec F S2048x2048 .bf16) (v75 v76 : FVec F S16x2048 .bf16) : FVec F S16x2048 .bf16 :=
  k0_pay113 v41 (k0_pay111 v41 (k0_pay109 v41 (k0_pay107 v41 v75 v76) (k0_pay108 v41)) (k0_pay110 v41)) (k0_pay112 v41)

/-- The greatest weights of the first 4096 keys of the last block, given those of the first 2048. -/
def pmaxD (v299 : FVec F S16x2048 .bf16) (v307 : FVec F S2048x2048 .bf16) : FVec F S16x2048 .bf16 :=
  k0_pay122 v307 (k0_pay120 v307 (k0_pay118 v307 (k0_pay116 v299 v307) (k0_pay117 v307)) (k0_pay119 v307)) (k0_pay121 v307)

/-- The greatest weights of the last block, all but one tile of them. -/
def pmax3 (m : Vec F S1x2048 .f32) : FVec F S16x2048 .bf16 :=
  k0_pay126 m (k0_pay114 m (keysD KX) Q)
    (pmaxD (pmaxC (k0_pay103 m (keysC KX) Q) (k0_pay105 m (keysC KX) Q) (k0_pay106 m (keysC KX) Q)) (k0_pay114 m (keysD KX) Q))
    (k0_pay123 (k0_pay114 m (keysD KX) Q)) (keysE KX) Q

/-- The last block of keys. -/
def last (s : St F) : St F where
  m := k0_pay131 (k0_pay129 s.m (k0_pay124 s.m (keysE KX) Q) (pmax3 KX Q s.m) (k0_pay127 s.m (keysE KX) Q))
  a := k0_pay130 s.m (k0_pay124 s.m (keysE KX) Q) (pmax3 KX Q s.m) (k0_pay127 s.m (keysE KX) Q) s.a
      (View.ld VT (Rect.unit (s := S128x16640) ![0, 12288] S128x4352.size inb_S128x16640_S128x4352_0_12288)) (wts3 KX Q s.m)
  g := k0_pay132 (k0_pay128 (k0_pay124 s.m (keysE KX) Q) (pmax3 KX Q s.m) (k0_pay127 s.m (keysE KX) Q)) s.g

/-- The condition on which the kernel goes over the keys a second time. -/
def again (s : St F) : Prop :=
  Scalar.cmpi .ne (Scalar.extui (Scalar.ori
    (Scalar.cmpf .ogt (k0_pay134 s.g) (Scalar.ofBits .f32 0x42C80000#32 : F .f32))
    (Scalar.cmpf .olt (k0_pay133 (View.ld s.a (Rect.unit (s := S144x2048) ![128, 0] S1x2048.size inb_S144x2048_S1x2048_128_0)))
      (Scalar.ofBits .f32 0x21800000#32 : F .f32))) : BitVec 32) 0#32 = 1#1

/-- One trip of the second loop. -/
def step2 (k : Fin k0_t2_loop.trips) (s : Vec F S1x2048 .f32 × Vec F S144x2048 .f32) : Vec F S1x2048 .f32 × Vec F S144x2048 .f32 :=
  (k0_pay93 Q (View.ld KX (Rect.unit (s := S1x16640x128) (k0_off3 k) S1x256x128.size (k0_off3_inb k))) s.1,
   k0_pay94 Q (View.ld KX (Rect.unit (s := S1x16640x128) (k0_off3 k) S1x256x128.size (k0_off3_inb k)))
     (View.ld VT (Rect.unit (s := S128x16640) (k0_off4 k) S128x256.size (k0_off4_inb k))) s.1 s.2)

/-- The state before trip `n` of the second loop, from `m`, `a`. -/
def iter2 (m : Vec F S1x2048 .f32) (a : Vec F S144x2048 .f32) : ℕ → Vec F S1x2048 .f32 × Vec F S144x2048 .f32
  | 0 => (m, a)
  | n + 1 => if h : n < k0_t2_loop.trips then step2 KX VT Q ⟨n, h⟩ (iter2 m a n) else iter2 m a n

theorem iter2_succ (m : Vec F S1x2048 .f32) (a : Vec F S144x2048 .f32) (k : Fin k0_t2_loop.trips) :
    iter2 KX VT Q m a (k.val + 1) = step2 KX VT Q k (iter2 KX VT Q m a k.val) := by
  rw [iter2.eq_2]; exact dif_pos k.isLt

/-- The state after the first loop and the last block. -/
def once : St F := last KX VT Q (iter1 KX VT Q k0_pay97 k0_pay98 k0_pay99 k0_t1_loop.trips)

open Classical in
/-- The weighted sums the kernel divides. -/
def sums : Vec F S144x2048 .f32 :=
  if again (once KX VT Q) then (iter2 KX VT Q k0_pay135 k0_pay136 k0_t2_loop.trips).2 else (once KX VT Q).a

end Keys

/-- The block a grid point stores. -/
def outv (L : Vec F S4x64 .f32) (G : Vec F S128x1 .f32) (q : Vec F S1x1024x128 .bf16) (KX : Vec F S1x16640x128 .bf16)
    (VT : Vec F S128x16640 .bf16) : Vec F S1x1024x128 .bf16 :=
  k0_pay1 (sums KX VT (k0_pay96 q)) (k0_pay137 L) (k0_pay138 (F := F)) G

end Cert.Attn

end
-- ==== Proof.Trip.lean ====
/-
  One trip of each of the kernel's two loops over the keys, run once over any floats: what it leaves in the buffers it
  writes, as the functions of `Fns`.
-/
module

public import proofs.«01_k».proof.Proof.Fns

@[expose] public section

set_option maxRecDepth 8192
set_option maxHeartbeats 4000000

noncomputable section

namespace Cert.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- Memref `m` held at the contents whose whole read is `X`. -/
abbrev at_ (c : Dev nD) {s : Shape} {e : EltTy} {sp : Space} (m : Memref sig .tc sp s e) (f : m.view.ty.Contents (Elt F)) : sProp 𝕄G :=
  m.view.loc (c : Thread nD τ) ↦[m.view.set]{fullShare} f

section Whole

variable {σ : RefSig} {s : Shape} {e : EltTy} {sp : Space} {m : Memref σ .tc sp s e} (h : m.IsWhole)

/-- A store over the whole buffer leaves what it stored. -/
theorem writes_whole {off : Fin s.rank → ℕ} (h0 : off = fun _ => 0) (inb : ∀ a, off a + s.size a ≤ s.size a) (w : s.Idx → Elt F e)
    (L : List (View.Piece (Elt F) s e)) (f : m.view.ty.Contents (Elt F)) :
    m.view.writes (Elt F) f ((⟨Rect.unit off s.size inb, w⟩ : View.Piece (Elt F) s e) :: L) = h.unread w := by
  refine h.eq_unread ?_
  rw [View.read_writes_eq_canon _ _ _ (fun y => ⟨_, List.mem_cons_self, View.mem_set_unit_zero h0 inb y⟩), View.canon_cons_unit_zero h0]

/-- A load of the whole buffer reads it. -/
theorem readAt_whole {off : Fin s.rank → ℕ} (h0 : off = fun _ => 0) (inb : ∀ a, off a + s.size a ≤ s.size a) (X : s.Idx → Elt F e) :
    m.view.readAt (Elt F) (Rect.unit off s.size inb).toLoadRect (h.unread X) = X := by
  rw [View.readAt_eq_ld, h.read_unread, View.ld_unit_zero h0]

/-- A load of a rectangle reads it off the whole. -/
theorem readAt_part (r : Rect s) (X : s.Idx → Elt F e) :
    m.view.readAt (Elt F) r.toLoadRect (h.unread X) = View.ld X r := by
  rw [View.readAt_eq_ld, h.read_unread]

end Whole

theorem z2 : (![0, 0] : Fin 2 → ℕ) = fun _ => 0 := by funext a; fin_cases a <;> rfl
theorem z3 : (![0, 0, 0] : Fin 3 → ℕ) = fun _ => 0 := by funext a; fin_cases a <;> rfl

/-- One trip of the first loop. -/
theorem trip1 (c : Dev nD) (i : grid0.Coords) (arg3 : Memref sig .tc .vmem S4x64 .f32) (harg3 : arg3.IsWhole) (arg4 : Memref sig .tc .vmem S128x1 .f32) (harg4 : arg4.IsWhole) (arg5 : Memref sig .tc .vmem S1x1024x128 .bf16) (harg5 : arg5.IsWhole) (arg6 : Memref sig .tc .vmem S1x16640x128 .bf16) (harg6 : arg6.IsWhole) (arg7 : Memref sig .tc .vmem S1x16640x128 .bf16) (harg7 : arg7.IsWhole) (arg8 : Memref sig .tc .vmem S1x1024x128 .bf16) (harg8 : arg8.IsWhole) (arg9 : Memref sig .tc .vmem S128x16640 .bf16) (harg9 : arg9.IsWhole) (arg10 : Memref sig .tc .vmem S128x2048 .bf16) (harg10 : arg10.IsWhole) (arg11 : Memref sig .tc .vmem S1x2048 .f32) (harg11 : arg11.IsWhole) (arg12 : Memref sig .tc .vmem S144x2048 .f32) (harg12 : arg12.IsWhole) (arg13 : Memref sig .tc .vmem S1x2048 .f32) (harg13 : arg13.IsWhole) (arg14 : Memref sig .tc .vmem S4352x2048 .bf16) (harg14 : arg14.IsWhole) (c0 : BitVec 32)
    (KX : Vec F S1x16640x128 .bf16) (VT : Vec F S128x16640 .bf16) (Q : Vec F S128x2048 .bf16) (s : St F)
    (p : arg14.view.ty.Contents (Elt F)) (k : Fin k0_t1_loop.trips) (E : Set ℕ) :
    iprop(at_ c arg6 (harg6.unread KX) ∗ at_ c arg9 (harg9.unread VT) ∗ at_ c arg10 (harg10.unread Q)
      ∗ at_ c arg11 (harg11.unread s.m) ∗ at_ c arg12 (harg12.unread s.a) ∗ at_ c arg13 (harg13.unread s.g) ∗ at_ c arg14 p)
      ⊢ wp frame (wpE (defs₀ (F := F)) Variants.none (c : Thread nD τ) none) E
        (k0_t1_body (F := F) i arg3 harg3 arg4 harg4 arg5 harg5 arg6 harg6 arg7 harg7 arg8 harg8 arg9 harg9 arg10 harg10 arg11 harg11 arg12 harg12 arg13 harg13 arg14 harg14 c0 k PUnit.unit)
        (fun _ => iprop(at_ c arg6 (harg6.unread KX) ∗ at_ c arg9 (harg9.unread VT) ∗ at_ c arg10 (harg10.unread Q)
          ∗ at_ c arg11 (harg11.unread (step1 KX VT Q k s).m) ∗ at_ c arg12 (harg12.unread (step1 KX VT Q k s).a)
          ∗ at_ c arg13 (harg13.unread (step1 KX VT Q k s).g) ∗ ∃ p, at_ c arg14 p)) := by
  have hk : k.val < 3 := Nat.lt_of_lt_of_le k.isLt k0_t1_abs.2.1
  unfold k0_t1_body
  iintro ⟨HR_arg6, HR_arg9, HR_arg10, HW_arg11, HW_arg12, HW_arg13, HW_arg14⟩
  sl_exec
  sl_step
  isplitl [HR_arg6]; · iexact HR_arg6
  isplitl [HR_arg9]; · iexact HR_arg9
  isplitl [HR_arg10]; · iexact HR_arg10
  rw [writes_whole harg11 z2, writes_whole harg12 z2, writes_whole harg13 z2]
  have e11 : k0_pay101 (trip1.sl.r_14 arg6 harg6 arg10 harg10 arg11 harg11 KX Q s k) = (step1 KX VT Q k s).m := by
    delta trip1.sl.r_15 trip1.sl.r_14 trip1.sl.r_13 trip1.sl.r_12 trip1.sl.r_11 trip1.sl.r_10 trip1.sl.r_9 trip1.sl.r_8 trip1.sl.r_7 trip1.sl.r_6 trip1.sl.r_5 trip1.sl.r_4 trip1.sl.r_3 trip1.sl.r_2 trip1.sl.r_1 trip1.sl.r
    simp only [readAt_whole harg10 z2, readAt_whole harg11 z2, readAt_part]
    rfl
  have e13 : k0_pay102 (trip1.sl.r_13 arg6 harg6 arg10 harg10 arg11 harg11 KX Q s k)
            (View.readAt (Elt F) arg13.view (Rect.unit ![0, 0] S1x2048.size inb_S1x2048_S1x2048_0_0).toLoadRect
              (harg13.unread s.g)) = (step1 KX VT Q k s).g := by
    delta trip1.sl.r_15 trip1.sl.r_14 trip1.sl.r_13 trip1.sl.r_12 trip1.sl.r_11 trip1.sl.r_10 trip1.sl.r_9 trip1.sl.r_8 trip1.sl.r_7 trip1.sl.r_6 trip1.sl.r_5 trip1.sl.r_4 trip1.sl.r_3 trip1.sl.r_2 trip1.sl.r_1 trip1.sl.r
    simp only [readAt_whole harg10 z2, readAt_whole harg11 z2, readAt_whole harg13 z2, readAt_part]
    rfl
  have e12 : k0_pay100 (trip1.sl.r_12 arg6 harg6 arg9 harg9 arg10 harg10 arg11 harg11 arg12 harg12 arg14 KX VT Q s k)
            (trip1.sl.r_15 arg6 harg6 arg10 harg10 arg11 harg11 KX Q s k) = (step1 KX VT Q k s).a := by
    delta trip1.sl.r_15 trip1.sl.r_14 trip1.sl.r_13 trip1.sl.r_12 trip1.sl.r_11 trip1.sl.r_10 trip1.sl.r_9 trip1.sl.r_8 trip1.sl.r_7 trip1.sl.r_6 trip1.sl.r_5 trip1.sl.r_4 trip1.sl.r_3 trip1.sl.r_2 trip1.sl.r_1 trip1.sl.r trip1.sl.v1264 trip1.sl.HW_arg14_2
    simp only [readAt_whole harg10 z2, readAt_whole harg11 z2, readAt_whole harg12 z2, readAt_part, View.readCov_eq_canon']
    rfl
  rw [e11, e12, e13]
  isplitl [HW_arg11]; · iexact HW_arg11
  isplitl [HW_arg12]; · iexact HW_arg12
  isplitl [HW_arg13]; · iexact HW_arg13
  iexists _
  iexact HW_arg14

/-- One trip of the second loop. -/
theorem trip2 (c : Dev nD) (i : grid0.Coords) (arg3 : Memref sig .tc .vmem S4x64 .f32) (harg3 : arg3.IsWhole) (arg4 : Memref sig .tc .vmem S128x1 .f32) (harg4 : arg4.IsWhole) (arg5 : Memref sig .tc .vmem S1x1024x128 .bf16) (harg5 : arg5.IsWhole) (arg6 : Memref sig .tc .vmem S1x16640x128 .bf16) (harg6 : arg6.IsWhole) (arg7 : Memref sig .tc .vmem S1x16640x128 .bf16) (harg7 : arg7.IsWhole) (arg8 : Memref sig .tc .vmem S1x1024x128 .bf16) (harg8 : arg8.IsWhole) (arg9 : Memref sig .tc .vmem S128x16640 .bf16) (harg9 : arg9.IsWhole) (arg10 : Memref sig .tc .vmem S128x2048 .bf16) (harg10 : arg10.IsWhole) (arg11 : Memref sig .tc .vmem S1x2048 .f32) (harg11 : arg11.IsWhole) (arg12 : Memref sig .tc .vmem S144x2048 .f32) (harg12 : arg12.IsWhole) (arg13 : Memref sig .tc .vmem S1x2048 .f32) (harg13 : arg13.IsWhole) (arg14 : Memref sig .tc .vmem S4352x2048 .bf16) (harg14 : arg14.IsWhole) (u w : FVec F S1x2048 .f32)
    (KX : Vec F S1x16640x128 .bf16) (VT : Vec F S128x16640 .bf16) (Q : Vec F S128x2048 .bf16)
    (s : Vec F S1x2048 .f32 × Vec F S144x2048 .f32) (k : Fin k0_t2_loop.trips) (E : Set ℕ) :
    iprop(at_ c arg6 (harg6.unread KX) ∗ at_ c arg9 (harg9.unread VT) ∗ at_ c arg10 (harg10.unread Q)
      ∗ at_ c arg11 (harg11.unread s.1) ∗ at_ c arg12 (harg12.unread s.2))
      ⊢ wp frame (wpE (defs₀ (F := F)) Variants.none (c : Thread nD τ) none) E
        (k0_t2_body (F := F) i arg3 harg3 arg4 harg4 arg5 harg5 arg6 harg6 arg7 harg7 arg8 harg8 arg9 harg9 arg10 harg10 arg11 harg11 arg12 harg12 arg13 harg13 arg14 harg14 u w k PUnit.unit)
        (fun _ => iprop(at_ c arg6 (harg6.unread KX) ∗ at_ c arg9 (harg9.unread VT) ∗ at_ c arg10 (harg10.unread Q)
          ∗ at_ c arg11 (harg11.unread (step2 KX VT Q k s).1) ∗ at_ c arg12 (harg12.unread (step2 KX VT Q k s).2))) := by
  have hk : k.val < 65 := Nat.lt_of_lt_of_le k.isLt k0_t2_abs.2.1
  unfold k0_t2_body
  iintro ⟨HR_arg6, HR_arg9, HR_arg10, HW_arg11, HW_arg12⟩
  sl_exec
  sl_step
  isplitl [HR_arg6]; · iexact HR_arg6
  isplitl [HR_arg9]; · iexact HR_arg9
  isplitl [HR_arg10]; · iexact HR_arg10
  rw [writes_whole harg11 z2, writes_whole harg12 z2]
  delta trip2.sl.r
  simp only [readAt_whole harg10 z2, readAt_whole harg11 z2, readAt_whole harg12 z2, readAt_part]
  isplitl [HW_arg11]; · iexact HW_arg11
  iexact HW_arg12

/-- The first loop, from `m`, `a`, `g`. -/
theorem loop1 (c : Dev nD) (i : grid0.Coords) (arg3 : Memref sig .tc .vmem S4x64 .f32) (harg3 : arg3.IsWhole) (arg4 : Memref sig .tc .vmem S128x1 .f32) (harg4 : arg4.IsWhole) (arg5 : Memref sig .tc .vmem S1x1024x128 .bf16) (harg5 : arg5.IsWhole) (arg6 : Memref sig .tc .vmem S1x16640x128 .bf16) (harg6 : arg6.IsWhole) (arg7 : Memref sig .tc .vmem S1x16640x128 .bf16) (harg7 : arg7.IsWhole) (arg8 : Memref sig .tc .vmem S1x1024x128 .bf16) (harg8 : arg8.IsWhole) (arg9 : Memref sig .tc .vmem S128x16640 .bf16) (harg9 : arg9.IsWhole) (arg10 : Memref sig .tc .vmem S128x2048 .bf16) (harg10 : arg10.IsWhole) (arg11 : Memref sig .tc .vmem S1x2048 .f32) (harg11 : arg11.IsWhole) (arg12 : Memref sig .tc .vmem S144x2048 .f32) (harg12 : arg12.IsWhole) (arg13 : Memref sig .tc .vmem S1x2048 .f32) (harg13 : arg13.IsWhole) (arg14 : Memref sig .tc .vmem S4352x2048 .bf16) (harg14 : arg14.IsWhole) (c0 : BitVec 32)
    (KX : Vec F S1x16640x128 .bf16) (VT : Vec F S128x16640 .bf16) (Q : Vec F S128x2048 .bf16)
    (m : Vec F S1x2048 .f32) (a : Vec F S144x2048 .f32) (g : Vec F S1x2048 .f32) (E : Set ℕ)
    (p : arg14.view.ty.Contents (Elt F)) :
    iprop(at_ c arg6 (harg6.unread KX) ∗ at_ c arg9 (harg9.unread VT) ∗ at_ c arg10 (harg10.unread Q)
      ∗ at_ c arg11 (harg11.unread m) ∗ at_ c arg12 (harg12.unread a) ∗ at_ c arg13 (harg13.unread g) ∗ at_ c arg14 p)
      ⊢ wp frame (wpE (defs₀ (F := F)) Variants.none (c : Thread nD τ) none) E
        (Scf.Loop.for k0_t1_loop k0_t1_ok ⟨⟩ (k0_t1_body (F := F) i arg3 harg3 arg4 harg4 arg5 harg5 arg6 harg6 arg7 harg7 arg8 harg8 arg9 harg9 arg10 harg10 arg11 harg11 arg12 harg12 arg13 harg13 arg14 harg14 c0))
        (fun _ => iprop(at_ c arg6 (harg6.unread KX) ∗ at_ c arg9 (harg9.unread VT) ∗ at_ c arg10 (harg10.unread Q)
          ∗ at_ c arg11 (harg11.unread (iter1 KX VT Q m a g k0_t1_loop.trips).m)
          ∗ at_ c arg12 (harg12.unread (iter1 KX VT Q m a g k0_t1_loop.trips).a)
          ∗ at_ c arg13 (harg13.unread (iter1 KX VT Q m a g k0_t1_loop.trips).g) ∗ ∃ p, at_ c arg14 p)) := by
  refine .trans ?_ (Scf.wp_for _ _ _ _ _ _ _ _ _ (fun n _ => iprop(at_ c arg6 (harg6.unread KX) ∗ at_ c arg9 (harg9.unread VT) ∗ at_ c arg10 (harg10.unread Q)
          ∗ at_ c arg11 (harg11.unread (iter1 KX VT Q m a g n).m)
          ∗ at_ c arg12 (harg12.unread (iter1 KX VT Q m a g n).a)
          ∗ at_ c arg13 (harg13.unread (iter1 KX VT Q m a g n).g) ∗ ∃ p, at_ c arg14 p)) ?_)
  · iintro ⟨H6, H9, H10, H11, H12, H13, H14⟩
    isplitl [H6 H9 H10 H11 H12 H13 H14]
    · isplitl [H6]; · iexact H6
      isplitl [H9]; · iexact H9
      isplitl [H10]; · iexact H10
      isplitl [H11]; · iexact H11
      isplitl [H12]; · iexact H12
      isplitl [H13]; · iexact H13
      iexists p
      iexact H14
    · iintro %acc H
      iexact H
  · intro k acc
    iintro ⟨H6, H9, H10, H11, H12, H13, %q, H14⟩
    rw [iter1_succ]
    iapply (trip1 c i arg3 harg3 arg4 harg4 arg5 harg5 arg6 harg6 arg7 harg7 arg8 harg8 arg9 harg9 arg10 harg10 arg11 harg11 arg12 harg12 arg13 harg13 arg14 harg14 c0 KX VT Q (iter1 KX VT Q m a g k.val) q k E)
    isplitl [H6]; · iexact H6
    isplitl [H9]; · iexact H9
    isplitl [H10]; · iexact H10
    isplitl [H11]; · iexact H11
    isplitl [H12]; · iexact H12
    isplitl [H13]; · iexact H13
    iexact H14

/-- The second loop, from `m`, `a`. -/
theorem loop2 (c : Dev nD) (i : grid0.Coords) (arg3 : Memref sig .tc .vmem S4x64 .f32) (harg3 : arg3.IsWhole) (arg4 : Memref sig .tc .vmem S128x1 .f32) (harg4 : arg4.IsWhole) (arg5 : Memref sig .tc .vmem S1x1024x128 .bf16) (harg5 : arg5.IsWhole) (arg6 : Memref sig .tc .vmem S1x16640x128 .bf16) (harg6 : arg6.IsWhole) (arg7 : Memref sig .tc .vmem S1x16640x128 .bf16) (harg7 : arg7.IsWhole) (arg8 : Memref sig .tc .vmem S1x1024x128 .bf16) (harg8 : arg8.IsWhole) (arg9 : Memref sig .tc .vmem S128x16640 .bf16) (harg9 : arg9.IsWhole) (arg10 : Memref sig .tc .vmem S128x2048 .bf16) (harg10 : arg10.IsWhole) (arg11 : Memref sig .tc .vmem S1x2048 .f32) (harg11 : arg11.IsWhole) (arg12 : Memref sig .tc .vmem S144x2048 .f32) (harg12 : arg12.IsWhole) (arg13 : Memref sig .tc .vmem S1x2048 .f32) (harg13 : arg13.IsWhole) (arg14 : Memref sig .tc .vmem S4352x2048 .bf16) (harg14 : arg14.IsWhole) (u w : FVec F S1x2048 .f32)
    (KX : Vec F S1x16640x128 .bf16) (VT : Vec F S128x16640 .bf16) (Q : Vec F S128x2048 .bf16)
    (m : Vec F S1x2048 .f32) (a : Vec F S144x2048 .f32) (E : Set ℕ) :
    iprop(at_ c arg6 (harg6.unread KX) ∗ at_ c arg9 (harg9.unread VT) ∗ at_ c arg10 (harg10.unread Q)
      ∗ at_ c arg11 (harg11.unread m) ∗ at_ c arg12 (harg12.unread a))
      ⊢ wp frame (wpE (defs₀ (F := F)) Variants.none (c : Thread nD τ) none) E
        (Scf.Loop.for k0_t2_loop k0_t2_ok ⟨⟩ (k0_t2_body (F := F) i arg3 harg3 arg4 harg4 arg5 harg5 arg6 harg6 arg7 harg7 arg8 harg8 arg9 harg9 arg10 harg10 arg11 harg11 arg12 harg12 arg13 harg13 arg14 harg14 u w))
        (fun _ => iprop(at_ c arg6 (harg6.unread KX) ∗ at_ c arg9 (harg9.unread VT) ∗ at_ c arg10 (harg10.unread Q)
          ∗ at_ c arg11 (harg11.unread (iter2 KX VT Q m a k0_t2_loop.trips).1)
          ∗ at_ c arg12 (harg12.unread (iter2 KX VT Q m a k0_t2_loop.trips).2))) := by
  refine .trans ?_ (Scf.wp_for _ _ _ _ _ _ _ _ _ (fun n _ => iprop(at_ c arg6 (harg6.unread KX) ∗ at_ c arg9 (harg9.unread VT) ∗ at_ c arg10 (harg10.unread Q)
          ∗ at_ c arg11 (harg11.unread (iter2 KX VT Q m a n).1)
          ∗ at_ c arg12 (harg12.unread (iter2 KX VT Q m a n).2))) ?_)
  · iintro ⟨H6, H9, H10, H11, H12⟩
    isplitl [H6 H9 H10 H11 H12]
    · isplitl [H6]; · iexact H6
      isplitl [H9]; · iexact H9
      isplitl [H10]; · iexact H10
      isplitl [H11]; · iexact H11
      iexact H12
    · iintro %acc H
      iexact H
  · intro k acc
    rw [iter2_succ]
    exact trip2 c i arg3 harg3 arg4 harg4 arg5 harg5 arg6 harg6 arg7 harg7 arg8 harg8 arg9 harg9 arg10 harg10 arg11 harg11 arg12 harg12 arg13 harg13 arg14 harg14 u w KX VT Q (iter2 KX VT Q m a k.val) k E

end Cert.Attn

end
-- ==== Proof.Prep.lean ====
/-
  What the kernel does at the start of a grid point: it transposes the values (at the first tile of queries of a head),
  transposes the queries, and clears what it carries over the keys.
-/
module

public import proofs.«01_k».proof.Proof.Trip
public import Idealize.ShloMosaic.Lib.PointwiseCore

@[expose] public section

set_option maxRecDepth 8192
set_option maxHeartbeats 4000000

noncomputable section

namespace Cert.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- The transposed values: entry `(d, key)` is entry `(0, key, d)`, through the two casts the kernel makes. -/
def VT (X : Vec F S1x16640x128 .bf16) : Vec F S128x16640 .bf16 :=
  fun y => FloatOps.truncf .bf16 bitsLt_bf16_f32 (FloatOps.extf .f32 bitsLt_bf16_f32 (X (ix3 0 (y 1) (y 0))))

/-- A block of transposed values at an index. -/
theorem pay2_apply (v : Vec F S1x256x128 .bf16) (x : S128x256.Idx) :
    k0_pay2 v x = FloatOps.truncf .bf16 bitsLt_bf16_f32 (FloatOps.extf .f32 bitsLt_bf16_f32 (v (ix3 0 (x 1) (x 0)))) := by
  pointwise [k0_pay2]

/-- A list of stores leaves the transposed values of the keys below `n`. -/
def Below (X : Vec F S1x16640x128 .bf16) (n : ℕ) (L : List (View.Piece (Elt F) S128x16640 .bf16)) : Prop :=
  ∀ y : S128x16640.Idx, (y 1).val < n → (∃ p ∈ L, y ∈ p.1.set) ∧ View.canon L y = VT X y

/-- One more block of 256 keys stored. -/
theorem Below.cons {X : Vec F S1x16640x128 .bf16} {n : ℕ} {L : List (View.Piece (Elt F) S128x16640 .bf16)} (h : Below X n L)
    (i1 : ∀ a, (![0, n] : Fin 2 → ℕ) a + S128x256.size a ≤ S128x16640.size a)
    (i2 : ∀ a, (![0, n, 0] : Fin 3 → ℕ) a + S1x256x128.size a ≤ S1x16640x128.size a) :
    Below X (n + 256) (⟨Rect.unit (s := S128x16640) ![0, n] S128x256.size i1,
      k0_pay2 (View.ld X (Rect.unit (s := S1x16640x128) ![0, n, 0] S1x256x128.size i2))⟩ :: L) := by
  intro y hy
  by_cases hm : y ∈ (Rect.unit (s := S128x16640) ![0, n] S128x256.size i1).set
  · refine ⟨⟨_, List.mem_cons_self, hm⟩, ?_⟩
    obtain ⟨x, rfl⟩ := (Rect.unit (s := S128x16640) ![0, n] S128x256.size i1).exists_idx_of_mem hm
    refine (View.canon_cons_emb (Val := Elt F) _ _ _ x).trans ?_
    rw [pay2_apply]
    pointwise [VT]
  · have hlt : (y 1).val < n := by
      by_contra hge
      refine hm (Rect.mem_set_unit.mpr fun a => ?_)
      match a with
      | ⟨0, _⟩ => exact ⟨Nat.zero_le _, lt_of_lt_of_eq (y 0).isLt (Nat.zero_add _).symm⟩
      | ⟨1, _⟩ => exact ⟨Nat.le_of_not_lt hge, hy⟩
    obtain ⟨⟨p, hp, hpy⟩, e⟩ := h y hlt
    refine ⟨⟨p, List.mem_cons_of_mem _ hp, hpy⟩, ?_⟩
    exact Eq.trans (View.canon_cons_of_not_mem (Val := Elt F) (s := S128x16640) (e := .bf16) _ L hm) e

/-- The first tile of queries of a head: the kernel transposes the values before anything else. -/
theorem prep_first (c : Dev nD) (i : grid0.Coords) (arg3 : Memref sig .tc .vmem S4x64 .f32) (harg3 : arg3.IsWhole) (arg4 : Memref sig .tc .vmem S128x1 .f32) (harg4 : arg4.IsWhole) (arg5 : Memref sig .tc .vmem S1x1024x128 .bf16) (harg5 : arg5.IsWhole) (arg6 : Memref sig .tc .vmem S1x16640x128 .bf16) (harg6 : arg6.IsWhole) (arg7 : Memref sig .tc .vmem S1x16640x128 .bf16) (harg7 : arg7.IsWhole) (arg8 : Memref sig .tc .vmem S1x1024x128 .bf16) (harg8 : arg8.IsWhole) (arg9 : Memref sig .tc .vmem S128x16640 .bf16) (harg9 : arg9.IsWhole) (arg10 : Memref sig .tc .vmem S128x2048 .bf16) (harg10 : arg10.IsWhole) (arg11 : Memref sig .tc .vmem S1x2048 .f32) (harg11 : arg11.IsWhole) (arg12 : Memref sig .tc .vmem S144x2048 .f32) (harg12 : arg12.IsWhole) (arg13 : Memref sig .tc .vmem S1x2048 .f32) (harg13 : arg13.IsWhole) (arg14 : Memref sig .tc .vmem S4352x2048 .bf16) (harg14 : arg14.IsWhole) (h0 : (i 2).val = 0)
    (q : Vec F S1x1024x128 .bf16) (X : Vec F S1x16640x128 .bf16)
    (p9 : arg9.view.ty.Contents (Elt F)) (p10 : arg10.view.ty.Contents (Elt F)) (p11 : arg11.view.ty.Contents (Elt F))
    (p12 : arg12.view.ty.Contents (Elt F)) (p13 : arg13.view.ty.Contents (Elt F)) (E : Set ℕ) :
    iprop(at_ c arg5 (harg5.unread q) ∗ at_ c arg7 (harg7.unread X) ∗ at_ c arg9 p9 ∗ at_ c arg10 p10 ∗ at_ c arg11 p11
      ∗ at_ c arg12 p12 ∗ at_ c arg13 p13)
      ⊢ wp frame (wpE (defs₀ (F := F)) Variants.none (c : Thread nD τ) none) E
        (k0_part27 (F := F) i arg3 harg3 arg4 harg4 arg5 harg5 arg6 harg6 arg7 harg7 arg8 harg8 arg9 harg9 arg10 harg10 arg11 harg11 arg12 harg12 arg13 harg13 arg14 harg14)
        (fun _ => iprop(at_ c arg5 (harg5.unread q) ∗ at_ c arg7 (harg7.unread X) ∗ at_ c arg9 (harg9.unread (VT X))
          ∗ at_ c arg10 (harg10.unread (k0_pay96 q)) ∗ at_ c arg11 (harg11.unread k0_pay97)
          ∗ at_ c arg12 (harg12.unread k0_pay98) ∗ at_ c arg13 (harg13.unread k0_pay99))) := by
  rw [k0_part27_eq_skeleton]
  unfold k0_part27_skel
  have hc : Scalar.cmpi .ne (Scalar.extui (Scalar.cmpi .eq (BitVec.ofNat 32 (i 2).val) 0#32) : BitVec 32) 0#32 = 1#1 := by
    rw [h0]; rfl
  iintro ⟨HR_arg5, HR_arg7, HW_arg9, HW_arg10, HW_arg11, HW_arg12, HW_arg13⟩
  sl_exec
  sl_step
  simp only [readAt_whole harg5 z3, writes_whole harg10 z2, writes_whole harg11 z2, writes_whole harg12 z2, writes_whole harg13 z2]
  have e9 : ∀ L, Below X 16640 L → arg9.view.writes (Elt F) p9 L = harg9.unread (VT X) := by
    intro L hL
    refine harg9.eq_unread ?_
    rw [View.read_writes_eq_canon _ _ _ (fun y => (hL y (y 1).isLt).1)]
    exact funext fun y => (hL y (y 1).isLt).2
  isplitl [HR_arg5]; · iexact HR_arg5
  isplitl [HR_arg7]; · iexact HR_arg7
  isplitl [HW_arg9]
  · rw [e9 _ ?_]
    · iexact HW_arg9
    delta prep_first.sl.r_10 prep_first.sl.r_9 prep_first.sl.r_8 prep_first.sl.r_7 prep_first.sl.r_6 prep_first.sl.r_5 prep_first.sl.r_4 prep_first.sl.r_3 prep_first.sl.r_2 prep_first.sl.r_1 prep_first.sl.r
    simp only [readAt_part]
    iterate 65 refine Below.cons (F := F) (X := X) ?_ _ _
    intro y hy
    exact absurd hy (Nat.not_lt_zero _)
  isplitl [HW_arg10]; · iexact HW_arg10
  isplitl [HW_arg11]; · iexact HW_arg11
  isplitl [HW_arg12]; · iexact HW_arg12
  iexact HW_arg13

/-- A later tile of queries of a head: the transposed values are there already. -/
theorem prep_later (c : Dev nD) (i : grid0.Coords) (arg3 : Memref sig .tc .vmem S4x64 .f32) (harg3 : arg3.IsWhole) (arg4 : Memref sig .tc .vmem S128x1 .f32) (harg4 : arg4.IsWhole) (arg5 : Memref sig .tc .vmem S1x1024x128 .bf16) (harg5 : arg5.IsWhole) (arg6 : Memref sig .tc .vmem S1x16640x128 .bf16) (harg6 : arg6.IsWhole) (arg7 : Memref sig .tc .vmem S1x16640x128 .bf16) (harg7 : arg7.IsWhole) (arg8 : Memref sig .tc .vmem S1x1024x128 .bf16) (harg8 : arg8.IsWhole) (arg9 : Memref sig .tc .vmem S128x16640 .bf16) (harg9 : arg9.IsWhole) (arg10 : Memref sig .tc .vmem S128x2048 .bf16) (harg10 : arg10.IsWhole) (arg11 : Memref sig .tc .vmem S1x2048 .f32) (harg11 : arg11.IsWhole) (arg12 : Memref sig .tc .vmem S144x2048 .f32) (harg12 : arg12.IsWhole) (arg13 : Memref sig .tc .vmem S1x2048 .f32) (harg13 : arg13.IsWhole) (arg14 : Memref sig .tc .vmem S4352x2048 .bf16) (harg14 : arg14.IsWhole) (h0 : (i 2).val ≠ 0)
    (q : Vec F S1x1024x128 .bf16) (X : Vec F S1x16640x128 .bf16)
    (p10 : arg10.view.ty.Contents (Elt F)) (p11 : arg11.view.ty.Contents (Elt F))
    (p12 : arg12.view.ty.Contents (Elt F)) (p13 : arg13.view.ty.Contents (Elt F)) (E : Set ℕ) :
    iprop(at_ c arg5 (harg5.unread q) ∗ at_ c arg7 (harg7.unread X) ∗ at_ c arg9 (harg9.unread (VT X)) ∗ at_ c arg10 p10 ∗ at_ c arg11 p11
      ∗ at_ c arg12 p12 ∗ at_ c arg13 p13)
      ⊢ wp frame (wpE (defs₀ (F := F)) Variants.none (c : Thread nD τ) none) E
        (k0_part27 (F := F) i arg3 harg3 arg4 harg4 arg5 harg5 arg6 harg6 arg7 harg7 arg8 harg8 arg9 harg9 arg10 harg10 arg11 harg11 arg12 harg12 arg13 harg13 arg14 harg14)
        (fun _ => iprop(at_ c arg5 (harg5.unread q) ∗ at_ c arg7 (harg7.unread X) ∗ at_ c arg9 (harg9.unread (VT X))
          ∗ at_ c arg10 (harg10.unread (k0_pay96 q)) ∗ at_ c arg11 (harg11.unread k0_pay97)
          ∗ at_ c arg12 (harg12.unread k0_pay98) ∗ at_ c arg13 (harg13.unread k0_pay99))) := by
  rw [k0_part27_eq_skeleton]
  unfold k0_part27_skel
  have hc : ¬ Scalar.cmpi .ne (Scalar.extui (Scalar.cmpi .eq (BitVec.ofNat 32 (i 2).val) 0#32) : BitVec 32) 0#32 = 1#1 := by
    have hlt : (i 2).val < 16 := (i 2).isLt
    generalize (i 2).val = n at h0 hlt
    interval_cases n <;> first | exact absurd rfl h0 | decide
  iintro ⟨HR_arg5, HR_arg7, HW_arg9, HW_arg10, HW_arg11, HW_arg12, HW_arg13⟩
  sl_exec
  sl_step
  simp only [readAt_whole harg5 z3, writes_whole harg10 z2, writes_whole harg11 z2, writes_whole harg12 z2, writes_whole harg13 z2]
  isplitl [HR_arg5]; · iexact HR_arg5
  isplitl [HR_arg7]; · iexact HR_arg7
  isplitl [HW_arg9]; · iexact HW_arg9
  isplitl [HW_arg10]; · iexact HW_arg10
  isplitl [HW_arg11]; · iexact HW_arg11
  isplitl [HW_arg12]; · iexact HW_arg12
  iexact HW_arg13

end Cert.Attn

end
-- ==== Proof.Point.lean ====
/-
  One grid point of the attention kernel, run once over any floats: from the blocks it is given it stores `outv` of them.
-/
module

public import proofs.«01_k».proof.Proof.Prep

@[expose] public section

set_option maxRecDepth 8192
set_option maxHeartbeats 4000000

noncomputable section

namespace Cert.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- What follows a program whose run is known. -/
theorem seq_run {c : Dev nD} {E : Set ℕ} {α β : Type} {P : sProp 𝕄G} {p : Prog (TpuEff nD τ sig (Elt F) Λ₀ .tc) α}
    {Q : α → sProp 𝕄G} {k : α → Prog (TpuEff nD τ sig (Elt F) Λ₀ .tc) β} {Q' : β → sProp 𝕄G}
    (h : P ⊢ wp frame (wpE (defs₀ (F := F)) Variants.none (c : Thread nD τ) none) E p Q) :
    P ⊢ iprop((∀ a, Q a -∗ wp frame (wpE (defs₀ (F := F)) Variants.none (c : Thread nD τ) none) E (k a) Q')
      -∗ wp frame (wpE (defs₀ (F := F)) Variants.none (c : Thread nD τ) none) E (p >>= k) Q') := by
  rw [wp_bind]
  exact h.trans (wp_wand _ _ _)

/-- A load of a whole buffer that stores cover reads what they leave. -/
theorem readCov_whole {s : Shape} {e : EltTy} {sp : Space} (v : View sig .tc sp s e) {off : Fin s.rank → ℕ} (h0 : off = fun _ => 0)
    (inb : ∀ a, off a + s.size a ≤ s.size a) (L : List (View.Piece (Elt F) s e)) :
    v.readCov L (Rect.unit off s.size inb).toLoadRect = View.canon L := by
  rw [View.readCov_eq_canon']
  exact View.ld_unit_zero h0 inb (View.canon L)

/-- Parts 29 to 38, the rest of the last block of keys, before a program `K` of its two results. -/
def mid (i : grid0.Coords) (arg3 : Memref sig .tc .vmem S4x64 .f32) (harg3 : arg3.IsWhole) (arg4 : Memref sig .tc .vmem S128x1 .f32) (harg4 : arg4.IsWhole) (arg5 : Memref sig .tc .vmem S1x1024x128 .bf16) (harg5 : arg5.IsWhole) (arg6 : Memref sig .tc .vmem S1x16640x128 .bf16) (harg6 : arg6.IsWhole) (arg7 : Memref sig .tc .vmem S1x16640x128 .bf16) (harg7 : arg7.IsWhole) (arg8 : Memref sig .tc .vmem S1x1024x128 .bf16) (harg8 : arg8.IsWhole) (arg9 : Memref sig .tc .vmem S128x16640 .bf16) (harg9 : arg9.IsWhole) (arg10 : Memref sig .tc .vmem S128x2048 .bf16) (harg10 : arg10.IsWhole) (arg11 : Memref sig .tc .vmem S1x2048 .f32) (harg11 : arg11.IsWhole) (arg12 : Memref sig .tc .vmem S144x2048 .f32) (harg12 : arg12.IsWhole) (arg13 : Memref sig .tc .vmem S1x2048 .f32) (harg13 : arg13.IsWhole) (arg14 : Memref sig .tc .vmem S4352x2048 .bf16) (harg14 : arg14.IsWhole) (K : FVec F S1x2048 .f32 → FVec F S1x2048 .f32 → Prog (TpuEff nD τ sig (Elt F) Λ₀ .tc) PUnit)
    (v33 : Vec F S1x2048 .f32) (v41 : FVec F S2048x2048 .bf16) (v75 v76 : FVec F S16x2048 .bf16) :
    Prog (TpuEff nD τ sig (Elt F) Λ₀ .tc) PUnit :=
  k0_part29 i arg3 harg3 arg4 harg4 arg5 harg5 arg6 harg6 arg7 harg7 arg8 harg8 arg9 harg9 arg10 harg10 arg11 harg11 arg12 harg12 arg13 harg13 arg14 harg14 v41 v75 v76 >>= fun r29 =>
  k0_part30 i arg3 harg3 arg4 harg4 arg5 harg5 arg6 harg6 arg7 harg7 arg8 harg8 arg9 harg9 arg10 harg10 arg11 harg11 arg12 harg12 arg13 harg13 arg14 harg14 v41 r29.1 r29.2 >>= fun r30 =>
  k0_part31 i arg3 harg3 arg4 harg4 arg5 harg5 arg6 harg6 arg7 harg7 arg8 harg8 arg9 harg9 arg10 harg10 arg11 harg11 arg12 harg12 arg13 harg13 arg14 harg14 v41 r30.1 r30.2 >>= fun r31 =>
  k0_part32 i arg3 harg3 arg4 harg4 arg5 harg5 arg6 harg6 arg7 harg7 arg8 harg8 arg9 harg9 arg10 harg10 arg11 harg11 arg12 harg12 arg13 harg13 arg14 harg14 v33 v41 r31.1 r31.2 >>= fun r32 =>
  k0_part33 i arg3 harg3 arg4 harg4 arg5 harg5 arg6 harg6 arg7 harg7 arg8 harg8 arg9 harg9 arg10 harg10 arg11 harg11 arg12 harg12 arg13 harg13 arg14 harg14 r32.1 r32.2.1 r32.2.2 >>= fun r33 =>
  k0_part34 i arg3 harg3 arg4 harg4 arg5 harg5 arg6 harg6 arg7 harg7 arg8 harg8 arg9 harg9 arg10 harg10 arg11 harg11 arg12 harg12 arg13 harg13 arg14 harg14 r32.2.1 r33.1 r33.2 >>= fun r34 =>
  k0_part35 i arg3 harg3 arg4 harg4 arg5 harg5 arg6 harg6 arg7 harg7 arg8 harg8 arg9 harg9 arg10 harg10 arg11 harg11 arg12 harg12 arg13 harg13 arg14 harg14 r32.2.1 r34.1 r34.2 >>= fun r35 =>
  k0_part36 i arg3 harg3 arg4 harg4 arg5 harg5 arg6 harg6 arg7 harg7 arg8 harg8 arg9 harg9 arg10 harg10 arg11 harg11 arg12 harg12 arg13 harg13 arg14 harg14 r32.2.1 r35.1 r35.2 >>= fun r36 =>
  k0_part37 i arg3 harg3 arg4 harg4 arg5 harg5 arg6 harg6 arg7 harg7 arg8 harg8 arg9 harg9 arg10 harg10 arg11 harg11 arg12 harg12 arg13 harg13 arg14 harg14 v33 r32.2.1 r36.1 r36.2 >>= fun r37 =>
  k0_part38 i arg3 harg3 arg4 harg4 arg5 harg5 arg6 harg6 arg7 harg7 arg8 harg8 arg9 harg9 arg10 harg10 arg11 harg11 arg12 harg12 arg13 harg13 arg14 harg14 v33 r37.1 r37.2.1 r37.2.2 >>= fun r38 =>
  K r38.1 r38.2

/-- Part 39 and the store of the block. -/
def rest (i : grid0.Coords) (arg3 : Memref sig .tc .vmem S4x64 .f32) (harg3 : arg3.IsWhole) (arg4 : Memref sig .tc .vmem S128x1 .f32) (harg4 : arg4.IsWhole) (arg5 : Memref sig .tc .vmem S1x1024x128 .bf16) (harg5 : arg5.IsWhole) (arg6 : Memref sig .tc .vmem S1x16640x128 .bf16) (harg6 : arg6.IsWhole) (arg7 : Memref sig .tc .vmem S1x16640x128 .bf16) (harg7 : arg7.IsWhole) (arg8 : Memref sig .tc .vmem S1x1024x128 .bf16) (harg8 : arg8.IsWhole) (arg9 : Memref sig .tc .vmem S128x16640 .bf16) (harg9 : arg9.IsWhole) (arg10 : Memref sig .tc .vmem S128x2048 .bf16) (harg10 : arg10.IsWhole) (arg11 : Memref sig .tc .vmem S1x2048 .f32) (harg11 : arg11.IsWhole) (arg12 : Memref sig .tc .vmem S144x2048 .f32) (harg12 : arg12.IsWhole) (arg13 : Memref sig .tc .vmem S1x2048 .f32) (harg13 : arg13.IsWhole) (arg14 : Memref sig .tc .vmem S4352x2048 .bf16) (harg14 : arg14.IsWhole) (u w : FVec F S1x2048 .f32) : Prog (TpuEff nD τ sig (Elt F) Λ₀ .tc) PUnit :=
  k0_part39 i arg3 harg3 arg4 harg4 arg5 harg5 arg6 harg6 arg7 harg7 arg8 harg8 arg9 harg9 arg10 harg10 arg11 harg11 arg12 harg12 arg13 harg13 arg14 harg14 u w >>= fun r39 => do
  let v702 : Vec F S128x1 .f32 ← Prog.lift (.load arg4 (Rect.unit (s := S128x1) ![0, 0] S128x1.size inb_S128x1_S128x1_0_0).toLoadRect (View.loadsAt_vmem h_S128x1))
  let v710 : Vec F S1x1024x128 .bf16 ← Prog.lift (.load arg8 (Rect.unit (s := S1x1024x128) ![0, 0, 0] S1x1024x128.size inb_S1x1024x128_S1x1024x128_0_0_0).toLoadRect (View.loadsAt_vmem h_S1x1024x128))
  Prog.lift (.store arg8 (Rect.unit (s := S1x1024x128) ![0, 0, 0] S1x1024x128.size inb_S1x1024x128_S1x1024x128_0_0_0) (k0_pay1 (r39.1) (r39.2.1) (r39.2.2) v702) Finset.univ (View.stores_vmem h_S1x1024x128 (harg8.storeExact_slice rfl _ packedbf16_S1x1024x128_S1x1024x128_0_0_0) (fun _ => rfl)) (.inl rfl))
  pure ⟨⟩

set_option maxRecDepth 65536 in
/-- A grid point is its preparation, the first loop and the last block, and `rest`. -/
theorem body_eq (i : grid0.Coords) (arg3 : Memref sig .tc .vmem S4x64 .f32) (harg3 : arg3.IsWhole) (arg4 : Memref sig .tc .vmem S128x1 .f32) (harg4 : arg4.IsWhole) (arg5 : Memref sig .tc .vmem S1x1024x128 .bf16) (harg5 : arg5.IsWhole) (arg6 : Memref sig .tc .vmem S1x16640x128 .bf16) (harg6 : arg6.IsWhole) (arg7 : Memref sig .tc .vmem S1x16640x128 .bf16) (harg7 : arg7.IsWhole) (arg8 : Memref sig .tc .vmem S1x1024x128 .bf16) (harg8 : arg8.IsWhole) (arg9 : Memref sig .tc .vmem S128x16640 .bf16) (harg9 : arg9.IsWhole) (arg10 : Memref sig .tc .vmem S128x2048 .bf16) (harg10 : arg10.IsWhole) (arg11 : Memref sig .tc .vmem S1x2048 .f32) (harg11 : arg11.IsWhole) (arg12 : Memref sig .tc .vmem S144x2048 .f32) (harg12 : arg12.IsWhole) (arg13 : Memref sig .tc .vmem S1x2048 .f32) (harg13 : arg13.IsWhole) (arg14 : Memref sig .tc .vmem S4352x2048 .bf16) (harg14 : arg14.IsWhole) :
    cc0_diff_attn (F := F) i arg3 harg3 arg4 harg4 arg5 harg5 arg6 harg6 arg7 harg7 arg8 harg8 arg9 harg9 arg10 harg10 arg11 harg11 arg12 harg12 arg13 harg13 arg14 harg14 = k0_part27 (F := F) i arg3 harg3 arg4 harg4 arg5 harg5 arg6 harg6 arg7 harg7 arg8 harg8 arg9 harg9 arg10 harg10 arg11 harg11 arg12 harg12 arg13 harg13 arg14 harg14 >>= fun c0 => k0_part28 i arg3 harg3 arg4 harg4 arg5 harg5 arg6 harg6 arg7 harg7 arg8 harg8 arg9 harg9 arg10 harg10 arg11 harg11 arg12 harg12 arg13 harg13 arg14 harg14 c0 >>= fun r =>
      mid i arg3 harg3 arg4 harg4 arg5 harg5 arg6 harg6 arg7 harg7 arg8 harg8 arg9 harg9 arg10 harg10 arg11 harg11 arg12 harg12 arg13 harg13 arg14 harg14 (rest i arg3 harg3 arg4 harg4 arg5 harg5 arg6 harg6 arg7 harg7 arg8 harg8 arg9 harg9 arg10 harg10 arg11 harg11 arg12 harg12 arg13 harg13 arg14 harg14) r.1 r.2.1 r.2.2.1 r.2.2.2 := rfl

/-- Part 28: the first loop, and the first 2048 keys of the last block. -/
theorem part28_run (c : Dev nD) (i : grid0.Coords) (arg3 : Memref sig .tc .vmem S4x64 .f32) (harg3 : arg3.IsWhole) (arg4 : Memref sig .tc .vmem S128x1 .f32) (harg4 : arg4.IsWhole) (arg5 : Memref sig .tc .vmem S1x1024x128 .bf16) (harg5 : arg5.IsWhole) (arg6 : Memref sig .tc .vmem S1x16640x128 .bf16) (harg6 : arg6.IsWhole) (arg7 : Memref sig .tc .vmem S1x16640x128 .bf16) (harg7 : arg7.IsWhole) (arg8 : Memref sig .tc .vmem S1x1024x128 .bf16) (harg8 : arg8.IsWhole) (arg9 : Memref sig .tc .vmem S128x16640 .bf16) (harg9 : arg9.IsWhole) (arg10 : Memref sig .tc .vmem S128x2048 .bf16) (harg10 : arg10.IsWhole) (arg11 : Memref sig .tc .vmem S1x2048 .f32) (harg11 : arg11.IsWhole) (arg12 : Memref sig .tc .vmem S144x2048 .f32) (harg12 : arg12.IsWhole) (arg13 : Memref sig .tc .vmem S1x2048 .f32) (harg13 : arg13.IsWhole) (arg14 : Memref sig .tc .vmem S4352x2048 .bf16) (harg14 : arg14.IsWhole) (c0 : BitVec 32)
    (KX : Vec F S1x16640x128 .bf16) (VT : Vec F S128x16640 .bf16) (Q : Vec F S128x2048 .bf16)
    (m : Vec F S1x2048 .f32) (a : Vec F S144x2048 .f32) (g : Vec F S1x2048 .f32)
    (p : arg14.view.ty.Contents (Elt F)) (E : Set ℕ) :
    iprop(at_ c arg6 (harg6.unread KX) ∗ at_ c arg9 (harg9.unread VT) ∗ at_ c arg10 (harg10.unread Q)
      ∗ at_ c arg11 (harg11.unread m) ∗ at_ c arg12 (harg12.unread a) ∗ at_ c arg13 (harg13.unread g) ∗ at_ c arg14 p)
      ⊢ wp frame (wpE (defs₀ (F := F)) Variants.none (c : Thread nD τ) none) E (k0_part28 (F := F) i arg3 harg3 arg4 harg4 arg5 harg5 arg6 harg6 arg7 harg7 arg8 harg8 arg9 harg9 arg10 harg10 arg11 harg11 arg12 harg12 arg13 harg13 arg14 harg14 c0)
        (fun r => iprop(⌜r = ⟨(iter1 KX VT Q m a g k0_t1_loop.trips).m, k0_pay103 (iter1 KX VT Q m a g k0_t1_loop.trips).m (keysC KX) Q,
            k0_pay105 (iter1 KX VT Q m a g k0_t1_loop.trips).m (keysC KX) Q, k0_pay106 (iter1 KX VT Q m a g k0_t1_loop.trips).m (keysC KX) Q⟩⌝
          ∗ at_ c arg6 (harg6.unread KX) ∗ at_ c arg9 (harg9.unread VT) ∗ at_ c arg10 (harg10.unread Q)
          ∗ at_ c arg11 (harg11.unread (iter1 KX VT Q m a g k0_t1_loop.trips).m)
          ∗ at_ c arg12 (harg12.unread (iter1 KX VT Q m a g k0_t1_loop.trips).a)
          ∗ at_ c arg13 (harg13.unread (iter1 KX VT Q m a g k0_t1_loop.trips).g)
          ∗ ∃ p, at_ c arg14 (arg14.view.writes (Elt F) p [⟨Rect.unit (s := S4352x2048) ![0, 0] S2048x2048.size inb_S4352x2048_S2048x2048_0_0,
              k0_pay104 (iter1 KX VT Q m a g k0_t1_loop.trips).m (keysC KX) Q⟩]))) := by
  rw [k0_part28_eq_skeleton]
  unfold k0_part28_skel
  iintro ⟨H6, H9, H10, H11, H12, H13, H14⟩
  iapply (seq_run (loop1 c i arg3 harg3 arg4 harg4 arg5 harg5 arg6 harg6 arg7 harg7 arg8 harg8 arg9 harg9 arg10 harg10 arg11 harg11 arg12 harg12 arg13 harg13 arg14 harg14 c0 KX VT Q m a g E p)) $$ [H6 H9 H10 H11 H12 H13 H14]
  · isplitl [H6]; · iexact H6
    isplitl [H9]; · iexact H9
    isplitl [H10]; · iexact H10
    isplitl [H11]; · iexact H11
    isplitl [H12]; · iexact H12
    isplitl [H13]; · iexact H13
    iexact H14
  iintro %acc ⟨H6, H9, H10, H11, H12, H13, %p', H14⟩
  generalize iter1 KX VT Q m a g k0_t1_loop.trips = s
  sl_exec
  sl_step
  simp only [readAt_whole harg10 z2, readAt_whole harg11 z2, readAt_part]
  isplitr; · ipureintro; rfl
  isplitl [H6]; · iexact H6
  isplitl [H9]; · iexact H9
  isplitl [H10]; · iexact H10
  isplitl [H11]; · iexact H11
  isplitl [H12]; · iexact H12
  isplitl [H13]; · iexact H13
  iexists p'
  iexact H14

/-- Parts 29 to 38, from what part 28 leaves. -/
theorem mid_run (c : Dev nD) (i : grid0.Coords) (arg3 : Memref sig .tc .vmem S4x64 .f32) (harg3 : arg3.IsWhole) (arg4 : Memref sig .tc .vmem S128x1 .f32) (harg4 : arg4.IsWhole) (arg5 : Memref sig .tc .vmem S1x1024x128 .bf16) (harg5 : arg5.IsWhole) (arg6 : Memref sig .tc .vmem S1x16640x128 .bf16) (harg6 : arg6.IsWhole) (arg7 : Memref sig .tc .vmem S1x16640x128 .bf16) (harg7 : arg7.IsWhole) (arg8 : Memref sig .tc .vmem S1x1024x128 .bf16) (harg8 : arg8.IsWhole) (arg9 : Memref sig .tc .vmem S128x16640 .bf16) (harg9 : arg9.IsWhole) (arg10 : Memref sig .tc .vmem S128x2048 .bf16) (harg10 : arg10.IsWhole) (arg11 : Memref sig .tc .vmem S1x2048 .f32) (harg11 : arg11.IsWhole) (arg12 : Memref sig .tc .vmem S144x2048 .f32) (harg12 : arg12.IsWhole) (arg13 : Memref sig .tc .vmem S1x2048 .f32) (harg13 : arg13.IsWhole) (arg14 : Memref sig .tc .vmem S4352x2048 .bf16) (harg14 : arg14.IsWhole)
    (K : FVec F S1x2048 .f32 → FVec F S1x2048 .f32 → Prog (TpuEff nD τ sig (Elt F) Λ₀ .tc) PUnit) (Ψ : PUnit → sProp 𝕄G)
    (KX : Vec F S1x16640x128 .bf16) (VT : Vec F S128x16640 .bf16) (Q : Vec F S128x2048 .bf16) (s : St F)
    (p : arg14.view.ty.Contents (Elt F)) (E : Set ℕ) :
    iprop(at_ c arg6 (harg6.unread KX) ∗ at_ c arg9 (harg9.unread VT) ∗ at_ c arg10 (harg10.unread Q)
      ∗ at_ c arg11 (harg11.unread s.m) ∗ at_ c arg12 (harg12.unread s.a)
      ∗ at_ c arg14 (arg14.view.writes (Elt F) p [⟨Rect.unit (s := S4352x2048) ![0, 0] S2048x2048.size inb_S4352x2048_S2048x2048_0_0,
              k0_pay104 s.m (keysC KX) Q⟩])
      ∗ (at_ c arg6 (harg6.unread KX) -∗ at_ c arg9 (harg9.unread VT) -∗ at_ c arg10 (harg10.unread Q)
        -∗ at_ c arg11 (harg11.unread s.m) -∗ at_ c arg12 (harg12.unread (last KX VT Q s).a) -∗ (∃ p, at_ c arg14 p)
        -∗ wp frame (wpE (defs₀ (F := F)) Variants.none (c : Thread nD τ) none) E
          (K (k0_pay128 (k0_pay124 s.m (keysE KX) Q) (pmax3 KX Q s.m) (k0_pay127 s.m (keysE KX) Q))
            (k0_pay129 s.m (k0_pay124 s.m (keysE KX) Q) (pmax3 KX Q s.m) (k0_pay127 s.m (keysE KX) Q))) Ψ))
      ⊢ wp frame (wpE (defs₀ (F := F)) Variants.none (c : Thread nD τ) none) E
        (mid (F := F) i arg3 harg3 arg4 harg4 arg5 harg5 arg6 harg6 arg7 harg7 arg8 harg8 arg9 harg9 arg10 harg10 arg11 harg11 arg12 harg12 arg13 harg13 arg14 harg14 K s.m (k0_pay103 s.m (keysC KX) Q) (k0_pay105 s.m (keysC KX) Q) (k0_pay106 s.m (keysC KX) Q)) Ψ := by
  unfold mid
  iintro ⟨H6, H9, H10, H11, H12, H14, HK⟩
  sl_exec
  rw [writes_whole harg12 z2]
  have e12 : k0_pay130 s.m (mid_run.sl.r_16 arg6 harg6 arg10 harg10 KX Q s)
            (mid_run.sl.r_17 arg6 harg6 arg10 harg10 KX Q s) (mid_run.sl.r_18 arg6 harg6 arg10 harg10 KX Q s)
            (View.readAt (Elt F) arg12.view (Rect.unit ![0, 0] S144x2048.size inb_S144x2048_S144x2048_0_0).toLoadRect
              (harg12.unread s.a))
            (View.readAt (Elt F) arg9.view
              (Rect.unit (s := S128x16640) ![0, 12288] S128x4352.size inb_S128x16640_S128x4352_0_12288).toLoadRect (harg9.unread VT))
            (mid_run.sl.v620 arg6 harg6 arg10 harg10 arg14 KX Q s) = (last KX VT Q s).a := by
    delta mid_run.sl.v620 mid_run.sl.H14_3 mid_run.sl.r_18 mid_run.sl.r_17 mid_run.sl.r_16 mid_run.sl.r_15 mid_run.sl.r_14 mid_run.sl.r_13 mid_run.sl.r_12 mid_run.sl.r_11 mid_run.sl.r_10 mid_run.sl.r_9 mid_run.sl.r_8 mid_run.sl.r_7 mid_run.sl.r_6 mid_run.sl.r_5 mid_run.sl.r_4 mid_run.sl.r_3 mid_run.sl.r_2 mid_run.sl.r_1 mid_run.sl.r
    simp only [readAt_whole harg10 z2, readAt_whole harg12 z2, readAt_part]
    rw [readCov_whole _ z2]
    rfl
  have e28 : k0_pay128 (mid_run.sl.r_16 arg6 harg6 arg10 harg10 KX Q s) (mid_run.sl.r_17 arg6 harg6 arg10 harg10 KX Q s)
              (mid_run.sl.r_18 arg6 harg6 arg10 harg10 KX Q s)
      = k0_pay128 (k0_pay124 s.m (keysE KX) Q) (pmax3 KX Q s.m) (k0_pay127 s.m (keysE KX) Q) := by
    delta mid_run.sl.r_18 mid_run.sl.r_17 mid_run.sl.r_16 mid_run.sl.r_15 mid_run.sl.r_14 mid_run.sl.r_13 mid_run.sl.r_12 mid_run.sl.r_11 mid_run.sl.r_10 mid_run.sl.r_9 mid_run.sl.r_8 mid_run.sl.r_7 mid_run.sl.r_6 mid_run.sl.r_5 mid_run.sl.r_4 mid_run.sl.r_3 mid_run.sl.r_2 mid_run.sl.r_1 mid_run.sl.r
    simp only [readAt_whole harg10 z2, readAt_whole harg12 z2, readAt_part]
    rfl
  have e29 : k0_pay129 s.m (mid_run.sl.r_16 arg6 harg6 arg10 harg10 KX Q s) (mid_run.sl.r_17 arg6 harg6 arg10 harg10 KX Q s)
              (mid_run.sl.r_18 arg6 harg6 arg10 harg10 KX Q s)
      = k0_pay129 s.m (k0_pay124 s.m (keysE KX) Q) (pmax3 KX Q s.m) (k0_pay127 s.m (keysE KX) Q) := by
    delta mid_run.sl.r_18 mid_run.sl.r_17 mid_run.sl.r_16 mid_run.sl.r_15 mid_run.sl.r_14 mid_run.sl.r_13 mid_run.sl.r_12 mid_run.sl.r_11 mid_run.sl.r_10 mid_run.sl.r_9 mid_run.sl.r_8 mid_run.sl.r_7 mid_run.sl.r_6 mid_run.sl.r_5 mid_run.sl.r_4 mid_run.sl.r_3 mid_run.sl.r_2 mid_run.sl.r_1 mid_run.sl.r
    simp only [readAt_whole harg10 z2, readAt_whole harg12 z2, readAt_part]
    rfl
  rw [e12]
  delta mid_run.sl.r_19 mid_run.sl.r_20
  rw [e28, e29]
  ispecialize HK $$ H6
  ispecialize HK $$ H9
  ispecialize HK $$ H10
  ispecialize HK $$ H11
  ispecialize HK $$ H12
  iapply HK
  iexists _
  iexact H14

end Cert.Attn

end
-- ==== Proof.Grid.lean ====
/-
  The end of a grid point, and the whole of it.
-/
module

public import proofs.«01_k».proof.Proof.Point

@[expose] public section

set_option maxRecDepth 8192
set_option maxHeartbeats 4000000

noncomputable section

namespace Cert.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

open Classical in
/-- Part 39: the step the exponent made is recorded; if the kernel must go over the keys again it does; and the weighted
    sums are read. -/
theorem part39_run (c : Dev nD) (i : grid0.Coords) (arg3 : Memref sig .tc .vmem S4x64 .f32) (harg3 : arg3.IsWhole) (arg4 : Memref sig .tc .vmem S128x1 .f32) (harg4 : arg4.IsWhole) (arg5 : Memref sig .tc .vmem S1x1024x128 .bf16) (harg5 : arg5.IsWhole) (arg6 : Memref sig .tc .vmem S1x16640x128 .bf16) (harg6 : arg6.IsWhole) (arg7 : Memref sig .tc .vmem S1x16640x128 .bf16) (harg7 : arg7.IsWhole) (arg8 : Memref sig .tc .vmem S1x1024x128 .bf16) (harg8 : arg8.IsWhole) (arg9 : Memref sig .tc .vmem S128x16640 .bf16) (harg9 : arg9.IsWhole) (arg10 : Memref sig .tc .vmem S128x2048 .bf16) (harg10 : arg10.IsWhole) (arg11 : Memref sig .tc .vmem S1x2048 .f32) (harg11 : arg11.IsWhole) (arg12 : Memref sig .tc .vmem S144x2048 .f32) (harg12 : arg12.IsWhole) (arg13 : Memref sig .tc .vmem S1x2048 .f32) (harg13 : arg13.IsWhole) (arg14 : Memref sig .tc .vmem S4352x2048 .bf16) (harg14 : arg14.IsWhole) (u w : FVec F S1x2048 .f32)
    (L : Vec F S4x64 .f32) (KX : Vec F S1x16640x128 .bf16) (VT : Vec F S128x16640 .bf16) (Q : Vec F S128x2048 .bf16) (s : St F) (E : Set ℕ) :
    iprop(at_ c arg3 (harg3.unread L) ∗ at_ c arg6 (harg6.unread KX) ∗ at_ c arg9 (harg9.unread VT) ∗ at_ c arg10 (harg10.unread Q)
      ∗ at_ c arg11 (harg11.unread s.m) ∗ at_ c arg12 (harg12.unread s.a) ∗ at_ c arg13 (harg13.unread s.g))
      ⊢ wp frame (wpE (defs₀ (F := F)) Variants.none (c : Thread nD τ) none) E (k0_part39 (F := F) i arg3 harg3 arg4 harg4 arg5 harg5 arg6 harg6 arg7 harg7 arg8 harg8 arg9 harg9 arg10 harg10 arg11 harg11 arg12 harg12 arg13 harg13 arg14 harg14 u w)
        (fun r => iprop(⌜r = ⟨if again ⟨k0_pay131 w, s.a, k0_pay132 u s.g⟩ then (iter2 KX VT Q k0_pay135 k0_pay136 k0_t2_loop.trips).2 else s.a,
            k0_pay137 L, k0_pay138⟩⌝
          ∗ at_ c arg3 (harg3.unread L) ∗ at_ c arg6 (harg6.unread KX) ∗ at_ c arg9 (harg9.unread VT) ∗ at_ c arg10 (harg10.unread Q)
          ∗ (∃ p, at_ c arg11 p) ∗ (∃ p, at_ c arg12 p) ∗ ∃ p, at_ c arg13 p)) := by
  rw [k0_part39_eq_skeleton]
  unfold k0_part39_skel
  iintro ⟨H3, H6, H9, H10, H11, H12, H13⟩
  sl_exec
  have hA : (part39_run.sl.v661 arg12 harg12 arg13 harg13 u s = 1#1) = again ⟨k0_pay131 w, s.a, k0_pay132 u s.g⟩ := by
    delta part39_run.sl.v661 part39_run.sl.v660 part39_run.sl.v659 part39_run.sl.v657 part39_run.sl.v658
    delta part39_run.sl.v652 part39_run.sl.H13_1
    simp only [readAt_whole harg13 z2, readAt_part, View.readCov_cons_toLoadRect]
    rfl
  by_cases hC : part39_run.sl.v661 arg12 harg12 arg13 harg13 u s = 1#1
  · rw [if_pos hC, if_pos (hA ▸ hC)]
    sl_exec
    delta part39_run.sl.H11_2 part39_run.sl.H12_1
    rw [writes_whole harg11 z2, writes_whole harg12 z2]
    iapply (seq_run (loop2 c i arg3 harg3 arg4 harg4 arg5 harg5 arg6 harg6 arg7 harg7 arg8 harg8 arg9 harg9 arg10 harg10 arg11 harg11 arg12 harg12 arg13 harg13 arg14 harg14 u w KX VT Q k0_pay135 k0_pay136 E)) $$ [H6 H9 H10 H11 H12]
    · isplitl [H6]; · iexact H6
      isplitl [H9]; · iexact H9
      isplitl [H10]; · iexact H10
      isplitl [H11]; · iexact H11
      iexact H12
    iintro %acc ⟨H6, H9, H10, H11, H12⟩
    sl_exec
    sl_step
    rw [readAt_whole harg12 z2, readAt_whole harg3 z2]
    isplitr; · ipureintro; rfl
    isplitl [H3]; · iexact H3
    isplitl [H6]; · iexact H6
    isplitl [H9]; · iexact H9
    isplitl [H10]; · iexact H10
    isplitl [H11]; · iexists _; iexact H11
    isplitl [H12]; · iexists _; iexact H12
    iexists _; iexact H13
  · rw [if_neg hC, if_neg (hA ▸ hC)]
    sl_exec
    sl_step
    rw [readAt_whole harg12 z2, readAt_whole harg3 z2]
    isplitr; · ipureintro; rfl
    isplitl [H3]; · iexact H3
    isplitl [H6]; · iexact H6
    isplitl [H9]; · iexact H9
    isplitl [H10]; · iexact H10
    isplitl [H11]; · iexists _; iexact H11
    isplitl [H12]; · iexists _; iexact H12
    iexists _; iexact H13

/-- Part 39 and the store of the block. -/
theorem rest_run (c : Dev nD) (i : grid0.Coords) (arg3 : Memref sig .tc .vmem S4x64 .f32) (harg3 : arg3.IsWhole) (arg4 : Memref sig .tc .vmem S128x1 .f32) (harg4 : arg4.IsWhole) (arg5 : Memref sig .tc .vmem S1x1024x128 .bf16) (harg5 : arg5.IsWhole) (arg6 : Memref sig .tc .vmem S1x16640x128 .bf16) (harg6 : arg6.IsWhole) (arg7 : Memref sig .tc .vmem S1x16640x128 .bf16) (harg7 : arg7.IsWhole) (arg8 : Memref sig .tc .vmem S1x1024x128 .bf16) (harg8 : arg8.IsWhole) (arg9 : Memref sig .tc .vmem S128x16640 .bf16) (harg9 : arg9.IsWhole) (arg10 : Memref sig .tc .vmem S128x2048 .bf16) (harg10 : arg10.IsWhole) (arg11 : Memref sig .tc .vmem S1x2048 .f32) (harg11 : arg11.IsWhole) (arg12 : Memref sig .tc .vmem S144x2048 .f32) (harg12 : arg12.IsWhole) (arg13 : Memref sig .tc .vmem S1x2048 .f32) (harg13 : arg13.IsWhole) (arg14 : Memref sig .tc .vmem S4352x2048 .bf16) (harg14 : arg14.IsWhole) (u w : FVec F S1x2048 .f32)
    (L : Vec F S4x64 .f32) (G : Vec F S128x1 .f32) (KX : Vec F S1x16640x128 .bf16) (VT : Vec F S128x16640 .bf16) (Q : Vec F S128x2048 .bf16) (s : St F)
    (p8 : arg8.view.ty.Contents (Elt F)) (A : Vec F S144x2048 .f32) (E : Set ℕ)
    (hA : A = open Classical in if again ⟨k0_pay131 w, s.a, k0_pay132 u s.g⟩ then (iter2 KX VT Q k0_pay135 k0_pay136 k0_t2_loop.trips).2 else s.a) :
    iprop(at_ c arg3 (harg3.unread L) ∗ at_ c arg4 (harg4.unread G) ∗ at_ c arg6 (harg6.unread KX) ∗ at_ c arg8 p8 ∗ at_ c arg9 (harg9.unread VT)
      ∗ at_ c arg10 (harg10.unread Q) ∗ at_ c arg11 (harg11.unread s.m) ∗ at_ c arg12 (harg12.unread s.a) ∗ at_ c arg13 (harg13.unread s.g))
      ⊢ wp frame (wpE (defs₀ (F := F)) Variants.none (c : Thread nD τ) none) E (rest (F := F) i arg3 harg3 arg4 harg4 arg5 harg5 arg6 harg6 arg7 harg7 arg8 harg8 arg9 harg9 arg10 harg10 arg11 harg11 arg12 harg12 arg13 harg13 arg14 harg14 u w)
        (fun _ => iprop(at_ c arg3 (harg3.unread L) ∗ at_ c arg4 (harg4.unread G) ∗ at_ c arg6 (harg6.unread KX)
          ∗ at_ c arg8 (harg8.unread (k0_pay1 A (k0_pay137 L) (k0_pay138 (F := F)) G)) ∗ at_ c arg9 (harg9.unread VT)
          ∗ at_ c arg10 (harg10.unread Q) ∗ (∃ p, at_ c arg11 p) ∗ (∃ p, at_ c arg12 p) ∗ ∃ p, at_ c arg13 p)) := by
  unfold rest
  iintro ⟨H3, H4, H6, H8, H9, H10, H11, H12, H13⟩
  iapply (seq_run (part39_run c i arg3 harg3 arg4 harg4 arg5 harg5 arg6 harg6 arg7 harg7 arg8 harg8 arg9 harg9 arg10 harg10 arg11 harg11 arg12 harg12 arg13 harg13 arg14 harg14 u w L KX VT Q s E)) $$ [H3 H6 H9 H10 H11 H12 H13]
  · isplitl [H3]; · iexact H3
    isplitl [H6]; · iexact H6
    isplitl [H9]; · iexact H9
    isplitl [H10]; · iexact H10
    isplitl [H11]; · iexact H11
    isplitl [H12]; · iexact H12
    iexact H13
  iintro %r ⟨%hr, H3, H6, H9, H10, H11, H12, H13⟩
  rw [← hA] at hr
  subst hr
  sl_exec
  sl_step
  rw [writes_whole harg8 z3, readAt_whole harg4 z2]
  isplitl [H3]; · iexact H3
  isplitl [H4]; · iexact H4
  isplitl [H6]; · iexact H6
  isplitl [H8]; · iexact H8
  isplitl [H9]; · iexact H9
  isplitl [H10]; · iexact H10
  isplitl [H11]; · iexact H11
  isplitl [H12]; · iexact H12
  iexact H13

/-- A grid point: it stores `outv` of the blocks it is given, and leaves the transposed values. -/
theorem point_run (c : Dev nD) (i : grid0.Coords) (arg3 : Memref sig .tc .vmem S4x64 .f32) (harg3 : arg3.IsWhole) (arg4 : Memref sig .tc .vmem S128x1 .f32) (harg4 : arg4.IsWhole) (arg5 : Memref sig .tc .vmem S1x1024x128 .bf16) (harg5 : arg5.IsWhole) (arg6 : Memref sig .tc .vmem S1x16640x128 .bf16) (harg6 : arg6.IsWhole) (arg7 : Memref sig .tc .vmem S1x16640x128 .bf16) (harg7 : arg7.IsWhole) (arg8 : Memref sig .tc .vmem S1x1024x128 .bf16) (harg8 : arg8.IsWhole) (arg9 : Memref sig .tc .vmem S128x16640 .bf16) (harg9 : arg9.IsWhole) (arg10 : Memref sig .tc .vmem S128x2048 .bf16) (harg10 : arg10.IsWhole) (arg11 : Memref sig .tc .vmem S1x2048 .f32) (harg11 : arg11.IsWhole) (arg12 : Memref sig .tc .vmem S144x2048 .f32) (harg12 : arg12.IsWhole) (arg13 : Memref sig .tc .vmem S1x2048 .f32) (harg13 : arg13.IsWhole) (arg14 : Memref sig .tc .vmem S4352x2048 .bf16) (harg14 : arg14.IsWhole)
    (L : Vec F S4x64 .f32) (G : Vec F S128x1 .f32) (q : Vec F S1x1024x128 .bf16) (KX : Vec F S1x16640x128 .bf16) (X : Vec F S1x16640x128 .bf16)
    (p8 : arg8.view.ty.Contents (Elt F)) (p9 : arg9.view.ty.Contents (Elt F)) (p10 : arg10.view.ty.Contents (Elt F)) (p11 : arg11.view.ty.Contents (Elt F))
    (p12 : arg12.view.ty.Contents (Elt F)) (p13 : arg13.view.ty.Contents (Elt F)) (p14 : arg14.view.ty.Contents (Elt F)) (E : Set ℕ)
    (h9 : (i 2).val ≠ 0 → p9 = harg9.unread (VT X)) :
    iprop(at_ c arg3 (harg3.unread L) ∗ at_ c arg4 (harg4.unread G) ∗ at_ c arg5 (harg5.unread q) ∗ at_ c arg6 (harg6.unread KX)
      ∗ at_ c arg7 (harg7.unread X) ∗ at_ c arg8 p8 ∗ at_ c arg9 p9
      ∗ at_ c arg10 p10 ∗ at_ c arg11 p11 ∗ at_ c arg12 p12 ∗ at_ c arg13 p13 ∗ at_ c arg14 p14)
      ⊢ wp frame (wpE (defs₀ (F := F)) Variants.none (c : Thread nD τ) none) E (cc0_diff_attn (F := F) i arg3 harg3 arg4 harg4 arg5 harg5 arg6 harg6 arg7 harg7 arg8 harg8 arg9 harg9 arg10 harg10 arg11 harg11 arg12 harg12 arg13 harg13 arg14 harg14)
        (fun _ => iprop(at_ c arg3 (harg3.unread L) ∗ at_ c arg4 (harg4.unread G) ∗ at_ c arg5 (harg5.unread q) ∗ at_ c arg6 (harg6.unread KX)
          ∗ at_ c arg7 (harg7.unread X) ∗ at_ c arg8 (harg8.unread (outv L G q KX (VT X))) ∗ at_ c arg9 (harg9.unread (VT X))
          ∗ (∃ p, at_ c arg10 p) ∗ (∃ p, at_ c arg11 p) ∗ (∃ p, at_ c arg12 p) ∗ (∃ p, at_ c arg13 p) ∗ ∃ p, at_ c arg14 p)) := by
  rw [body_eq]
  have hp : iprop(at_ c arg5 (harg5.unread q) ∗ at_ c arg7 (harg7.unread X) ∗ at_ c arg9 p9 ∗ at_ c arg10 p10 ∗ at_ c arg11 p11
      ∗ at_ c arg12 p12 ∗ at_ c arg13 p13)
      ⊢ wp frame (wpE (defs₀ (F := F)) Variants.none (c : Thread nD τ) none) E
        (k0_part27 (F := F) i arg3 harg3 arg4 harg4 arg5 harg5 arg6 harg6 arg7 harg7 arg8 harg8 arg9 harg9 arg10 harg10 arg11 harg11 arg12 harg12 arg13 harg13 arg14 harg14)
        (fun _ => iprop(at_ c arg5 (harg5.unread q) ∗ at_ c arg7 (harg7.unread X) ∗ at_ c arg9 (harg9.unread (VT X))
          ∗ at_ c arg10 (harg10.unread (k0_pay96 q)) ∗ at_ c arg11 (harg11.unread k0_pay97)
          ∗ at_ c arg12 (harg12.unread k0_pay98) ∗ at_ c arg13 (harg13.unread k0_pay99))) := by
    by_cases h0 : (i 2).val = 0
    · exact prep_first c i arg3 harg3 arg4 harg4 arg5 harg5 arg6 harg6 arg7 harg7 arg8 harg8 arg9 harg9 arg10 harg10 arg11 harg11 arg12 harg12 arg13 harg13 arg14 harg14 h0 q X p9 p10 p11 p12 p13 E
    · rw [h9 h0]
      exact prep_later c i arg3 harg3 arg4 harg4 arg5 harg5 arg6 harg6 arg7 harg7 arg8 harg8 arg9 harg9 arg10 harg10 arg11 harg11 arg12 harg12 arg13 harg13 arg14 harg14 h0 q X p10 p11 p12 p13 E
  iintro ⟨H3, H4, H5, H6, H7, H8, H9, H10, H11, H12, H13, H14⟩
  iapply (seq_run hp) $$ [H5 H7 H9 H10 H11 H12 H13]
  · isplitl [H5]; · iexact H5
    isplitl [H7]; · iexact H7
    isplitl [H9]; · iexact H9
    isplitl [H10]; · iexact H10
    isplitl [H11]; · iexact H11
    isplitl [H12]; · iexact H12
    iexact H13
  iintro %c0 ⟨H5, H7, H9, H10, H11, H12, H13⟩
  iapply (seq_run (part28_run c i arg3 harg3 arg4 harg4 arg5 harg5 arg6 harg6 arg7 harg7 arg8 harg8 arg9 harg9 arg10 harg10 arg11 harg11 arg12 harg12 arg13 harg13 arg14 harg14 c0 KX (VT X) (k0_pay96 q) k0_pay97 k0_pay98 k0_pay99 p14 E)) $$ [H6 H9 H10 H11 H12 H13 H14]
  · isplitl [H6]; · iexact H6
    isplitl [H9]; · iexact H9
    isplitl [H10]; · iexact H10
    isplitl [H11]; · iexact H11
    isplitl [H12]; · iexact H12
    isplitl [H13]; · iexact H13
    iexact H14
  iintro %r ⟨%hr, H6, H9, H10, H11, H12, H13, %p, H14⟩
  subst hr
  have ho : outv L G q KX (VT X) = k0_pay1 (sums KX (VT X) (k0_pay96 q)) (k0_pay137 L) (k0_pay138 (F := F)) G := rfl
  rw [ho]
  have hs : sums KX (VT X) (k0_pay96 q) = open Classical in if again (last KX (VT X) (k0_pay96 q) (iter1 KX (VT X) (k0_pay96 q) k0_pay97 k0_pay98 k0_pay99 k0_t1_loop.trips))
      then (iter2 KX (VT X) (k0_pay96 q) k0_pay135 k0_pay136 k0_t2_loop.trips).2
      else (last KX (VT X) (k0_pay96 q) (iter1 KX (VT X) (k0_pay96 q) k0_pay97 k0_pay98 k0_pay99 k0_t1_loop.trips)).a := rfl
  generalize sums KX (VT X) (k0_pay96 q) = A at hs
  generalize iter1 KX (VT X) (k0_pay96 q) k0_pay97 k0_pay98 k0_pay99 k0_t1_loop.trips = s at hs
  iapply (mid_run c i arg3 harg3 arg4 harg4 arg5 harg5 arg6 harg6 arg7 harg7 arg8 harg8 arg9 harg9 arg10 harg10 arg11 harg11 arg12 harg12 arg13 harg13 arg14 harg14 (rest i arg3 harg3 arg4 harg4 arg5 harg5 arg6 harg6 arg7 harg7 arg8 harg8 arg9 harg9 arg10 harg10 arg11 harg11 arg12 harg12 arg13 harg13 arg14 harg14) _ KX (VT X) (k0_pay96 q) s p E)
  isplitl [H6]; · iexact H6
  isplitl [H9]; · iexact H9
  isplitl [H10]; · iexact H10
  isplitl [H11]; · iexact H11
  isplitl [H12]; · iexact H12
  isplitl [H14]; · iexact H14
  iintro H6 H9 H10 H11 H12 H14
  iapply (wp_wand _ _ _) $$ [H3 H4 H6 H8 H9 H10 H11 H12 H13]
  · iapply (rest_run c i arg3 harg3 arg4 harg4 arg5 harg5 arg6 harg6 arg7 harg7 arg8 harg8 arg9 harg9 arg10 harg10 arg11 harg11 arg12 harg12 arg13 harg13 arg14 harg14 _ _ L G KX (VT X) (k0_pay96 q) ⟨s.m, (last KX (VT X) (k0_pay96 q) s).a, s.g⟩ p8 A E hs)
    isplitl [H3]; · iexact H3
    isplitl [H4]; · iexact H4
    isplitl [H6]; · iexact H6
    isplitl [H8]; · iexact H8
    isplitl [H9]; · iexact H9
    isplitl [H10]; · iexact H10
    isplitl [H11]; · iexact H11
    isplitl [H12]; · iexact H12
    iexact H13
  iintro %r ⟨H3, H4, H6, H8, H9, H10, H11, H12, H13⟩
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexact H11
  isplitl [H12]; · iexact H12
  isplitl [H13]; · iexact H13
  iexact H14

end Cert.Attn

end
-- ==== Proof.Region.lean ====
/-
  The run of the kernel over any floats: what every grid point leaves, and the launch.
-/
module

public import proofs.«01_k».proof.Proof.Grid
public import proofs.«01_k».proof.Proof.Gen.KernelIdeal.Frame
public import Idealize.ShloMosaic.Lib.Pipeline.ValueKit

@[expose] public section

set_option maxRecDepth 8192
set_option maxHeartbeats 4000000

noncomputable section

namespace Cert.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.ShloMosaic.Pipeline (Dat BodyObligation)
open Idealize.SL.BI.BIBase Idealize.SL.BI.Laws Idealize.SL.ProofMode Idealize.SL.Sem

variable {F : FTy → Type} [FloatOps F]

local notation "𝕄G" => MT nD τ sig Unit (Elt F) ℕ (UR sig nD τ) ℕ

variable (m : (ℓ : Loc nD τ sig) → Buf (Elt F) ℓ) (ρ : Dev nD → PrngReg)

section Owns

variable {s : Shape} {e : EltTy} {sp : Space} {b : Memref sig .tc sp s e}

/-- A buffer held at the value it reads as is held at the contents with that reading. -/
theorem at_of_owns (h : b.IsWhole) (c : Dev nD) (X : s.Idx → Elt F e) : (owns (c : Thread nD τ) b fullShare X : sProp 𝕄G) ⊢ at_ c b (h.unread X) := by
  unfold owns
  iintro ⟨%f, %hf, H⟩
  rw [← h.eq_unread hf]
  iexact H

/-- The converse of `at_of_owns`. -/
theorem owns_of_at (h : b.IsWhole) (c : Dev nD) (X : s.Idx → Elt F e) : (at_ c b (h.unread X) : sProp 𝕄G) ⊢ owns (c : Thread nD τ) b fullShare X := by
  unfold owns
  iintro H
  iexists (h.unread X)
  isplitr
  · ipureintro
    exact h.read_unread X
  iexact H

end Owns

/-- The block of transposed values that the scratch buffer holds through the points of one batch and head. -/
def tv (c : Dev nD) (t : Fin cfg0.N) : Vec F S128x16640 .bf16 := VT (iblk m c 4 t)

/-- A whole buffer held at `f`. -/
abbrev buf (c : Dev nD) (b : Ref sig .tc) (f : Buf (Elt F) ((c : Thread nD τ).loc b)) : sProp 𝕄G := ((c : Thread nD τ).loc b) ↦{fullShare} f

/-- The memref that is a whole buffer is held when the buffer is. -/
theorem at_whole (c : Dev nD) (b : Ref sig .tc) (f : Buf (Elt F) ((c : Thread nD τ).loc b)) :
    (at_ c (Memref.whole b) f : sProp 𝕄G) = buf c b f := by
  show ((View.whole b).loc (c : Thread nD τ) ↦[(View.whole b).set]{fullShare} f : sProp 𝕄G) = _
  rw [View.set_whole]

/-- So what is held through the memref is held of the buffer. -/
theorem buf_of_at (c : Dev nD) (b : Ref sig .tc) (f : Buf (Elt F) ((c : Thread nD τ).loc b)) :
    (at_ c (Memref.whole b) f : sProp 𝕄G) ⊢ buf c b f := by
  rw [at_whole]

/-- The six scratch buffers and the generator's register before point `n`: all at anything, but the first, which holds
    the transposed values if the point is not the first of its batch and head. -/
def held (c : Dev nD) (n : ℕ) : sProp 𝕄G :=
  iprop((∃ p, ⌜∀ t : Fin cfg0.N, t.val = n → t.val % 16 ≠ 0 → p = (Memref.isWhole_whole cc0_scratch0).unread (tv m c t)⌝
          ∗ buf c cc0_scratch0 p)
    ∗ (∃ p, buf c cc0_scratch1 p) ∗ (∃ p, buf c cc0_scratch2 p)
    ∗ (∃ p, buf c cc0_scratch3 p) ∗ (∃ p, buf c cc0_scratch4 p)
    ∗ (∃ p, buf c cc0_scratch5 p) ∗ ∃ r, prngReg c r)

/-- The proof data of the launch: the windows' arrays as the region finds them, the input blocks left in place, the output
    block at `outv` of the point's blocks. -/
def dats (p : Fin 1) (c : Dev nD) : Dat τ (Elt F) Unit ℕ (UR sig nD τ) ℕ (cfgs p) c where
  A := fun w => V m c (Pipeline.arrRef spec0 w)
  after := fun w t => match w with
    | 0 => iblk m c 0 t
    | 1 => iblk m c 1 t
    | 2 => X0_2 m c t
    | 3 => iblk m c 3 t
    | 4 => iblk m c 4 t
    | 5 => outv (iblk m c 0 t) (iblk m c 1 t) (X0_2 m c t) (iblk m c 3 t) (tv m c t)
    | ⟨_ + 6, h⟩ => absurd h (Nat.not_lt.2 (Nat.le_add_left _ _))
  Φ := fun t => held m c t.val
  q := fun _ => fullShare
  owed := fun _ => 0

/-- The block index of the values at point `t`: batch, all the keys, head. -/
theorem index4 : ∀ t : Fin cfg0.N, (cfg0.win 4).index t = ![t.val / 128, 0, t.val / 16 % 8] := by decide +kernel

/-- An element of the block of values at point `t`, in its array. -/
theorem iblk4_at (c : Dev nD) (t : Fin cfg0.N) (y : S1x16640x128.Idx) :
    iblk m c 4 t y = V m c main_v10 (ix3 ⟨t.val / 128, by have h : t.val < grid0.N := t.isLt; have e := N_0; omega⟩ (y 1)
      ⟨t.val / 16 % 8 * 128 + (y 2).val, by have := (y 2).isLt; dsimp at this; omega⟩) := by
  blk_ext [iblk, index4 t]

/-- The transposed values of two consecutive points of one batch and head are the same. -/
theorem tv_next (c : Dev nD) (t t' : Fin cfg0.N) (h : t'.val = t.val + 1) (h' : t'.val % 16 ≠ 0) : tv m c t' = tv m c t := by
  unfold tv
  congr 1
  funext y
  refine (iblk4_at m c t' y).trans (Eq.trans ?_ (iblk4_at m c t y).symm)
  have e1 : t'.val / 128 = t.val / 128 := by omega
  have e2 : t'.val / 16 % 8 = t.val / 16 % 8 := by omega
  simp only [e1, e2]

/-- A point is the first of its batch and head when its third coordinate is zero. -/
theorem coord2 : ∀ t : Fin cfg0.N, (grid0.coords t 2).val = 0 ↔ t.val % 16 = 0 := by decide +kernel

/-- The windows' buffers before the body at point `t`, and what they hold after it. -/
theorem body_point (c : Dev nD) (t : Fin cfg0.N) :
    iprop(held m c t.val ∗ (dats m 0 c).owesAt () t.castSucc
      ∗ (∃ d, owns c (win0_0.stage (cfg0.slots t 0)) fullShare ((dats m 0 c).before 0 t d)) ∗ (∃ d, owns c (win0_1.stage (cfg0.slots t 1)) fullShare ((dats m 0 c).before 1 t d))
      ∗ (∃ d, owns c (win0_2.stage (cfg0.slots t 2)) fullShare ((dats m 0 c).before 2 t d)) ∗ (∃ d, owns c (win0_3.stage (cfg0.slots t 3)) fullShare ((dats m 0 c).before 3 t d))
      ∗ (∃ d, owns c (win0_4.stage (cfg0.slots t 4)) fullShare ((dats m 0 c).before 4 t d)) ∗ (∃ d, owns c (win0_5.stage (cfg0.slots t 5)) fullShare ((dats m 0 c).before 5 t d)))
    ⊢ wp frame (wpE (defs₀ (F := F)) Variants.none (c : Thread nD τ) none) Set.univ (bodyAt0 t)
      (fun _ => iprop(held m c (t.val + 1) ∗ (dats m 0 c).owesAt () t.castSucc
        ∗ owns c (win0_0.stage (cfg0.slots t 0)) fullShare (iblk m c 0 t) ∗ owns c (win0_1.stage (cfg0.slots t 1)) fullShare (iblk m c 1 t)
        ∗ owns c (win0_2.stage (cfg0.slots t 2)) fullShare (X0_2 m c t) ∗ owns c (win0_3.stage (cfg0.slots t 3)) fullShare (iblk m c 3 t)
        ∗ owns c (win0_4.stage (cfg0.slots t 4)) fullShare (iblk m c 4 t)
        ∗ owns c (win0_5.stage (cfg0.slots t 5)) fullShare (outv (iblk m c 0 t) (iblk m c 1 t) (X0_2 m c t) (iblk m c 3 t) (tv m c t)))) := by
  simp only [before0_0_of m (dats m 0 c) rfl (fun _ => rfl) t, before0_1_of m (dats m 0 c) rfl (fun _ => rfl) t,
    before0_2_of m (dats m 0 c) rfl (fun _ => rfl) t, before0_3_of m (dats m 0 c) rfl (fun _ => rfl) t,
    before0_4_of m (dats m 0 c) rfl (fun _ => rfl) t]
  unfold held
  iintro ⟨⟨⟨%p9, %h9, H9⟩, ⟨%p10, H10⟩, ⟨%p11, H11⟩, ⟨%p12, H12⟩, ⟨%p13, H13⟩, ⟨%p14, H14⟩, Hr⟩, Ho,
    ⟨%d0, H0⟩, ⟨%d1, H1⟩, ⟨%d2, H2⟩, ⟨%d3, H3⟩, ⟨%d4, H4⟩, ⟨%d5, H5⟩⟩
  ihave H0 := (at_of_owns (b := win0_0.stage (cfg0.slots t 0)) (hstage0_0 ((cfg0.slots t 0).cast nbuf0_0)) c _) $$ H0
  ihave H1 := (at_of_owns (b := win0_1.stage (cfg0.slots t 1)) (hstage0_1 ((cfg0.slots t 1).cast nbuf0_1)) c _) $$ H1
  ihave H2 := (at_of_owns (b := win0_2.stage (cfg0.slots t 2)) (hstage0_2 ((cfg0.slots t 2).cast nbuf0_2)) c _) $$ H2
  ihave H3 := (at_of_owns (b := win0_3.stage (cfg0.slots t 3)) (hstage0_3 ((cfg0.slots t 3).cast nbuf0_3)) c _) $$ H3
  ihave H4 := (at_of_owns (b := win0_4.stage (cfg0.slots t 4)) (hstage0_4 ((cfg0.slots t 4).cast nbuf0_4)) c _) $$ H4
  ihave H5 := (at_of_owns (b := win0_5.stage (cfg0.slots t 5)) (hstage0_5 ((cfg0.slots t 5).cast nbuf0_5)) c _) $$ H5
  iapply (wp_wand _ _ _) $$ [H0 H1 H2 H3 H4 H5 H9 H10 H11 H12 H13 H14]
  · iapply (point_run c (grid0.coords t) _ _ _ _ _ _ _ _ _ _ _ _ _ _ _ _ _ _ _ _ _ _ _ _
      (iblk m c 0 t) (iblk m c 1 t) (X0_2 m c t) (iblk m c 3 t) (iblk m c 4 t) _ p9 p10 p11 p12 p13 p14 Set.univ
      (fun h0 => h9 t rfl (fun h => h0 ((coord2 t).mpr h))))
    isplitl [H0]; · iexact H0
    isplitl [H1]; · iexact H1
    isplitl [H2]; · iexact H2
    isplitl [H3]; · iexact H3
    isplitl [H4]; · iexact H4
    isplitl [H5]; · iexact H5
    isplitl [H9]; · rw [at_whole]; iexact H9
    isplitl [H10]; · rw [at_whole]; iexact H10
    isplitl [H11]; · rw [at_whole]; iexact H11
    isplitl [H12]; · rw [at_whole]; iexact H12
    isplitl [H13]; · rw [at_whole]; iexact H13
    rw [at_whole]; iexact H14
  iintro %r ⟨H0, H1, H2, H3, H4, H5, H9, ⟨%q10, H10⟩, ⟨%q11, H11⟩, ⟨%q12, H12⟩, ⟨%q13, H13⟩, ⟨%q14, H14⟩⟩
  isplitl [H9 H10 H11 H12 H13 H14 Hr]
  · isplitl [H9]
    · iexists _
      isplitr; swap; · iapply (buf_of_at c _ _); iexact H9
      ipureintro
      intro t' ht' h'
      rw [tv_next m c t t' ht' h']
      rfl
    isplitl [H10]; · iexists _; iapply (buf_of_at c _ _); iexact H10
    isplitl [H11]; · iexists _; iapply (buf_of_at c _ _); iexact H11
    isplitl [H12]; · iexists _; iapply (buf_of_at c _ _); iexact H12
    isplitl [H13]; · iexists _; iapply (buf_of_at c _ _); iexact H13
    isplitl [H14]; · iexists _; iapply (buf_of_at c _ _); iexact H14
    iexact Hr
  isplitl [Ho]; · iexact Ho
  isplitl [H0]; · iapply (owns_of_at _ c _); iexact H0
  isplitl [H1]; · iapply (owns_of_at _ c _); iexact H1
  isplitl [H2]; · iapply (owns_of_at _ c _); iexact H2
  isplitl [H3]; · iapply (owns_of_at _ c _); iexact H3
  isplitl [H4]; · iapply (owns_of_at _ c _); iexact H4
  iapply (owns_of_at _ c _); iexact H5

/-- The body at every point, as the launch asks for it. -/
theorem body_obligation (c : Dev nD) : BodyObligation (dats m 0 c) (defs₀ (F := F)) Variants.none () Set.univ := fun t => by
  rw [bigSep_W0, bigSep_W0]
  exact body_point m c t

/-- What the launch hands over is the scratch held at anything. -/
theorem held_zero (c : Dev nD) : Pipeline.ΦA spec0 c ⊢ (dats m 0 c).Φ 0 := by
  show Pipeline.ΦA spec0 c ⊢ held m c 0
  unfold Pipeline.ΦA held
  rw [scopedRest0_eq]
  iintro ⟨⟨⟨%p9, H9⟩, H10, H11, H12, H13, H14⟩, Hr⟩
  isplitl [H9]
  · iexists p9
    isplitr; swap; · iexact H9
    ipureintro
    intro t h h'
    exact absurd (by rw [h]) h'
  isplitl [H10]; · iexact H10
  isplitl [H11]; · iexact H11
  isplitl [H12]; · iexact H12
  isplitl [H13]; · iexact H13
  isplitl [H14]; · iexact H14
  iexact Hr

/-- And it is handed back so. -/
theorem held_last (c : Dev nD) : (dats m 0 c).Φ (Fin.last cfg0.N) ⊢ Pipeline.ΦA spec0 c := by
  show held m c cfg0.N ⊢ Pipeline.ΦA spec0 c
  unfold Pipeline.ΦA held
  rw [scopedRest0_eq]
  iintro ⟨⟨%p9, %h9, H9⟩, H10, H11, H12, H13, H14, Hr⟩
  isplitr [Hr]; swap; · iexact Hr
  isplitl [H9]; · iexists p9; iexact H9
  isplitl [H10]; · iexact H10
  isplitl [H11]; · iexact H11
  isplitl [H12]; · iexact H12
  isplitl [H13]; · iexact H13
  iexact H14

/-- The program runs, its semaphores end at zero, and its arrays hold what the launch's data say. -/
theorem run_main : θ_run defs (onTc (τ := τ) (main (F := F))) (s₀ m ρ) (fun r =>
    Pipeline.FramePost cfgs (dats m) 0 (Pipeline.afterTail₀ cfgs (dats m) 0 (V0 m) [hostOps1]) r ∧ r.2.sem = fun _ => 0) :=
  Pipeline.θ_run_frame_around_track cfgs (dats m) 0 launch0 defs₀ Variants.none m ρ main
    (fun c => (body_obligation m c).loose) (fun _ w => by fin_cases w <;> rfl) (fun _ _ => rfl) (V0 m) [hostOps1] sfx_sub sfx_fresh sfx_keeps
    (hmain m Variants.none) (fun _ _ => rfl) (held_zero m) (held_last m) _ (fun _ h => h)

end Cert.Attn

end
-- ==== Proof.Frames.lean ====
/-
  The frames of the three programs: each runs, leaves its arguments as they were and its semaphores at zero. The kernel
  and its idealized copy share one run.
-/
module

public import proofs.«01_k».proof.Proof.Region
public import proofs.«01_k».proof.Defs
public import proofs.«01_k».proof.Proof.Gen.Kernel
public import proofs.«01_k».proof.Proof.Gen.ReferenceIdeal.Run

@[expose] public section

set_option maxRecDepth 8192
set_option maxHeartbeats 4000000

noncomputable section

namespace Cert.Attn

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- The post of the launch. -/
abbrev post (r : PUnit × MemSt nD τ sig (Elt F)) : Prop :=
  Pipeline.FramePost cfgs (dats m) 0 (Pipeline.afterTail₀ cfgs (dats m) 0 (V0 m) [hostOps1]) r

/-- An argument that no window of the launch stages and no host operation writes ends as it began. -/
theorem kept (c : Dev nD) (b : Ref sig .tc) (r : PUnit × MemSt nD τ sig (Elt F)) (h : post m r)
    (hb : b ∈ Pipeline.restRefs sig spec0)
    (hw : Pipeline.afterTail₀ cfgs (dats m) 0 (V0 m) [hostOps1] c b = m ((c : Thread nD τ).loc b)) :
    r.2.mem ((c : Thread nD τ).loc b) = m ((c : Thread nD τ).loc b) := ((h c).2 b hb).trans hw

/-- Every argument ends as it began. -/
theorem args_kept (r : PUnit × MemSt nD τ sig (Elt F)) (h : post m r) (c : Dev nD) :
    r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  ⟨kept m c main_arg0 r h (Pipeline.mem_restRefs_of _ (by decide) (by decide)) (W_main_arg0 m (dats m) c),
    kept m c main_arg1 r h (Pipeline.mem_restRefs_of _ (by decide) (by decide)) (W_main_arg1 m (dats m) c),
    kept m c main_arg2 r h (Pipeline.mem_restRefs_of _ (by decide) (by decide)) (W_main_arg2 m (dats m) c),
    kept m c main_arg3 r h (Pipeline.mem_restRefs_of _ (by decide) (by decide)) (W_main_arg3 m (dats m) c),
    kept m c main_arg4 r h (Pipeline.mem_restRefs_of _ (by decide) (by decide)) (W_main_arg4 m (dats m) c),
    kept m c main_arg5 r h (Pipeline.mem_restRefs_of _ (by decide) (by decide)) (W_main_arg5 m (dats m) c),
    ((h c).1 0).trans (((dats m 0 c).arrAt_in 0 rfl _).trans (V_main_arg6 m c)),
    kept m c main_arg7 r h (Pipeline.mem_restRefs_of _ (by decide) (by decide)) (W_main_arg7 m (dats m) c)⟩

/-- The kernel, at any floats, runs, keeps its arguments and ends with its semaphores at zero. -/
theorem frame_any : θ_run (defs (F := F)) (onTc (τ := τ) (main (F := F))) ⟨m, fun _ => 0, ρ⟩ (fun r =>
    (∀ c : Dev nD, r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7))
      ∧ r.2.sem = fun _ => 0) :=
  (θ_run defs _ _).mono (fun r h => ⟨args_kept m r h.1, h.2⟩) (run_main m ρ)

/-- The body the printed kernel calls at a point is the idealized copy's. -/
theorem body_kernel : Cert.Kernel.defs₀ (F := F) = defs₀ := by
  unfold Cert.Kernel.defs₀ defs₀
  refine congrArg Defs.onTc ?_
  funext l a
  match l with
  | 0 => rfl

/-- So are its definitions. -/
theorem defs_kernel : Cert.Kernel.defs (F := F) = defs := congrArg (Pipeline.defs pcfgs) body_kernel

/-- The same of definitions equal to the kernel's. -/
theorem frame_defs (d : Defs nD τ sig (Elt F) (Pipeline.Sig Λ₀ (Fin 1) fun p => (pcfgs (F := F) p).Adm))
    (hd : d = defs) : θ_run d (onTc (τ := τ) (main (F := F))) ⟨m, fun _ => 0, ρ⟩ (fun r =>
    (∀ c : Dev nD, r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7))
      ∧ r.2.sem = fun _ => 0) := by
  subst hd
  exact frame_any m ρ

/-- The frame of the kernel as printed: it has the text of its idealized copy. -/
theorem frame_kernel : Cert.quiescent_Kernel := fun m ρ _ => frame_defs (F := Bits) m ρ _ defs_kernel

/-- The frame of the idealized kernel. -/
theorem frame_ideal : Cert.quiescent_KernelIdeal := fun m ρ _ => frame_any m ρ

/-- The frame of the reference. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

end Cert.Attn

end
-- ==== Proof.Lag.lean ====
/-
  A weighted sum of exponentials with a running exponent: one step that lags behind the exponent, one step that takes the
  exponent first, and the quotient at the end, over the extended reals.
-/
module

public import Idealize.ShloMosaic.PureOps.Ideal.Laws
public import Mathlib.Analysis.SpecialFunctions.Pow.Real

@[expose] public section

noncomputable section

namespace Cert.Attn

open Idealize.ShloMosaic
open scoped BigOperators

/-- The first `k` values, each weighted by two to the power of its score less `μ`. -/
def wsum (σ v : ℕ → ℝ) (k : ℕ) (μ : ℝ) : ℝ := ∑ j ∈ Finset.range k, v j * Real.rpow 2 (σ j - μ)

/-- `m` is a real exponent and `a` the weighted sum of the first `k` values at that exponent. -/
def Lag (σ v : ℕ → ℝ) (k : ℕ) (m a : EReal) : Prop := ∃ μ : ℝ, m = (μ : EReal) ∧ a = ((wsum σ v k μ : ℝ) : EReal)

/-- Before any value the exponent is zero and the sum is zero. -/
theorem Lag.start (σ v : ℕ → ℝ) : Lag σ v 0 0 0 := ⟨0, by simp, by simp [wsum]⟩

/-- The weighted sum at another exponent. -/
theorem wsum_shift (σ v : ℕ → ℝ) (k : ℕ) (μ ν : ℝ) : wsum σ v k μ * Real.rpow 2 (μ - ν) = wsum σ v k ν := by
  unfold wsum
  rw [Finset.sum_mul]
  refine Finset.sum_congr rfl fun j _ => ?_
  rw [mul_assoc]
  congr 1
  rw [show Real.rpow 2 (σ j - μ) * Real.rpow 2 (μ - ν) = (2:ℝ) ^ (σ j - μ) * (2:ℝ) ^ (μ - ν) from rfl, ← Real.rpow_add (by norm_num)]
  rw [show σ j - μ + (μ - ν) = σ j - ν from by ring]
  rfl

/-- The next `K` values added. -/
theorem wsum_add (σ v : ℕ → ℝ) (k K : ℕ) (μ : ℝ) :
    wsum σ v (k + K) μ = wsum σ v k μ + ∑ j : Fin K, v (k + j.val) * Real.rpow 2 (σ (k + j.val) - μ) := by
  unfold wsum
  rw [Finset.sum_range_add, Finset.sum_range (fun x => v (k + x) * Real.rpow 2 (σ (k + x) - μ))]

/-- A sum of reals in the extended reals. -/
theorem coe_sum {ι : Type*} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The weights of the next values are real. -/
theorem terms_coe (σ v : ℕ → ℝ) (k K : ℕ) (μ : ℝ) :
    (∑ j : Fin K, ((v (k + j.val) : ℝ) : EReal) * Ideal.exp2 (((σ (k + j.val) : ℝ) : EReal) - (μ : EReal)))
      = ((∑ j : Fin K, v (k + j.val) * Real.rpow 2 (σ (k + j.val) - μ) : ℝ) : EReal) := by
  rw [← coe_sum]
  refine Finset.sum_congr rfl fun j _ => ?_
  rw [← EReal.coe_sub, Ideal.exp2_coe, EReal.coe_mul]

/-- The step that lags: the weights of `K` more values at the old exponent, the exponent moved up by `max x 0`, and the sum
    brought to the new exponent. -/
theorem Lag.lag {σ v : ℕ → ℝ} {k K : ℕ} {m a m' a' x : EReal} (h : Lag σ v k m a) (hx : x ≠ ⊤) (hm : m' = m + max x 0)
    (ha : a' = (a + ∑ j : Fin K, ((v (k + j.val) : ℝ) : EReal) * Ideal.exp2 (((σ (k + j.val) : ℝ) : EReal) - m)) * Ideal.exp2 (m - m')) :
    Lag σ v (k + K) m' a' := by
  obtain ⟨μ, rfl, rfl⟩ := h
  have hb : max x 0 ≠ ⊥ := ne_of_gt (lt_of_lt_of_le (EReal.bot_lt_coe 0) (le_max_right x 0))
  have ht : max x 0 ≠ ⊤ := by
    rcases max_choice x 0 with e | e <;> rw [e]
    · exact hx
    · exact EReal.coe_ne_top 0
  obtain ⟨y, hy⟩ : ∃ y : ℝ, max x 0 = (y : EReal) := ⟨_, (EReal.coe_toReal ht hb).symm⟩
  rw [hy, ← EReal.coe_add] at hm
  subst hm
  refine ⟨μ + y, rfl, ?_⟩
  rw [ha, terms_coe, ← EReal.coe_add, ← wsum_add, ← EReal.coe_sub, Ideal.exp2_coe, ← EReal.coe_mul, wsum_shift]

/-- As `Lag`, or nothing has been taken yet and the exponent is minus infinity. -/
def Exact (σ v : ℕ → ℝ) (k : ℕ) (m a : EReal) : Prop := (k = 0 ∧ m = ⊥ ∧ a = 0) ∨ Lag σ v k m a

/-- The step that takes the exponent first: the new exponent is at least `y`, and the old sum is brought to it before the
    new weights are added. -/
theorem Exact.next {σ v : ℕ → ℝ} {k K : ℕ} {m a m' a' : EReal} {y : ℝ} (h : Exact σ v k m a) (hm : m' = max m (y : EReal))
    (ha : a' = Ideal.exp2 (m - m') * a + ∑ j : Fin K, ((v (k + j.val) : ℝ) : EReal) * Ideal.exp2 (((σ (k + j.val) : ℝ) : EReal) - m')) :
    Exact σ v (k + K) m' a' := by
  refine .inr ?_
  rcases h with ⟨rfl, rfl, rfl⟩ | ⟨μ, rfl, rfl⟩
  · rw [max_eq_right bot_le] at hm
    subst hm
    refine ⟨y, rfl, ?_⟩
    rw [ha, mul_zero, zero_add, terms_coe, wsum_add]
    simp [wsum]
  · rw [show max (μ : EReal) (y : EReal) = ((max μ y : ℝ) : EReal) from (EReal.coe_strictMono.monotone.map_max).symm] at hm
    subst hm
    refine ⟨_, rfl, ?_⟩
    rw [ha, terms_coe, ← EReal.coe_sub, Ideal.exp2_coe, ← EReal.coe_mul, mul_comm, wsum_shift, ← EReal.coe_add, ← wsum_add]

/-- The sum of the weights is positive. -/
theorem wsum_pos (σ : ℕ → ℝ) {k : ℕ} (hk : 0 < k) (μ : ℝ) : 0 < wsum σ (fun _ => 1) k μ := by
  unfold wsum
  refine Finset.sum_pos (fun j _ => ?_) ⟨0, Finset.mem_range.2 hk⟩
  rw [one_mul]; exact Real.rpow_pos_of_pos (by norm_num) _

/-- The quotient of two such sums at one exponent: the exponent goes out of it. -/
theorem Lag.quot {σ v : ℕ → ℝ} {k : ℕ} {m a l : EReal} (hk : 0 < k) (h : Lag σ v k m a) (h1 : Lag σ (fun _ => 1) k m l) :
    Ideal.div a l = ((wsum σ v k 0 / wsum σ (fun _ => 1) k 0 : ℝ) : EReal) := by
  obtain ⟨μ, rfl, rfl⟩ := h
  obtain ⟨ν, e, rfl⟩ := h1
  obtain rfl : μ = ν := EReal.coe_injective e
  have hp := wsum_pos σ hk μ
  rw [show Ideal.div ((wsum σ v k μ : ℝ) : EReal) ((wsum σ (fun _ => 1) k μ : ℝ) : EReal)
      = ((wsum σ v k μ / wsum σ (fun _ => 1) k μ : ℝ) : EReal) from by
    unfold Ideal.div
    rw [if_neg (by rw [← EReal.coe_zero, EReal.coe_eq_coe_iff]; exact hp.ne'), div_eq_mul_inv, EReal.coe_mul, EReal.coe_inv]]
  rw [← wsum_shift σ v k μ 0, ← wsum_shift σ (fun _ => 1) k μ 0, mul_div_mul_right _ _ (show Real.rpow 2 (μ - 0) ≠ 0 from (Real.rpow_pos_of_pos (by norm_num) _).ne')]

end Cert.Attn

end
-- ==== Proof.Weights.lean ====
/-
  The products of one trip of the kernel, element by element at the ideal carrier: the weights of a block of keys, and
  the weighted sums of a block of values.
-/
module

public import proofs.«01_k».proof.Proof.Fns
public import Idealize.ShloMosaic.Lib.Pipeline.ValueKit

@[expose] public section

set_option maxRecDepth 16384

noncomputable section

namespace Cert.Attn

open Cert.KernelIdeal Cert.KernelIdeal.Gen
open Idealize.ShloMosaic
open Idealize.ShloMosaic.TcCoe Idealize.ShloMosaic.Tactic

/-- The values of a block with the sixteen rows the kernel puts below them: a row of ones, then rows of zeros. -/
def ext {K : ℕ} (V : Fin 128 → Fin K → EReal) (r : Fin 144) (j : Fin K) : EReal :=
  if h : r.val < 128 then V ⟨r.val, h⟩ j else if r.val = 128 then 1 else 0

/-- The kernel's choice between one and zero on a row's number. -/
theorem ones_row (r : Fin 144) (h : ¬ r.val < 128) :
    Scalar.select (IntOp.cmpi CmpIPredicate.eq (BitVec.ofNat 32 (r.val - 128)) 0#32) (1 : EReal) 0 = if r.val = 128 then 1 else 0 := by
  by_cases e : r.val = 128
  · rw [if_pos e, e]; rfl
  · rw [if_neg e]
    have hr := r.isLt
    have hx : r.val - 128 < 16 := by omega
    have h0 : r.val - 128 ≠ 0 := by omega
    generalize r.val - 128 = x at hx h0
    interval_cases x
    · exact absurd rfl h0
    all_goals rfl

/-- The word of minus infinity. -/
theorem neg_inf : Ideal.ofBits .f32 0xFF800000#32 = (⊥ : EReal) := by simp [Ideal.ofBits, Ideal.ieee]

/-- A weight is two to the power of the score less the running exponent. -/
def wt {K : ℕ} (m : Vec Ideal S1x2048 .f32) (B : Fin K → Fin 128 → EReal) (Q : Vec Ideal S128x2048 .bf16) (r : Fin K) (n : Fin 2048) : EReal :=
  Ideal.exp2 ((∑ d : Fin 128, B r d * Q (ix2 d n)) - m (ix2 (0 : Fin 1) n))

variable (m : Vec Ideal S1x2048 .f32) (Q : Vec Ideal S128x2048 .bf16) (B : Vec Ideal S1x2048x128 .bf16) (E : Vec Ideal S1x256x128 .bf16)

theorem pay74_at (r n : Fin 2048) : k0_pay74 m B Q (ix2 r n) = wt m (fun r d => B (ix3 (0 : Fin 1) r d)) Q r n := by
  pointwise [k0_pay74]; rfl
theorem pay75_at (r n : Fin 2048) : k0_pay75 m B Q (ix2 r n) = wt m (fun r d => B (ix3 (0 : Fin 1) r d)) Q r n := by
  pointwise [k0_pay75, k0_pay74]; rfl
theorem pay81_at (r n : Fin 2048) : k0_pay81 m B Q (ix2 r n) = wt m (fun r d => B (ix3 (0 : Fin 1) r d)) Q r n := by
  pointwise [k0_pay81]; rfl
theorem pay82_at (r n : Fin 2048) : k0_pay82 (k0_pay81 m B Q) (ix2 r n) = wt m (fun r d => B (ix3 (0 : Fin 1) r d)) Q r n := by
  pointwise [k0_pay82, k0_pay81]; rfl
theorem pay103_at (r n : Fin 2048) : k0_pay103 m B Q (ix2 r n) = wt m (fun r d => B (ix3 (0 : Fin 1) r d)) Q r n := by
  pointwise [k0_pay103]; rfl
theorem pay104_at (r n : Fin 2048) : k0_pay104 m B Q (ix2 r n) = wt m (fun r d => B (ix3 (0 : Fin 1) r d)) Q r n := by
  pointwise [k0_pay104, k0_pay103]; rfl
theorem pay114_at (r n : Fin 2048) : k0_pay114 m B Q (ix2 r n) = wt m (fun r d => B (ix3 (0 : Fin 1) r d)) Q r n := by
  pointwise [k0_pay114]; rfl
theorem pay115_at (r n : Fin 2048) : k0_pay115 (k0_pay114 m B Q) (ix2 r n) = wt m (fun r d => B (ix3 (0 : Fin 1) r d)) Q r n := by
  pointwise [k0_pay115, k0_pay114]; rfl
theorem pay124_at (r : Fin 256) (n : Fin 2048) : k0_pay124 m E Q (ix2 r n) = wt m (fun r d => E (ix3 (0 : Fin 1) r d)) Q r n := by
  pointwise [k0_pay124]; rfl
theorem pay125_at (r : Fin 256) (n : Fin 2048) : k0_pay125 m E Q (ix2 r n) = wt m (fun r d => E (ix3 (0 : Fin 1) r d)) Q r n := by
  pointwise [k0_pay125, k0_pay124]; rfl

theorem pay87_at (a : Vec Ideal S144x2048 .f32) (V : Vec Ideal S128x4096 .bf16) (W : Vec Ideal S4096x2048 .bf16) (r : Fin 144) (n : Fin 2048) :
    k0_pay87 a V W (ix2 r n) = a (ix2 r n) + ∑ j : Fin 4096, ext (fun e j => V (ix2 e j)) r j * W (ix2 j n) := by
  pointwise [k0_pay87]
  refine congrArg (_ + ·) (Finset.sum_congr rfl fun j _ => congrArg (· * _) ?_)
  unfold ext
  split
  · rfl
  · rename_i h; exact ones_row r h

theorem pay89_at (b : FVec Ideal S2048x2048 .bf16) (p : FVec Ideal S16x2048 .bf16) (n : Fin 2048) :
    k0_pay89 m b p (ix2 (0 : Fin 1) n) = m (ix2 (0 : Fin 1) n) + max (k0_pay88 b p (ix2 (0 : Fin 1) n)) 0 := by
  pointwise [k0_pay89]

theorem pay90_at (b : FVec Ideal S2048x2048 .bf16) (p : FVec Ideal S16x2048 .bf16) (r : Fin 144) (n : Fin 2048) :
    k0_pay90 m b p (ix2 r n) = Ideal.exp2 (m (ix2 (0 : Fin 1) n) - k0_pay89 m b p (ix2 (0 : Fin 1) n)) := by
  pointwise [k0_pay90]; rfl

theorem pay100_at (a b : FVec Ideal S144x2048 .f32) (r : Fin 144) (n : Fin 2048) :
    k0_pay100 a b (ix2 r n) = a (ix2 r n) * b (ix2 r n) := by
  pointwise [k0_pay100]

theorem pay101_at (a : FVec Ideal S1x2048 .f32) (n : Fin 2048) : k0_pay101 a (ix2 (0 : Fin 1) n) = a (ix2 (0 : Fin 1) n) := by
  pointwise [k0_pay101]
theorem pay131_at (a : FVec Ideal S1x2048 .f32) (n : Fin 2048) : k0_pay131 a (ix2 (0 : Fin 1) n) = a (ix2 (0 : Fin 1) n) := by
  pointwise [k0_pay131]

theorem pay129_at (b : FVec Ideal S256x2048 .bf16) (p p' : FVec Ideal S16x2048 .bf16) (n : Fin 2048) :
    k0_pay129 m b p p' (ix2 (0 : Fin 1) n) = m (ix2 (0 : Fin 1) n) + max (k0_pay128 b p p' (ix2 (0 : Fin 1) n)) 0 := by
  pointwise [k0_pay129]

theorem pay130_at (b : FVec Ideal S256x2048 .bf16) (p p' : FVec Ideal S16x2048 .bf16) (a : Vec Ideal S144x2048 .f32)
    (V : Vec Ideal S128x4352 .bf16) (W : Vec Ideal S4352x2048 .bf16) (r : Fin 144) (n : Fin 2048) :
    k0_pay130 m b p p' a V W (ix2 r n) = (a (ix2 r n) + ∑ j : Fin 4352, ext (fun e j => V (ix2 e j)) r j * W (ix2 j n))
      * Ideal.exp2 (m (ix2 (0 : Fin 1) n) - k0_pay129 m b p p' (ix2 (0 : Fin 1) n)) := by
  pointwise [k0_pay130]
  refine congrArg (fun z => (_ + z) * _) (Finset.sum_congr rfl fun j _ => congrArg (· * _) ?_)
  unfold ext
  split
  · rfl
  · rename_i h; exact ones_row r h

theorem pay91_at (r : Fin 256) (n : Fin 2048) : k0_pay91 Q E (ix2 r n) = ∑ d : Fin 128, E (ix3 (0 : Fin 1) r d) * Q (ix2 d n) := by
  pointwise [k0_pay91]

theorem pay92_at (n : Fin 2048) : k0_pay92 Q E m (ix2 (0 : Fin 1) n)
    = max (m (ix2 (0 : Fin 1) n)) (Finset.univ.fold max ⊥ fun r : Fin 256 => k0_pay91 Q E (ix2 r n)) := by
  pointwise [k0_pay92]
  exact congrArg (fun z => max _ (Finset.univ.fold max z _)) neg_inf

theorem pay93_at (n : Fin 2048) : k0_pay93 Q E m (ix2 (0 : Fin 1) n) = k0_pay92 Q E m (ix2 (0 : Fin 1) n) := by
  pointwise [k0_pay93]

theorem pay94_at (V : Vec Ideal S128x256 .bf16) (a : Vec Ideal S144x2048 .f32) (r : Fin 144) (n : Fin 2048) :
    k0_pay94 Q E V m a (ix2 r n) = Ideal.exp2 (m (ix2 (0 : Fin 1) n) - k0_pay92 Q E m (ix2 (0 : Fin 1) n)) * a (ix2 r n)
      + ∑ j : Fin 256, ext (fun e j => V (ix2 e j)) r j * Ideal.exp2 (k0_pay91 Q E (ix2 j n) - k0_pay92 Q E m (ix2 (0 : Fin 1) n)) := by
  pointwise [k0_pay94]
  refine congrArg (_ + ·) (Finset.sum_congr rfl fun j _ => congrArg (· * _) ?_)
  unfold ext
  split
  · rfl
  · rename_i h; exact ones_row r h

theorem pay97_at (n : Fin 2048) : k0_pay97 (F := Ideal) (ix2 (0 : Fin 1) n) = (0 : EReal) := by pointwise [k0_pay97]
theorem pay98_at (r : Fin 144) (n : Fin 2048) : k0_pay98 (F := Ideal) (ix2 r n) = (0 : EReal) := by pointwise [k0_pay98]
theorem pay135_at (n : Fin 2048) : k0_pay135 (F := Ideal) (ix2 (0 : Fin 1) n) = (⊥ : EReal) := by pointwise [k0_pay135]; exact neg_inf
theorem pay136_at (r : Fin 144) (n : Fin 2048) : k0_pay136 (F := Ideal) (ix2 r n) = (0 : EReal) := by pointwise [k0_pay136]

end Cert.Attn

end
-- ==== Proof.Maxes.lean ====
/-
  The step of the running exponent is never plus infinity: the greatest of the weights of a block of keys is a positive
  real, so its logarithm is real.
-/
module

public import proofs.«01_k».proof.Proof.Weights

@[expose] public section

set_option maxRecDepth 16384

noncomputable section

namespace Cert.Attn

open Cert.KernelIdeal Cert.KernelIdeal.Gen
open Idealize.ShloMosaic
open Idealize.ShloMosaic.TcCoe Idealize.ShloMosaic.Tactic

/-- Every entry is a positive real. -/
def Pos {s : Shape} {φ : FTy} (W : FVec Ideal s φ) : Prop := ∀ i, ∃ r : ℝ, 0 < r ∧ W i = (r : EReal)

/-- The greater of two positive reals is a positive real. -/
theorem Pos.max {s : Shape} {φ : FTy} {V W : FVec Ideal s φ} (hV : Pos V) (hW : Pos W) : Pos (maximumf V W) := fun i => by
  obtain ⟨v, hv, ev⟩ := hV i
  obtain ⟨w, hw, ew⟩ := hW i
  refine ⟨_, lt_of_lt_of_le hv (le_max_left v w), ?_⟩
  have e : maximumf V W i = Max.max (V i) (W i) := by rw [maximumf_apply, Ideal.maximumf_eq_max]
  rw [e, ev, ew]
  exact (EReal.coe_strictMono.monotone.map_max).symm

/-- The greater of two positive reals is a positive real, of two numbers. -/
theorem pos_max {v w : EReal} (hv : ∃ r : ℝ, 0 < r ∧ v = (r : EReal)) (hw : ∃ r : ℝ, 0 < r ∧ w = (r : EReal)) :
    ∃ r : ℝ, 0 < r ∧ Max.max v w = (r : EReal) := by
  obtain ⟨v, hv, rfl⟩ := hv
  obtain ⟨w, hw, rfl⟩ := hw
  exact ⟨_, lt_of_lt_of_le hv (le_max_left v w), (EReal.coe_strictMono.monotone.map_max).symm⟩

/-- A part of an array of positive reals is one. -/
theorem Pos.slice {s t : Shape} {φ : FTy} {V : FVec Ideal s φ} (off : Fin s.rank → ℕ) (h) (hV : Pos V) :
    Pos (φ := φ) (extractStridedSlice t off V h) := fun _ => hV _

/-- The greatest of positive reals over the sixteen rows is a positive real. -/
theorem fold_pos (f : Fin 16 → EReal) (h : ∀ i, ∃ r : ℝ, 0 < r ∧ f i = (r : EReal)) :
    ∃ r : ℝ, 0 < r ∧ Finset.univ.fold Max.max (⊥ : EReal) f = (r : EReal) := by
  have ht : Finset.univ.fold Max.max (⊥ : EReal) f < ⊤ := by
    rw [Finset.fold_max_lt]
    refine ⟨bot_lt_top, fun i _ => ?_⟩
    obtain ⟨r, _, e⟩ := h i
    rw [e]; exact EReal.coe_lt_top r
  have h0 : 0 < Finset.univ.fold Max.max (⊥ : EReal) f := by
    rw [Finset.lt_fold_max]
    obtain ⟨r, hr, e⟩ := h 0
    exact .inr ⟨0, Finset.mem_univ _, by rw [e]; exact_mod_cast hr⟩
  have e := EReal.coe_toReal ht.ne (lt_trans (EReal.bot_lt_coe 0) h0).ne'
  refine ⟨_, ?_, e.symm⟩
  rw [← e] at h0
  exact_mod_cast h0

/-- A pattern whose exponent is not all ones is a real. -/
theorem word_real (w : BitVec 32) (h : (w.extractLsb' 23 8).toNat ≠ 2 ^ 8 - 1) : ∃ r : ℝ, Ideal.ofBits .f32 w = (r : EReal) := by
  have h1 : Ideal.ofBits .f32 w ≠ ⊤ := by
    show Ideal.ieee 8 23 w ≠ ⊤
    unfold Ideal.ieee; dsimp only; rw [if_neg h]
    split <;> exact EReal.coe_ne_top _
  have h2 : Ideal.ofBits .f32 w ≠ ⊥ := by
    show Ideal.ieee 8 23 w ≠ ⊥
    unfold Ideal.ieee; dsimp only; rw [if_neg h]
    split <;> exact EReal.coe_ne_bot _
  exact ⟨_, (EReal.coe_toReal h1 h2).symm⟩

/-- The word the logarithm is multiplied by is a real. -/
theorem log2e_real : ∃ r : ℝ, Ideal.ofBits .f32 0x3FB8AA3B#32 = (r : EReal) := word_real _ (by decide)

/-- The logarithm of a positive real, times that word, is not plus infinity. -/
theorem step_real {x : EReal} (h : ∃ r : ℝ, 0 < r ∧ x = (r : EReal)) : Ideal.log x * Ideal.ofBits .f32 0x3FB8AA3B#32 ≠ ⊤ := by
  obtain ⟨r, hr, rfl⟩ := h
  obtain ⟨c, hc⟩ := log2e_real
  rw [hc, Ideal.log_coe, if_neg (not_le.2 hr), ← EReal.coe_mul]
  exact EReal.coe_ne_top _

section

variable {b : FVec Ideal S2048x2048 .bf16} {p p' : FVec Ideal S16x2048 .bf16} (m : Vec Ideal S1x2048 .f32) (B : Vec Ideal S1x2048x128 .bf16)
  (E : Vec Ideal S1x256x128 .bf16) (Q : Vec Ideal S128x2048 .bf16)

/-! Each stage of the greatest weight is a positive real where the stages and the weights before it are. -/

theorem pos77 (hb : Pos b) (hp : Pos p) : Pos (k0_pay77 b p) := by
  unfold k0_pay77; dsimp only
  repeat' (first | exact hp | exact hb | apply Pos.max | apply Pos.slice)
theorem pos78 (hb : Pos b) (hp : Pos p) : Pos (k0_pay78 b p) := by
  unfold k0_pay78; dsimp only
  repeat' (first | exact hp | exact hb | apply Pos.max | apply Pos.slice)
theorem pos79 (hb : Pos b) (hp : Pos p) : Pos (k0_pay79 b p) := by
  unfold k0_pay79; dsimp only
  repeat' (first | exact hp | exact hb | apply Pos.max | apply Pos.slice)
theorem pos80 (hb : Pos b) (hp : Pos p) : Pos (k0_pay80 b p) := by
  unfold k0_pay80; dsimp only
  repeat' (first | exact hp | exact hb | apply Pos.max | apply Pos.slice)
theorem pos84 (hb : Pos b) (hp : Pos p) : Pos (k0_pay84 b p) := by
  unfold k0_pay84; dsimp only
  repeat' (first | exact hp | exact hb | apply Pos.max | apply Pos.slice)
theorem pos85 (hb : Pos b) (hp : Pos p) : Pos (k0_pay85 b p) := by
  unfold k0_pay85; dsimp only
  repeat' (first | exact hp | exact hb | apply Pos.max | apply Pos.slice)
theorem pos86 (hb : Pos b) (hp : Pos p) : Pos (k0_pay86 b p) := by
  unfold k0_pay86; dsimp only
  repeat' (first | exact hp | exact hb | apply Pos.max | apply Pos.slice)
theorem pos83 (hb : Pos b) (hp : Pos p) : Pos (k0_pay83 p b) := by
  unfold k0_pay83; dsimp only
  repeat' (first | exact hp | exact hb | apply Pos.max | apply Pos.slice)
theorem pos116 (hb : Pos b) (hp : Pos p) : Pos (k0_pay116 p b) := by
  unfold k0_pay116; dsimp only
  repeat' (first | exact hp | exact hb | apply Pos.max | apply Pos.slice)
theorem pos107 (hb : Pos b) (hp : Pos p) (hp' : Pos p') : Pos (k0_pay107 b p p') := by
  unfold k0_pay107; dsimp only
  repeat' (first | exact hp | exact hp' | exact hb | apply Pos.max | apply Pos.slice)
theorem pos109 (hb : Pos b) (hp : Pos p) (hp' : Pos p') : Pos (k0_pay109 b p p') := by
  unfold k0_pay109; dsimp only
  repeat' (first | exact hp | exact hp' | exact hb | apply Pos.max | apply Pos.slice)
theorem pos111 (hb : Pos b) (hp : Pos p) (hp' : Pos p') : Pos (k0_pay111 b p p') := by
  unfold k0_pay111; dsimp only
  repeat' (first | exact hp | exact hp' | exact hb | apply Pos.max | apply Pos.slice)
theorem pos113 (hb : Pos b) (hp : Pos p) (hp' : Pos p') : Pos (k0_pay113 b p p') := by
  unfold k0_pay113; dsimp only
  repeat' (first | exact hp | exact hp' | exact hb | apply Pos.max | apply Pos.slice)
theorem pos118 (hb : Pos b) (hp : Pos p) (hp' : Pos p') : Pos (k0_pay118 b p p') := by
  unfold k0_pay118; dsimp only
  repeat' (first | exact hp | exact hp' | exact hb | apply Pos.max | apply Pos.slice)
theorem pos120 (hb : Pos b) (hp : Pos p) (hp' : Pos p') : Pos (k0_pay120 b p p') := by
  unfold k0_pay120; dsimp only
  repeat' (first | exact hp | exact hp' | exact hb | apply Pos.max | apply Pos.slice)
theorem pos122 (hb : Pos b) (hp : Pos p) (hp' : Pos p') : Pos (k0_pay122 b p p') := by
  unfold k0_pay122; dsimp only
  repeat' (first | exact hp | exact hp' | exact hb | apply Pos.max | apply Pos.slice)
theorem pos108 (hb : Pos b) : Pos (k0_pay108 b) := by
  unfold k0_pay108; dsimp only
  repeat' (first | exact hb | apply Pos.max | apply Pos.slice)
theorem pos110 (hb : Pos b) : Pos (k0_pay110 b) := by
  unfold k0_pay110; dsimp only
  repeat' (first | exact hb | apply Pos.max | apply Pos.slice)
theorem pos112 (hb : Pos b) : Pos (k0_pay112 b) := by
  unfold k0_pay112; dsimp only
  repeat' (first | exact hb | apply Pos.max | apply Pos.slice)
theorem pos117 (hb : Pos b) : Pos (k0_pay117 b) := by
  unfold k0_pay117; dsimp only
  repeat' (first | exact hb | apply Pos.max | apply Pos.slice)
theorem pos119 (hb : Pos b) : Pos (k0_pay119 b) := by
  unfold k0_pay119; dsimp only
  repeat' (first | exact hb | apply Pos.max | apply Pos.slice)
theorem pos121 (hb : Pos b) : Pos (k0_pay121 b) := by
  unfold k0_pay121; dsimp only
  repeat' (first | exact hb | apply Pos.max | apply Pos.slice)
theorem pos123 (hb : Pos b) : Pos (k0_pay123 b) := by
  unfold k0_pay123; dsimp only
  repeat' (first | exact hb | apply Pos.max | apply Pos.slice)
theorem pos76 (hb : Pos (k0_pay74 m B Q)) : Pos (k0_pay76 m B Q) := by
  unfold k0_pay76; dsimp only
  repeat' (first | exact hb | apply Pos.max | apply Pos.slice)
theorem pos105 (hb : Pos (k0_pay103 m B Q)) : Pos (k0_pay105 m B Q) := by
  unfold k0_pay105; dsimp only
  repeat' (first | exact hb | apply Pos.max | apply Pos.slice)
theorem pos106 (hb : Pos (k0_pay103 m B Q)) : Pos (k0_pay106 m B Q) := by
  unfold k0_pay106; dsimp only
  repeat' (first | exact hb | apply Pos.max | apply Pos.slice)
theorem pos127 (hb : Pos (k0_pay124 m E Q)) : Pos (k0_pay127 m E Q) := by
  unfold k0_pay127; dsimp only
  repeat' (first | exact hb | apply Pos.max | apply Pos.slice)
theorem pos126 (he : Pos (k0_pay124 m E Q)) (hb : Pos b) (hp : Pos p) (hp' : Pos p') : Pos (k0_pay126 m b p p' E Q) := by
  unfold k0_pay126; dsimp only
  repeat' (first | exact hp | exact hp' | exact hb | exact he | apply Pos.max | apply Pos.slice)

/-- The step of one trip of the first loop is not plus infinity. -/
theorem pay88_real (n : Fin 2048) (hb : Pos b) (hp : Pos p) : k0_pay88 b p (ix2 (0 : Fin 1) n) ≠ ⊤ := by
  pointwise [k0_pay88]
  refine step_real ?_
  rw [neg_inf]
  refine fold_pos _ fun x => ?_
  repeat' (first | exact hp _ | exact hb _ | apply pos_max)

/-- The step of the last block is not plus infinity. -/
theorem pay128_real {e : FVec Ideal S256x2048 .bf16} (n : Fin 2048) (hb : Pos e) (hp : Pos p) (hp' : Pos p') :
    k0_pay128 e p p' (ix2 (0 : Fin 1) n) ≠ ⊤ := by
  pointwise [k0_pay128]
  refine step_real ?_
  rw [neg_inf]
  refine fold_pos _ fun x => ?_
  repeat' (first | exact hp _ | exact hp' _ | exact hb _ | apply pos_max)

end

section

variable {KX : Vec Ideal S1x16640x128 .bf16} {Q : Vec Ideal S128x2048 .bf16} {m : Vec Ideal S1x2048 .f32}

/-- A weight is a positive real where the score and the exponent are real. -/
theorem wt_pos {K : ℕ} {B : Fin K → Fin 128 → EReal} {r : Fin K} {n : Fin 2048}
    (hs : ∃ s : ℝ, ∑ d : Fin 128, B r d * Q (ix2 d n) = (s : EReal)) (hm : ∃ μ : ℝ, m (ix2 (0 : Fin 1) n) = (μ : EReal)) :
    ∃ x : ℝ, 0 < x ∧ wt m B Q r n = (x : EReal) := by
  obtain ⟨s, hs⟩ := hs
  obtain ⟨μ, hm⟩ := hm
  exact ⟨Real.rpow 2 (s - μ), Real.rpow_pos_of_pos (by norm_num) _, by rw [wt, hs, hm, ← EReal.coe_sub, Ideal.exp2_coe]⟩

/-- The scores of a block of keys are real. -/
def Scored {K : ℕ} (B : Vec Ideal ⟨3, ![1, K, 128]⟩ .bf16) (Q : Vec Ideal S128x2048 .bf16) : Prop :=
  ∀ (r : Fin K) (n : Fin 2048), ∃ s : ℝ, ∑ d : Fin 128, B (ix3 (0 : Fin 1) r d) * Q (ix2 d n) = (s : EReal)

variable {A B : Vec Ideal S1x2048x128 .bf16} {E : Vec Ideal S1x256x128 .bf16} (hm : ∀ n, ∃ μ : ℝ, m (ix2 (0 : Fin 1) n) = (μ : EReal))

include hm

theorem pos74 (h : Scored A Q) : Pos (k0_pay74 m A Q) := fun i => by
  idx_vars i; rw [pay74_at]; exact wt_pos (h _ _) (hm _)
theorem pos81 (h : Scored A Q) : Pos (k0_pay81 m A Q) := fun i => by
  idx_vars i; rw [pay81_at]; exact wt_pos (h _ _) (hm _)
theorem pos103 (h : Scored A Q) : Pos (k0_pay103 m A Q) := fun i => by
  idx_vars i; rw [pay103_at]; exact wt_pos (h _ _) (hm _)
theorem pos114 (h : Scored A Q) : Pos (k0_pay114 m A Q) := fun i => by
  idx_vars i; rw [pay114_at]; exact wt_pos (h _ _) (hm _)
theorem pos124 (h : Scored E Q) : Pos (k0_pay124 m E Q) := fun i => by
  idx_vars i; rw [pay124_at]; exact wt_pos (h _ _) (hm _)

/-- The greatest weights of two blocks of 2048 keys are positive reals. -/
theorem pmax1_pos (hA : Scored A Q) (hB : Scored B Q) : Pos (pmax1 Q m A B) := by
  have a := pos74 hm hA
  have b := pos81 hm hB
  exact pos86 b (pos85 b (pos84 b (pos83 b (pos80 a (pos79 a (pos78 a (pos77 a (pos76 m A Q a))))))))

/-- The greatest weights of the last block, all but one tile, are positive reals. -/
theorem pmax3_pos (hC : Scored (keysC KX) Q) (hD : Scored (keysD KX) Q) (hE : Scored (keysE KX) Q) : Pos (pmax3 KX Q m) := by
  have c := pos103 hm hC
  have d := pos114 hm hD
  have e := pos124 hm hE
  have pc := pos113 c (pos111 c (pos109 c (pos107 c (pos105 m _ Q c) (pos106 m _ Q c)) (pos108 c)) (pos110 c)) (pos112 c)
  have pd := pos122 d (pos120 d (pos118 d (pos116 d pc) (pos117 d)) (pos119 d)) (pos121 d)
  exact pos126 m _ Q e d pd (pos123 d)

end

end Cert.Attn

end
-- ==== Proof.Reads.lean ====
/-
  The parts of the keys, the values and the kept weights that one trip of the kernel reads, element by element.
-/
module

public import proofs.«01_k».proof.Proof.Weights

@[expose] public section

set_option maxRecDepth 16384

noncomputable section

namespace Cert.Attn

open Cert.KernelIdeal Cert.KernelIdeal.Gen
open Idealize.ShloMosaic
open Idealize.ShloMosaic.TcCoe Idealize.ShloMosaic.Tactic

variable (KX : Vec Ideal S1x16640x128 .bf16) (VT : Vec Ideal S128x16640 .bf16) (Q : Vec Ideal S128x2048 .bf16) (m : Vec Ideal S1x2048 .f32)

/-- A trip of the first loop is one of three. -/
theorem trip1_lt (k : Fin k0_t1_loop.trips) : k.val < 3 := k.isLt
/-- A trip of the second loop is one of sixty-five. -/
theorem trip2_lt (k : Fin k0_t2_loop.trips) : k.val < 65 := k.isLt

/-- An element of the first 2048 keys of a trip. -/
theorem keysA_at (k : Fin k0_t1_loop.trips) (r : Fin 2048) (d : Fin 128) (h : 4096 * k.val + r.val < 16640) :
    keysA KX k (ix3 (0 : Fin 1) r d) = KX (ix3 (0 : Fin 1) ⟨4096 * k.val + r.val, h⟩ d) := by
  have e : k0_off1 k 0#32 = ![0, 4096 * k.val + 0, 0] := k0_off1_eq k 0
  unfold keysA
  refine congrArg KX (funext fun a => Fin.ext ?_)
  refine (congrArg (· + 1 * _) (congrFun (e) a)).trans ?_
  fin_cases a
  · rfl
  · show 4096 * k.val + 0 + 1 * r.val = 4096 * k.val + r.val; omega
  · show 0 + 1 * d.val = d.val; omega

/-- An element of the second 2048 keys of a trip. -/
theorem keysB_at (k : Fin k0_t1_loop.trips) (r : Fin 2048) (d : Fin 128) (h : 4096 * k.val + (2048 + r.val) < 16640) :
    keysB KX k (ix3 (0 : Fin 1) r d) = KX (ix3 (0 : Fin 1) ⟨4096 * k.val + (2048 + r.val), h⟩ d) := by
  have e : k0_off1 k 2048#32 = ![0, 4096 * k.val + 2048, 0] := k0_off1_eq k 1
  unfold keysB
  refine congrArg KX (funext fun a => Fin.ext ?_)
  refine (congrArg (· + 1 * _) (congrFun (e) a)).trans ?_
  fin_cases a
  · rfl
  · show 4096 * k.val + 2048 + 1 * r.val = 4096 * k.val + (2048 + r.val); omega
  · show 0 + 1 * d.val = d.val; omega

/-- An element of the transposed values of a trip. -/
theorem valsT_at (k : Fin k0_t1_loop.trips) (d : Fin 128) (r : Fin 4096) (h : 4096 * k.val + r.val < 16640) :
    valsT VT k (ix2 d r) = VT (ix2 d ⟨4096 * k.val + r.val, h⟩) := by
  unfold valsT
  refine congrArg VT (funext fun a => Fin.ext ?_)
  refine (congrArg (· + 1 * _) (congrFun (k0_off2_eq k) a)).trans ?_
  fin_cases a
  · show 0 + 1 * d.val = d.val; omega
  · show 4096 * k.val + 1 * r.val = 4096 * k.val + r.val; omega

/-- An element of the keys of a trip of the second loop. -/
theorem keys2_at (k : Fin k0_t2_loop.trips) (r : Fin 256) (d : Fin 128) (h : 256 * k.val + r.val < 16640) :
    (View.ld KX (Rect.unit (s := S1x16640x128) (k0_off3 k) S1x256x128.size (k0_off3_inb k)) : Vec Ideal S1x256x128 .bf16) (ix3 (0 : Fin 1) r d)
      = KX (ix3 (0 : Fin 1) ⟨256 * k.val + r.val, h⟩ d) := by
  refine congrArg KX (funext fun a => Fin.ext ?_)
  refine (congrArg (· + 1 * _) (congrFun (k0_off3_eq k) a)).trans ?_
  fin_cases a
  · rfl
  · show 256 * k.val + 1 * r.val = 256 * k.val + r.val; omega
  · show 0 + 1 * d.val = d.val; omega

/-- An element of the transposed values of a trip of the second loop. -/
theorem vals2_at (k : Fin k0_t2_loop.trips) (d : Fin 128) (r : Fin 256) (h : 256 * k.val + r.val < 16640) :
    (View.ld VT (Rect.unit (s := S128x16640) (k0_off4 k) S128x256.size (k0_off4_inb k)) : Vec Ideal S128x256 .bf16) (ix2 d r)
      = VT (ix2 d ⟨256 * k.val + r.val, h⟩) := by
  refine congrArg VT (funext fun a => Fin.ext ?_)
  refine (congrArg (· + 1 * _) (congrFun (k0_off4_eq k) a)).trans ?_
  fin_cases a
  · show 0 + 1 * d.val = d.val; omega
  · show 256 * k.val + 1 * r.val = 256 * k.val + r.val; omega

theorem keysC_at (r : Fin 2048) (d : Fin 128) : keysC KX (ix3 (0 : Fin 1) r d) = KX (ix3 (0 : Fin 1) ⟨12288 + r.val, by omega⟩ d) := by
  unfold keysC
  refine congrArg KX (funext fun a => Fin.ext ?_)
  fin_cases a
  · rfl
  · show 12288 + 1 * r.val = 12288 + r.val; omega
  · show 0 + 1 * d.val = d.val; omega
theorem keysD_at (r : Fin 2048) (d : Fin 128) : keysD KX (ix3 (0 : Fin 1) r d) = KX (ix3 (0 : Fin 1) ⟨12288 + (2048 + r.val), by omega⟩ d) := by
  unfold keysD
  refine congrArg KX (funext fun a => Fin.ext ?_)
  fin_cases a
  · rfl
  · show 14336 + 1 * r.val = 12288 + (2048 + r.val); omega
  · show 0 + 1 * d.val = d.val; omega
theorem keysE_at (r : Fin 256) (d : Fin 128) : keysE KX (ix3 (0 : Fin 1) r d) = KX (ix3 (0 : Fin 1) ⟨12288 + (4096 + r.val), by omega⟩ d) := by
  unfold keysE
  refine congrArg KX (funext fun a => Fin.ext ?_)
  fin_cases a
  · rfl
  · show 16384 + 1 * r.val = 12288 + (4096 + r.val); omega
  · show 0 + 1 * d.val = d.val; omega

/-- An element of the transposed values of the last block. -/
theorem vals3_at (d : Fin 128) (r : Fin 4352) :
    (View.ld VT (Rect.unit (s := S128x16640) ![0, 12288] S128x4352.size inb_S128x16640_S128x4352_0_12288) : Vec Ideal S128x4352 .bf16) (ix2 d r)
      = VT (ix2 d ⟨12288 + r.val, by omega⟩) := by
  refine congrArg VT (funext fun a => Fin.ext ?_)
  fin_cases a
  · show 0 + 1 * d.val = d.val; omega
  · show 12288 + 1 * r.val = 12288 + r.val; omega

/-- A kept weight of the first 2048 keys of a trip. -/
theorem wts1_lo (A B : Vec Ideal S1x2048x128 .bf16) (r n : Fin 2048) :
    wts1 Q m A B (ix2 ⟨r.val, by omega⟩ n) = wt m (fun r d => A (ix3 (0 : Fin 1) r d)) Q r n := by
  unfold wts1
  rw [View.canon_cons_of_not_mem]
  · have e : (ix2 (⟨r.val, by omega⟩ : Fin 4352) n : S4352x2048.Idx)
        = (Rect.unit (s := S4352x2048) ![0, 0] S2048x2048.size inb_S4352x2048_S2048x2048_0_0).emb (ix2 r n) := by
      refine (Rect.emb_eq_of_coords _ _ _ fun a => ?_).symm
      fin_cases a
      · show r.val = 0 + 1 * r.val; omega
      · show n.val = 0 + 1 * n.val; omega
    rw [e, View.canon_cons_emb]
    exact pay75_at m Q A r n
  · exact Rect.not_mem_set_of_axis _ _ (0 : Fin 2) 2048 2048 rfl rfl rfl (.inl r.isLt)

/-- A kept weight of the second 2048 keys of a trip. -/
theorem wts1_hi (A B : Vec Ideal S1x2048x128 .bf16) (r n : Fin 2048) :
    wts1 Q m A B (ix2 ⟨2048 + r.val, by omega⟩ n) = wt m (fun r d => B (ix3 (0 : Fin 1) r d)) Q r n := by
  unfold wts1
  have e : (ix2 (⟨2048 + r.val, by omega⟩ : Fin 4352) n : S4352x2048.Idx)
      = (Rect.unit (s := S4352x2048) ![2048, 0] S2048x2048.size inb_S4352x2048_S2048x2048_2048_0).emb (ix2 r n) := by
    refine (Rect.emb_eq_of_coords _ _ _ fun a => ?_).symm
    fin_cases a
    · show 2048 + r.val = 2048 + 1 * r.val; omega
    · show n.val = 0 + 1 * n.val; omega
  rw [e, View.canon_cons_emb]
  exact pay82_at m Q B r n

/-- The kept weights of a trip, as the product reads them. -/
theorem ld1_at (W : Vec Ideal S4352x2048 .bf16) (j : Fin 4096) (n : Fin 2048) :
    (View.ld W (Rect.unit (s := S4352x2048) ![0, 0] S4096x2048.size inb_S4352x2048_S4096x2048_0_0) : Vec Ideal S4096x2048 .bf16) (ix2 j n)
      = W (ix2 ⟨j.val, by omega⟩ n) := by
  refine congrArg W (funext fun a => Fin.ext ?_)
  fin_cases a
  · show 0 + 1 * j.val = j.val; omega
  · show 0 + 1 * n.val = n.val; omega

/-- A kept weight of the first 2048 keys of the last block. -/
theorem wts3_lo (r n : Fin 2048) :
    wts3 KX Q m (ix2 ⟨r.val, by omega⟩ n) = wt m (fun r d => keysC KX (ix3 (0 : Fin 1) r d)) Q r n := by
  unfold wts3
  rw [View.canon_cons_of_not_mem, View.canon_cons_of_not_mem]
  · have e : (ix2 (⟨r.val, by omega⟩ : Fin 4352) n : S4352x2048.Idx)
        = (Rect.unit (s := S4352x2048) ![0, 0] S2048x2048.size inb_S4352x2048_S2048x2048_0_0).emb (ix2 r n) := by
      refine (Rect.emb_eq_of_coords _ _ _ fun a => ?_).symm
      fin_cases a
      · show r.val = 0 + 1 * r.val; omega
      · show n.val = 0 + 1 * n.val; omega
    rw [e, View.canon_cons_emb]
    exact pay104_at m Q _ r n
  · exact Rect.not_mem_set_of_axis _ _ (0 : Fin 2) 2048 2048 rfl rfl rfl (.inl r.isLt)
  · exact Rect.not_mem_set_of_axis _ _ (0 : Fin 2) 4096 256 rfl rfl rfl (.inl (lt_trans r.isLt (by decide)))

/-- A kept weight of the second 2048 keys of the last block. -/
theorem wts3_mid (r n : Fin 2048) :
    wts3 KX Q m (ix2 ⟨2048 + r.val, by omega⟩ n) = wt m (fun r d => keysD KX (ix3 (0 : Fin 1) r d)) Q r n := by
  unfold wts3
  rw [View.canon_cons_of_not_mem]
  · have e : (ix2 (⟨2048 + r.val, by omega⟩ : Fin 4352) n : S4352x2048.Idx)
        = (Rect.unit (s := S4352x2048) ![2048, 0] S2048x2048.size inb_S4352x2048_S2048x2048_2048_0).emb (ix2 r n) := by
      refine (Rect.emb_eq_of_coords _ _ _ fun a => ?_).symm
      fin_cases a
      · show 2048 + r.val = 2048 + 1 * r.val; omega
      · show n.val = 0 + 1 * n.val; omega
    rw [e, View.canon_cons_emb]
    exact pay115_at m Q _ r n
  · exact Rect.not_mem_set_of_axis _ _ (0 : Fin 2) 4096 256 rfl rfl rfl (.inl (show 2048 + r.val < 4096 by omega))

/-- A kept weight of the last 256 keys. -/
theorem wts3_hi (r : Fin 256) (n : Fin 2048) :
    wts3 KX Q m (ix2 ⟨4096 + r.val, by omega⟩ n) = wt m (fun r d => keysE KX (ix3 (0 : Fin 1) r d)) Q r n := by
  unfold wts3
  have e : (ix2 (⟨4096 + r.val, by omega⟩ : Fin 4352) n : S4352x2048.Idx)
      = (Rect.unit (s := S4352x2048) ![4096, 0] S256x2048.size inb_S4352x2048_S256x2048_4096_0).emb (ix2 r n) := by
    refine (Rect.emb_eq_of_coords _ _ _ fun a => ?_).symm
    fin_cases a
    · show 4096 + r.val = 4096 + 1 * r.val; omega
    · show n.val = 0 + 1 * n.val; omega
  rw [e, View.canon_cons_emb]
  exact pay125_at m Q _ r n

end Cert.Attn

end
-- ==== Proof.Steps.lean ====
/-
  The kernel's two loops at the ideal carrier: every trip keeps the weighted sums of the keys gone over, so whichever loop
  the kernel ends with, it divides the same two sums.
-/
module

public import proofs.«01_k».proof.Proof.Lag
public import proofs.«01_k».proof.Proof.Maxes
public import proofs.«01_k».proof.Proof.Reads

@[expose] public section

set_option maxRecDepth 16384

noncomputable section

namespace Cert.Attn

open Cert.KernelIdeal Cert.KernelIdeal.Gen
open Idealize.ShloMosaic
open Idealize.ShloMosaic.TcCoe Idealize.ShloMosaic.Tactic

/-- The real values of a row: a row of the values, the row of ones, or a row of zeros. -/
def vx (v : Fin 128 → ℕ → ℝ) (r : Fin 144) : ℕ → ℝ :=
  if h : r.val < 128 then v ⟨r.val, h⟩ else if r.val = 128 then fun _ => 1 else fun _ => 0

/-- A row of a block of values is those real values. -/
theorem ext_coe (v : Fin 128 → ℕ → ℝ) {K : ℕ} (V : Fin 128 → Fin K → EReal) (r : Fin 144) (j : Fin K) (i : ℕ)
    (h : ∀ e, V e j = ((v e i : ℝ) : EReal)) : ext V r j = ((vx v r i : ℝ) : EReal) := by
  unfold ext vx
  by_cases h1 : r.val < 128
  · rw [dif_pos h1, dif_pos h1, h]
  · rw [dif_neg h1, dif_neg h1]
    by_cases h2 : r.val = 128
    · rw [if_pos h2, if_pos h2]; simp
    · rw [if_neg h2, if_neg h2]; simp

variable (σ : Fin 2048 → ℕ → ℝ) (v : Fin 128 → ℕ → ℝ)
  (KX : Vec Ideal S1x16640x128 .bf16) (VT : Vec Ideal S128x16640 .bf16) (Q : Vec Ideal S128x2048 .bf16)

/-- The scores are the reals `σ`, column by column. -/
def Scores : Prop := ∀ (n : Fin 2048) (j : ℕ) (h : j < 16640), ∑ d : Fin 128, KX (ix3 (0 : Fin 1) ⟨j, h⟩ d) * Q (ix2 d n) = ((σ n j : ℝ) : EReal)
/-- The values are the reals `v`, row by row. -/
def Values : Prop := ∀ (e : Fin 128) (j : ℕ) (h : j < 16640), VT (ix2 e ⟨j, h⟩) = ((v e j : ℝ) : EReal)

/-- The state holds the weighted sums of the first `k` keys. -/
def Held (k : ℕ) (m : Vec Ideal S1x2048 .f32) (a : Vec Ideal S144x2048 .f32) : Prop :=
  ∀ (n : Fin 2048) (r : Fin 144), Lag (σ n) (vx v r) k (m (ix2 (0 : Fin 1) n)) (a (ix2 r n))

/-- The state of the second loop holds the weighted sums of the first `k` keys, or it is the state before any key. -/
def Held2 (k : ℕ) (m : Vec Ideal S1x2048 .f32) (a : Vec Ideal S144x2048 .f32) : Prop :=
  ∀ (n : Fin 2048) (r : Fin 144), Exact (σ n) (vx v r) k (m (ix2 (0 : Fin 1) n)) (a (ix2 r n))

variable {σ v KX VT Q} (hS : Scores σ KX Q) (hV : Values v VT)

theorem Held.real {k : ℕ} {m : Vec Ideal S1x2048 .f32} {a : Vec Ideal S144x2048 .f32} (h : Held σ v k m a) (n : Fin 2048) :
    ∃ μ : ℝ, m (ix2 (0 : Fin 1) n) = (μ : EReal) := by
  obtain ⟨μ, e, _⟩ := h n 0
  exact ⟨μ, e⟩

/-- A weight whose key is the key `i`. -/
theorem wt_at {K : ℕ} {m : Vec Ideal S1x2048 .f32} {B : Fin K → Fin 128 → EReal} (i : ℕ) (r : Fin K) (n : Fin 2048) (h : i < 16640)
    (hS : Scores σ KX Q) (hB : ∀ d, B r d = KX (ix3 (0 : Fin 1) ⟨i, h⟩ d)) :
    wt m B Q r n = Ideal.exp2 (((σ n i : ℝ) : EReal) - m (ix2 (0 : Fin 1) n)) := by
  unfold wt
  rw [← hS n _ h]
  refine congrArg (fun z => Ideal.exp2 (z - _)) (Finset.sum_congr rfl fun d _ => ?_)
  rw [hB d]

/-- One of 4096 is one of the first 2048 or one of the second. -/
theorem split2 (j : Fin 4096) : (∃ r : Fin 2048, j = ⟨r.val, by omega⟩) ∨ ∃ r : Fin 2048, j = ⟨2048 + r.val, by omega⟩ := by
  by_cases h : j.val < 2048
  · exact .inl ⟨⟨j.val, h⟩, rfl⟩
  · exact .inr ⟨⟨j.val - 2048, by omega⟩, Fin.ext (by dsimp only; omega)⟩

/-- One of 4352 is one of the first 2048, one of the second, or one of the last 256. -/
theorem split3 (j : Fin 4352) : (∃ r : Fin 2048, j = ⟨r.val, by omega⟩) ∨ (∃ r : Fin 2048, j = ⟨2048 + r.val, by omega⟩)
    ∨ ∃ r : Fin 256, j = ⟨4096 + r.val, by omega⟩ := by
  by_cases h : j.val < 2048
  · exact .inl ⟨⟨j.val, h⟩, rfl⟩
  · by_cases h' : j.val < 4096
    · exact .inr (.inl ⟨⟨j.val - 2048, by omega⟩, Fin.ext (by dsimp only; omega)⟩)
    · exact .inr (.inr ⟨⟨j.val - 4096, by omega⟩, Fin.ext (by dsimp only; omega)⟩)

section One

include hS

theorem scoredA (k : Fin k0_t1_loop.trips) : Scored (keysA KX k) Q := fun r n => by
  have := trip1_lt k
  refine ⟨_, Eq.trans (Finset.sum_congr rfl fun d _ => ?_) (hS n (4096 * k.val + r.val) (by omega))⟩
  rw [keysA_at KX k r d (by omega)]
theorem scoredB (k : Fin k0_t1_loop.trips) : Scored (keysB KX k) Q := fun r n => by
  have := trip1_lt k
  refine ⟨_, Eq.trans (Finset.sum_congr rfl fun d _ => ?_) (hS n (4096 * k.val + (2048 + r.val)) (by omega))⟩
  rw [keysB_at KX k r d (by omega)]
theorem scoredC : Scored (keysC KX) Q := fun r n => by
  refine ⟨_, Eq.trans (Finset.sum_congr rfl fun d _ => ?_) (hS n (12288 + r.val) (by omega))⟩
  rw [keysC_at KX r d]
theorem scoredD : Scored (keysD KX) Q := fun r n => by
  refine ⟨_, Eq.trans (Finset.sum_congr rfl fun d _ => ?_) (hS n (12288 + (2048 + r.val)) (by omega))⟩
  rw [keysD_at KX r d]
theorem scoredE : Scored (keysE KX) Q := fun r n => by
  refine ⟨_, Eq.trans (Finset.sum_congr rfl fun d _ => ?_) (hS n (12288 + (4096 + r.val)) (by omega))⟩
  rw [keysE_at KX r d]

/-- The kept weights of a trip of the first loop. -/
theorem weights1 (m : Vec Ideal S1x2048 .f32) (k : Fin k0_t1_loop.trips) (j : Fin 4096) (n : Fin 2048) :
    wts1 Q m (keysA KX k) (keysB KX k) (ix2 ⟨j.val, by omega⟩ n)
      = Ideal.exp2 (((σ n (4096 * k.val + j.val) : ℝ) : EReal) - m (ix2 (0 : Fin 1) n)) := by
  have hk := trip1_lt k
  rcases split2 j with ⟨r, rfl⟩ | ⟨r, rfl⟩
  · exact (wts1_lo Q m _ _ r n).trans (wt_at (4096 * k.val + r.val) r n (by omega) hS fun d => keysA_at KX k r d _)
  · exact (wts1_hi Q m _ _ r n).trans (wt_at (4096 * k.val + (2048 + r.val)) r n (by omega) hS fun d => keysB_at KX k r d _)

/-- The kept weights of the last block. -/
theorem weights3 (m : Vec Ideal S1x2048 .f32) (j : Fin 4352) (n : Fin 2048) :
    wts3 KX Q m (ix2 j n) = Ideal.exp2 (((σ n (12288 + j.val) : ℝ) : EReal) - m (ix2 (0 : Fin 1) n)) := by
  rcases split3 j with ⟨r, rfl⟩ | ⟨r, rfl⟩ | ⟨r, rfl⟩
  · exact (wts3_lo KX Q m r n).trans (wt_at (12288 + r.val) r n (by omega) hS fun d => keysC_at KX r d)
  · exact (wts3_mid KX Q m r n).trans (wt_at (12288 + (2048 + r.val)) r n (by omega) hS fun d => keysD_at KX r d)
  · exact (wts3_hi KX Q m r n).trans (wt_at (12288 + (4096 + r.val)) r n (by omega) hS fun d => keysE_at KX r d)

end One

include hS hV

/-- One trip of the first loop takes 4096 more keys. -/
theorem step1_held (k : Fin k0_t1_loop.trips) (s : St Ideal) (h : Held σ v (4096 * k.val) s.m s.a) :
    Held σ v (4096 * k.val + 4096) (step1 KX VT Q k s).m (step1 KX VT Q k s).a := fun n r => by
  have hk := trip1_lt k
  have hm := h.real
  have hp := pmax1_pos hm (scoredA hS k) (scoredB hS k)
  have hx := pay88_real n (pos81 hm (scoredB hS k)) hp
  refine Lag.lag (h n r) hx ?_ ?_
  · exact (pay101_at (k0_pay89 s.m (k0_pay81 s.m (keysB KX k) Q) (pmax1 Q s.m (keysA KX k) (keysB KX k))) n).trans (pay89_at s.m _ _ n)
  · have e : (step1 KX VT Q k s).m (ix2 (0 : Fin 1) n) = k0_pay89 s.m (k0_pay81 s.m (keysB KX k) Q) (pmax1 Q s.m (keysA KX k) (keysB KX k)) (ix2 (0 : Fin 1) n) :=
      pay101_at (k0_pay89 s.m (k0_pay81 s.m (keysB KX k) Q) (pmax1 Q s.m (keysA KX k) (keysB KX k))) n
    rw [e]
    refine (pay100_at _ _ r n).trans ?_
    rw [pay87_at, pay90_at]
    refine congrArg (fun z => (_ + z) * _) (Finset.sum_congr rfl fun j _ => ?_)
    rw [ld1_at, weights1 hS, ext_coe v _ r j (4096 * k.val + j.val) fun e => ?_]
    rw [valsT_at VT k e j (by omega)]
    exact hV e _ _

/-- The last block takes the last 4352 keys. -/
theorem last_held (s : St Ideal) (h : Held σ v 12288 s.m s.a) : Held σ v 16640 (last KX VT Q s).m (last KX VT Q s).a := fun n r => by
  have hm := h.real
  have he := pos124 hm (scoredE hS)
  have hx := pay128_real n he (pmax3_pos hm (scoredC hS) (scoredD hS) (scoredE hS)) (pos127 s.m (keysE KX) Q he)
  refine Lag.lag (K := 4352) (h n r) hx ?_ ?_
  · exact (pay131_at (k0_pay129 s.m (k0_pay124 s.m (keysE KX) Q) (pmax3 KX Q s.m) (k0_pay127 s.m (keysE KX) Q)) n).trans (pay129_at s.m _ _ _ n)
  · have e : (last KX VT Q s).m (ix2 (0 : Fin 1) n) = k0_pay129 s.m (k0_pay124 s.m (keysE KX) Q) (pmax3 KX Q s.m) (k0_pay127 s.m (keysE KX) Q) (ix2 (0 : Fin 1) n) :=
      pay131_at (k0_pay129 s.m (k0_pay124 s.m (keysE KX) Q) (pmax3 KX Q s.m) (k0_pay127 s.m (keysE KX) Q)) n
    rw [e]
    refine (pay130_at s.m _ _ _ s.a _ _ r n).trans ?_
    refine congrArg (fun z => (_ + z) * _) (Finset.sum_congr rfl fun j _ => ?_)
    rw [weights3 hS, ext_coe v _ r j (12288 + j.val) fun e => ?_]
    rw [vals3_at VT e j]
    exact hV e _ _

/-- Before trip `n` of the first loop the state holds the first `4096 n` keys. -/
theorem iter1_held (g : Vec Ideal S1x2048 .f32) (n : ℕ) (hn : n ≤ k0_t1_loop.trips) :
    Held σ v (4096 * n) (iter1 KX VT Q (k0_pay97 (F := Ideal)) (k0_pay98 (F := Ideal)) g n).m (iter1 KX VT Q (k0_pay97 (F := Ideal)) (k0_pay98 (F := Ideal)) g n).a := by
  induction n with
  | zero =>
    intro n r
    show Lag _ _ 0 (k0_pay97 (F := Ideal) (ix2 (0 : Fin 1) n)) (k0_pay98 (F := Ideal) (ix2 r n))
    rw [pay97_at, pay98_at]
    exact Lag.start _ _
  | succ n ih =>
    rw [iter1_succ KX VT Q (k0_pay97 (F := Ideal)) (k0_pay98 (F := Ideal)) g ⟨n, hn⟩]
    exact step1_held hS hV ⟨n, hn⟩ _ (ih (Nat.le_of_succ_le hn))

/-- After the first loop and the last block the state holds all the keys. -/
theorem once_held : Held σ v 16640 (once KX VT Q).m (once KX VT Q).a :=
  last_held hS hV _ (iter1_held hS hV _ k0_t1_loop.trips le_rfl)

/-- One trip of the second loop takes 256 more keys. -/
theorem step2_held (k : Fin k0_t2_loop.trips) (s : Vec Ideal S1x2048 .f32 × Vec Ideal S144x2048 .f32) (h : Held2 σ v (256 * k.val) s.1 s.2) :
    Held2 σ v (256 * k.val + 256) (step2 KX VT Q k s).1 (step2 KX VT Q k s).2 := fun n r => by
  have hk := trip2_lt k
  have hs : ∀ j : Fin 256, k0_pay91 Q (View.ld KX (Rect.unit (s := S1x16640x128) (k0_off3 k) S1x256x128.size (k0_off3_inb k))) (ix2 j n)
      = ((σ n (256 * k.val + j.val) : ℝ) : EReal) := fun j => by
    rw [pay91_at, ← hS n _ (show 256 * k.val + j.val < 16640 by omega)]
    refine Finset.sum_congr rfl fun d _ => ?_
    rw [keys2_at KX k j d (by omega)]
  obtain ⟨y, hy⟩ : ∃ y : ℝ, Finset.univ.fold max (⊥ : EReal) (fun j : Fin 256 => ((σ n (256 * k.val + j.val) : ℝ) : EReal)) = (y : EReal) := by
    refine ⟨_, (EReal.coe_toReal (ne_of_lt ?_) (ne_of_gt ?_)).symm⟩
    · rw [Finset.fold_max_lt]
      exact ⟨bot_lt_top, fun j _ => EReal.coe_lt_top _⟩
    · rw [Finset.lt_fold_max]
      exact .inr ⟨0, Finset.mem_univ _, EReal.bot_lt_coe _⟩
  have e : (step2 KX VT Q k s).1 (ix2 (0 : Fin 1) n) = k0_pay92 Q (View.ld KX (Rect.unit (s := S1x16640x128) (k0_off3 k) S1x256x128.size (k0_off3_inb k))) s.1 (ix2 (0 : Fin 1) n) :=
    pay93_at s.1 Q _ n
  refine Exact.next (y := y) (h n r) ?_ ?_
  · rw [e, pay92_at]
    simp only [hs]
    rw [hy]
  · rw [e]
    refine (pay94_at s.1 Q _ _ s.2 r n).trans ?_
    refine congrArg (_ + ·) (Finset.sum_congr rfl fun j _ => ?_)
    rw [hs, ext_coe v _ r j (256 * k.val + j.val) fun e => ?_]
    rw [vals2_at VT k e j (by omega)]
    exact hV e _ _

/-- Before trip `n` of the second loop the state holds the first `256 n` keys. -/
theorem iter2_held (n : ℕ) (hn : n ≤ k0_t2_loop.trips) :
    Held2 σ v (256 * n) (iter2 KX VT Q (k0_pay135 (F := Ideal)) (k0_pay136 (F := Ideal)) n).1 (iter2 KX VT Q (k0_pay135 (F := Ideal)) (k0_pay136 (F := Ideal)) n).2 := by
  induction n with
  | zero =>
    intro n r
    show Exact _ _ 0 (k0_pay135 (F := Ideal) (ix2 (0 : Fin 1) n)) (k0_pay136 (F := Ideal) (ix2 r n))
    rw [pay135_at, pay136_at]
    exact .inl ⟨rfl, rfl, rfl⟩
  | succ n ih =>
    rw [iter2_succ KX VT Q (k0_pay135 (F := Ideal)) (k0_pay136 (F := Ideal)) ⟨n, hn⟩]
    exact step2_held hS hV ⟨n, hn⟩ _ (ih (Nat.le_of_succ_le hn))

/-- The sums the kernel divides, at some exponent that is one per column. -/
theorem sums_held : ∃ m : Vec Ideal S1x2048 .f32, Held σ v 16640 m (sums KX VT Q) := by
  unfold sums
  split
  · refine ⟨(iter2 KX VT Q (k0_pay135 (F := Ideal)) (k0_pay136 (F := Ideal)) k0_t2_loop.trips).1, fun n r => ?_⟩
    rcases iter2_held hS hV k0_t2_loop.trips le_rfl n r with ⟨h, _⟩ | h
    · exact absurd h (by decide)
    · exact h
  · exact ⟨_, once_held hS hV⟩

/-- The quotient the kernel takes: the average of the values with the weights two to the power of the scores. -/
theorem sums_quot (e : Fin 128) (n : Fin 2048) :
    Ideal.div (sums KX VT Q (ix2 ⟨e.val, by omega⟩ n)) (sums KX VT Q (ix2 (128 : Fin 144) n))
      = ((wsum (σ n) (v e) 16640 0 / wsum (σ n) (fun _ => 1) 16640 0 : ℝ) : EReal) := by
  obtain ⟨m, h⟩ := sums_held hS hV
  have h1 := h n ⟨e.val, by omega⟩
  have h2 := h n 128
  rw [show vx v ⟨e.val, by omega⟩ = v e from dif_pos e.isLt] at h1
  rw [show vx v 128 = fun _ => 1 from rfl] at h2
  exact Lag.quot (by decide) h1 h2

end Cert.Attn

end
-- ==== Proof.RefVal.lean ====
/-
  What the reference computes, element by element: the head of attention with its two softmaxes as quotients of sums of
  exponentials of the scores, for scores, values and weight that are real.
-/
module

public import proofs.«01_k».proof.Proof.Gen.ReferenceIdeal.Read
public import proofs.«01_k».proof.Proof.Lag
public import proofs.«01_k».proof.Proof.Weights
public import Idealize.ShloMosaic.Lib.Pipeline.ValueKit

@[expose] public section

set_option maxRecDepth 16384

noncomputable section

namespace Cert.Attn.Ref

open Cert.ReferenceIdeal Cert.ReferenceIdeal.Gen Cert.ReferenceIdeal.Read
open Idealize.ShloMosaic
open Idealize.ShloMosaic.TcCoe Idealize.ShloMosaic.Tactic

/-- The weight subtracting the second map. -/
theorem lam_at (x6 : (⟨S4x64, .f32⟩ : BufTy).Contents (Elt Ideal)) (i : S_.Idx) :
    val_main_v15 (F := Ideal) x6 i
      = Ideal.exp (∑ x : Fin 64, x6 (ix2 (0 : Fin 4) x) * x6 (ix2 (1 : Fin 4) x))
          - Ideal.exp (∑ x : Fin 64, x6 (ix2 (2 : Fin 4) x) * x6 (ix2 (3 : Fin 4) x)) + Ideal.ofBits .f32 0x3E4CCCCD#32 := by
  have e : i = fun a => a.elim0 := funext fun a => a.elim0
  subst e
  pointwise [val_main_v15, val_main_v14, val_main_v13, val_main_v12, val_main_v11, val_main_v10, val_main_v9, val_main_v8,
    val_main_v7, val_main_v6, val_main_v5, val_main_v4, val_main_v3, val_main_v2, val_main_v1, val_main_v0,
    val_main_cst_1, val_main_cst_0, val_main_cst]

/-- A score: the scaled product of a query and a key of one map, the context's keys first. -/
theorem score_at (x0 x1 : (⟨S2x16384x1024, .f32⟩ : BufTy).Contents (Elt Ideal))
    (x4 : (⟨S2x256x1024, .f32⟩ : BufTy).Contents (Elt Ideal))
    (b : Fin 2) (h : Fin 8) (t : Fin 2) (r : Fin 16384) (k : Fin 16640) :
    val_main_v25 (F := Ideal) x0 x1 x4 (ix5 b h t r k)
      = (∑ x : Fin 64, x0 (ix3 b r (⟨h.val * 128 + t.val * 64 + x.val, by omega⟩ : Fin 1024))
          * if hk : k.val < 256 then x4 (ix3 b (⟨k.val, hk⟩ : Fin 256) (⟨h.val * 128 + t.val * 64 + x.val, by omega⟩ : Fin 1024))
            else x1 (ix3 b (⟨k.val - 256, by omega⟩ : Fin 16384) (⟨h.val * 128 + t.val * 64 + x.val, by omega⟩ : Fin 1024)))
        * Ideal.ofBits .f32 0x3E000000#32 := by
  pointwise [val_main_v25, val_main_v24, val_main_v23, val_main_v19, val_main_v18, val_main_v17, val_main_v16, val_main_cst_2]

/-- A value: the context's first, then the latent's. -/
theorem value_at (x2 : (⟨S2x16384x1024, .f32⟩ : BufTy).Contents (Elt Ideal))
    (x5 : (⟨S2x256x1024, .f32⟩ : BufTy).Contents (Elt Ideal)) (b : Fin 2) (k : Fin 16640) (h : Fin 8) (e : Fin 128) :
    val_main_v22 (F := Ideal) x2 x5 (ix4 b k h e)
      = if hk : k.val < 256 then x5 (ix3 b (⟨k.val, hk⟩ : Fin 256) (⟨h.val * 128 + e.val, by omega⟩ : Fin 1024))
        else x2 (ix3 b (⟨k.val - 256, by omega⟩ : Fin 16384) (⟨h.val * 128 + e.val, by omega⟩ : Fin 1024)) := by
  pointwise [val_main_v22, val_main_v21, val_main_v20]

/-- The greatest of reals from minus infinity, over one or more of them, is a real. -/
theorem fold_real {ι : Type} (S : Finset ι) (hS : S.Nonempty) (f : ι → EReal) (hf : ∀ i, ∃ r : ℝ, f i = (r : EReal)) :
    ∃ r : ℝ, S.fold max ⊥ f = (r : EReal) := by
  have hlt : S.fold max ⊥ f < ⊤ := (Finset.fold_max_lt _).2 ⟨bot_lt_top, fun i _ => by
    obtain ⟨r, h⟩ := hf i; rw [h]; exact EReal.coe_lt_top r⟩
  have hgt : ⊥ < S.fold max ⊥ f := by
    obtain ⟨i, hi⟩ := hS
    refine (Finset.lt_fold_max _).2 (Or.inr ⟨i, hi, ?_⟩)
    obtain ⟨r, h⟩ := hf i; rw [h]; exact EReal.bot_lt_coe r
  exact ⟨_, (EReal.coe_toReal hlt.ne hgt.ne').symm⟩

/-- The greatest score of a row is a real, when the scores are. -/
theorem max_real (x0 x1 : (⟨S2x16384x1024, .f32⟩ : BufTy).Contents (Elt Ideal))
    (x4 : (⟨S2x256x1024, .f32⟩ : BufTy).Contents (Elt Ideal))
    (hs : ∀ i, ∃ r : ℝ, val_main_v25 (F := Ideal) x0 x1 x4 i = (r : EReal)) (j : S2x8x2x16384.Idx) :
    ∃ r : ℝ, val_main_v26 (F := Ideal) x0 x1 x4 j = (r : EReal) := by
  unfold val_main_v26
  generalize val_main_v25 (F := Ideal) x0 x1 x4 = y at hs
  have e := Host.reduce_eq_fold_single (FloatOps.maximumf (F := Ideal) (φ := .f32)) y (val_main_cst_3 (F := Ideal))
    reducesTo_S2x8x2x16384x16640_S2x8x2x16384_d4 (by decide) h_S_ j
  have ei : val_main_cst_3 (F := Ideal) (Shape.Idx.first h_S_) = ⊥ := (val_main_cst_3_apply _).trans neg_inf
  rw [e, ei]
  exact fold_real (ι := Fin 16640) Finset.univ ⟨0, Finset.mem_univ _⟩ _ fun i => hs _

/-- What is subtracted from the scores of a row is one real, when the scores are reals. -/
theorem shift_real (x0 x1 : (⟨S2x16384x1024, .f32⟩ : BufTy).Contents (Elt Ideal))
    (x4 : (⟨S2x256x1024, .f32⟩ : BufTy).Contents (Elt Ideal))
    (hs : ∀ i, ∃ r : ℝ, val_main_v25 (F := Ideal) x0 x1 x4 i = (r : EReal))
    (b : Fin 2) (h : Fin 8) (t : Fin 2) (r : Fin 16384) :
    ∃ M : ℝ, ∀ k : Fin 16640, val_main_v30 (F := Ideal) x0 x1 x4 (ix5 b h t r k) = (M : EReal) := by
  obtain ⟨M, hM⟩ := max_real x0 x1 x4 hs (ix4 b h t r)
  refine ⟨M, fun k => ?_⟩
  have ei : idx_main_v29 (idx_main_v30 (ix5 b h t r k)) = ix4 b h t r := by
    funext a; apply Fin.ext
    match a with
    | ⟨0, _⟩ => rfl
    | ⟨1, _⟩ => rfl
    | ⟨2, _⟩ => rfl
    | ⟨3, _⟩ => rfl
  have e27 : val_main_v27 (F := Ideal) (ix4 b h t r) = ⊥ :=
    (val_main_v27_apply _).trans ((val_main_cst_4_apply _).trans neg_inf)
  rw [val_main_v30_apply, val_main_v29_apply, ei, val_main_v28_apply, e27, hM, Ideal.maximumf_eq_max]
  exact max_eq_right bot_le

/-- An exponential of a score less the row's shift. -/
theorem exp_at (x0 x1 : (⟨S2x16384x1024, .f32⟩ : BufTy).Contents (Elt Ideal))
    (x4 : (⟨S2x256x1024, .f32⟩ : BufTy).Contents (Elt Ideal)) (i : S2x8x2x16384x16640.Idx) {s M : ℝ}
    (hs : val_main_v25 (F := Ideal) x0 x1 x4 i = (s : EReal)) (hM : val_main_v30 (F := Ideal) x0 x1 x4 i = (M : EReal)) :
    val_main_v32 (F := Ideal) x0 x1 x4 i = ((Real.exp (s - M) : ℝ) : EReal) := by
  rw [val_main_v32_apply, val_main_v31_apply, hs, hM]
  show Ideal.exp ((s : EReal) - (M : EReal)) = _
  rw [← EReal.coe_sub, Ideal.exp_coe]

/-- Softmax does not see a shift of the scores. -/
theorem soft_shift {n : ℕ} (s : Fin n → ℝ) (M : ℝ) (k : Fin n) :
    Real.exp (s k - M) / ∑ j, Real.exp (s j - M) = Real.exp (s k) / ∑ j, Real.exp (s j) := by
  simp only [Real.exp_sub]
  rw [← Finset.sum_div]
  have h := (Real.exp_pos M).ne'
  field_simp

/-- A row of the softmax, for real scores. -/
theorem soft_at (x0 x1 : (⟨S2x16384x1024, .f32⟩ : BufTy).Contents (Elt Ideal))
    (x4 : (⟨S2x256x1024, .f32⟩ : BufTy).Contents (Elt Ideal))
    (hr : ∀ i, ∃ r : ℝ, val_main_v25 (F := Ideal) x0 x1 x4 i = (r : EReal))
    (b : Fin 2) (h : Fin 8) (t : Fin 2) (r : Fin 16384) (s : Fin 16640 → ℝ)
    (hs : ∀ k, val_main_v25 (F := Ideal) x0 x1 x4 (ix5 b h t r k) = (s k : EReal)) (k : Fin 16640) :
    val_main_v36 (F := Ideal) x0 x1 x4 (ix5 b h t r k) = ((Real.exp (s k) / ∑ j, Real.exp (s j) : ℝ) : EReal) := by
  obtain ⟨M, hM⟩ := shift_real x0 x1 x4 hr b h t r
  have ei : idx_main_v34 (idx_main_v35 (ix5 b h t r k)) = ix4 b h t r := by
    funext a; apply Fin.ext
    match a with
    | ⟨0, _⟩ => rfl
    | ⟨1, _⟩ => rfl
    | ⟨2, _⟩ => rfl
    | ⟨3, _⟩ => rfl
  have ej : ∀ j, idx_main_v33 (ix4 b h t r) j = ix5 b h t r j := fun j => by
    funext a; apply Fin.ext
    match a with
    | ⟨0, _⟩ => rfl
    | ⟨1, _⟩ => rfl
    | ⟨2, _⟩ => rfl
    | ⟨3, _⟩ => rfl
    | ⟨4, _⟩ => rfl
  have e0 : val_main_cst_5 (F := Ideal) (Shape.Idx.first h_S_) = 0 :=
    (val_main_cst_5_apply _).trans Ideal.ofBits_zero_f32
  have ek : ∀ j, val_main_v32 (F := Ideal) x0 x1 x4 (ix5 b h t r j) = ((Real.exp (s j - M) : ℝ) : EReal) :=
    fun j => exp_at x0 x1 x4 _ (hs j) (hM j)
  have es : val_main_v35 (F := Ideal) x0 x1 x4 (ix5 b h t r k) = ((∑ j, Real.exp (s j - M) : ℝ) : EReal) := by
    rw [val_main_v35_apply, val_main_v34_apply, ei, val_main_v33_apply, e0, zero_add, ← coe_sum]
    exact Finset.sum_congr rfl fun j _ => by rw [ej, ek]
  have hp : 0 < ∑ j : Fin 16640, Real.exp (s j - M) :=
    Finset.sum_pos (fun j _ => Real.exp_pos _) ⟨k, Finset.mem_univ _⟩
  rw [val_main_v36_apply, ek, es, ← soft_shift s M k]
  show Ideal.div _ _ = _
  rw [Ideal.div_coe hp.ne', ← EReal.coe_mul, mul_one_div]

/-- The two maps' difference. -/
theorem diff_at (x0 x1 : (⟨S2x16384x1024, .f32⟩ : BufTy).Contents (Elt Ideal))
    (x4 : (⟨S2x256x1024, .f32⟩ : BufTy).Contents (Elt Ideal)) (x6 : (⟨S4x64, .f32⟩ : BufTy).Contents (Elt Ideal))
    (b : Fin 2) (h : Fin 8) (r : Fin 16384) (k : Fin 16640) :
    val_main_v43 (F := Ideal) x0 x1 x4 x6 (ix4 b h r k)
      = val_main_v36 (F := Ideal) x0 x1 x4 (ix5 b h (0 : Fin 2) r k)
        - val_main_v15 (F := Ideal) x6 (fun a => a.elim0) * val_main_v36 (F := Ideal) x0 x1 x4 (ix5 b h (1 : Fin 2) r k) := by
  have e0 : idx_main_v37 (idx_main_v38 (ix4 b h r k)) = ix5 b h (0 : Fin 2) r k := by
    funext a; apply Fin.ext
    match a with
    | ⟨0, _⟩ => show (((b.val * 8 + h.val) * 16384 + r.val) * 16640 + k.val) / 2181038080 = b.val; omega
    | ⟨1, _⟩ => show (((b.val * 8 + h.val) * 16384 + r.val) * 16640 + k.val) / 272629760 % 8 = h.val; omega
    | ⟨2, _⟩ => rfl
    | ⟨3, _⟩ => show (((b.val * 8 + h.val) * 16384 + r.val) * 16640 + k.val) / 16640 % 16384 = r.val; omega
    | ⟨4, _⟩ => show (((b.val * 8 + h.val) * 16384 + r.val) * 16640 + k.val) % 16640 = k.val; omega
  have e1 : idx_main_v39 (idx_main_v40 (ix4 b h r k)) = ix5 b h (1 : Fin 2) r k := by
    funext a; apply Fin.ext
    match a with
    | ⟨0, _⟩ => show (((b.val * 8 + h.val) * 16384 + r.val) * 16640 + k.val) / 2181038080 = b.val; omega
    | ⟨1, _⟩ => show (((b.val * 8 + h.val) * 16384 + r.val) * 16640 + k.val) / 272629760 % 8 = h.val; omega
    | ⟨2, _⟩ => rfl
    | ⟨3, _⟩ => show (((b.val * 8 + h.val) * 16384 + r.val) * 16640 + k.val) / 16640 % 16384 = r.val; omega
    | ⟨4, _⟩ => show (((b.val * 8 + h.val) * 16384 + r.val) * 16640 + k.val) % 16640 = k.val; omega
  rw [val_main_v43_apply, val_main_v38_apply, val_main_v37_apply, e0, val_main_v42_apply, val_main_v41_apply,
    val_main_v40_apply, val_main_v39_apply, e1]
  rfl

/-- Attention of one map, from real scores and values. -/
def att (s w : Fin 16640 → ℝ) : ℝ := (∑ k, w k * Real.exp (s k)) / ∑ k, Real.exp (s k)

/-- The attention of a head before it is normed: the first map's less the weighted second map's. -/
theorem head_in (x0 x1 x2 : (⟨S2x16384x1024, .f32⟩ : BufTy).Contents (Elt Ideal))
    (x4 x5 : (⟨S2x256x1024, .f32⟩ : BufTy).Contents (Elt Ideal)) (x6 : (⟨S4x64, .f32⟩ : BufTy).Contents (Elt Ideal))
    (hr : ∀ i, ∃ r : ℝ, val_main_v25 (F := Ideal) x0 x1 x4 i = (r : EReal))
    (b : Fin 2) (h : Fin 8) (r : Fin 16384) (e : Fin 128) (s : Fin 2 → Fin 16640 → ℝ) (w : Fin 16640 → ℝ) (l : ℝ)
    (hs : ∀ t k, val_main_v25 (F := Ideal) x0 x1 x4 (ix5 b h t r k) = (s t k : EReal))
    (hw : ∀ k, val_main_v22 (F := Ideal) x2 x5 (ix4 b k h e) = (w k : EReal))
    (hl : val_main_v15 (F := Ideal) x6 (fun a => a.elim0) = (l : EReal)) :
    val_main_v44 (F := Ideal) x0 x1 x2 x4 x5 x6 (ix4 b h e r) = ((att (s 0) w - l * att (s 1) w : ℝ) : EReal) := by
  have el : ∀ k, lidx_main_v44 (ix4 b h e r) k = ix4 b k h e := fun k => by
    funext a; apply Fin.ext
    match a with
    | ⟨0, _⟩ => rfl
    | ⟨1, _⟩ => rfl
    | ⟨2, _⟩ => rfl
    | ⟨3, _⟩ => rfl
  have er : ∀ k, ridx_main_v44 (ix4 b h e r) k = ix4 b h r k := fun k => by
    funext a; apply Fin.ext
    match a with
    | ⟨0, _⟩ => rfl
    | ⟨1, _⟩ => rfl
    | ⟨2, _⟩ => rfl
    | ⟨3, _⟩ => rfl
  have ek : ∀ k, val_main_v22 (F := Ideal) x2 x5 (lidx_main_v44 (ix4 b h e r) k)
      * val_main_v43 (F := Ideal) x0 x1 x4 x6 (ridx_main_v44 (ix4 b h e r) k)
      = ((w k * (Real.exp (s 0 k) / ∑ j, Real.exp (s 0 j) - l * (Real.exp (s 1 k) / ∑ j, Real.exp (s 1 j))) : ℝ) : EReal) :=
    fun k => by
      rw [el, er, hw, diff_at, hl, soft_at x0 x1 x4 hr b h 0 r (s 0) (hs 0) k, soft_at x0 x1 x4 hr b h 1 r (s 1) (hs 1) k,
        ← EReal.coe_mul, ← EReal.coe_sub, ← EReal.coe_mul]
  rw [val_main_v44_apply, Finset.sum_congr rfl fun k _ => ek k, coe_sum]
  refine congrArg Real.toEReal ?_
  unfold att
  rw [Finset.sum_div, Finset.sum_div, Finset.mul_sum, ← Finset.sum_sub_distrib]
  exact Finset.sum_congr rfl fun k _ => by ring

/-- A head of attention `o` normed by the root of its mean square, then scaled by `g` and by four fifths. -/
def normed (o g : Fin 128 → EReal) (e : Fin 128) : EReal :=
  o e * Ideal.rsqrt (Ideal.div (∑ x : Fin 128, o x * o x) (Ideal.ofBits .f32 0x43000000#32) + Ideal.ofBits .f32 0x358637BD#32)
    * g e * Ideal.ofBits .f32 0x3F4CCCCD#32

/-- An element of the result: its head, normed. -/
theorem result_at (x0 x1 x2 : (⟨S2x16384x1024, .f32⟩ : BufTy).Contents (Elt Ideal))
    (x4 x5 : (⟨S2x256x1024, .f32⟩ : BufTy).Contents (Elt Ideal)) (x6 : (⟨S4x64, .f32⟩ : BufTy).Contents (Elt Ideal))
    (x7 : (⟨S128, .f32⟩ : BufTy).Contents (Elt Ideal)) (b : Fin 2) (r : Fin 16384) (c : Fin 1024) :
    val_main_v62 (F := Ideal) x0 x1 x2 x4 x5 x6 x7 (ix3 b r c)
      = normed (fun e => val_main_v44 (F := Ideal) x0 x1 x2 x4 x5 x6 (ix4 b (⟨c.val / 128, by omega⟩ : Fin 8) e r))
          (fun e => x7 (ix1 e)) (⟨c.val % 128, by omega⟩ : Fin 128) := by
  unfold normed
  pointwise [val_main_v62, val_main_v61, val_main_v60, val_main_v59, val_main_v58, val_main_v57, val_main_v56, val_main_v55,
    val_main_v54, val_main_v53, val_main_v52, val_main_v51, val_main_v50, val_main_v49, val_main_v48, val_main_v47,
    val_main_v46, val_main_v45, val_main_cst_9, val_main_cst_8, val_main_cst_7, val_main_cst_6]

end Cert.Attn.Ref
-- ==== Proof.Out.lean ====
/-
  The block a grid point stores, element by element: the head of attention, normed, from the averages the kernel took.
-/
module

public import proofs.«01_k».proof.Proof.Steps
public import proofs.«01_k».proof.Proof.RefVal

@[expose] public section

set_option maxRecDepth 16384

noncomputable section

namespace Cert.Attn

open Cert.KernelIdeal Cert.KernelIdeal.Gen
open Idealize.ShloMosaic
open Idealize.ShloMosaic.TcCoe Idealize.ShloMosaic.Tactic

/-- The first part of the weight subtracting the second map. -/
theorem pay137_at (L : Vec Ideal S4x64 .f32) :
    k0_pay137 L (ix2 (0 : Fin 1) (0 : Fin 1))
      = Ideal.exp (∑ x : Fin 64, L (ix2 (0 : Fin 4) x) * L (ix2 (1 : Fin 4) x))
        - Ideal.exp (∑ x : Fin 64, L (ix2 (2 : Fin 4) x) * L (ix2 (3 : Fin 4) x)) := by
  pointwise [k0_pay137]

/-- Its second part. -/
theorem pay138_at : k0_pay138 (F := Ideal) (ix2 (0 : Fin 1) (0 : Fin 1)) = Ideal.ofBits .f32 0x3E4CCCCD#32 := by
  pointwise [k0_pay138]

/-- The stored block from the sums the kernel divides. -/
theorem pay1_at (A : Vec Ideal S144x2048 .f32) (x y : FVec Ideal S1x1 .f32) (G : Vec Ideal S128x1 .f32) (r : Fin 1024) (e : Fin 128) :
    k0_pay1 A x y G (ix3 (0 : Fin 1) r e)
      = Ref.normed (fun e => Ideal.div (A (ix2 (⟨e.val, by omega⟩ : Fin 144) (⟨r.val, by omega⟩ : Fin 2048))) (A (ix2 (128 : Fin 144) (⟨r.val, by omega⟩ : Fin 2048)))
            - (x (ix2 (0 : Fin 1) (0 : Fin 1)) + y (ix2 (0 : Fin 1) (0 : Fin 1)))
              * Ideal.div (A (ix2 (⟨e.val, by omega⟩ : Fin 144) (⟨1024 + r.val, by omega⟩ : Fin 2048))) (A (ix2 (128 : Fin 144) (⟨1024 + r.val, by omega⟩ : Fin 2048))))
          (fun e => G (ix2 e (0 : Fin 1))) e := by
  unfold Ref.normed
  pointwise [k0_pay1]

/-- A dimension is compared with 64 as a number. -/
theorem low_dim : ∀ d : Fin 128, IntOp.cmpi .slt (BitVec.ofNat 32 d.val) 64#32 = (if d.val < 64 then 1#1 else 0#1)
    ∧ IntOp.cmpi .sge (BitVec.ofNat 32 d.val) 64#32 = (if d.val < 64 then 0#1 else 1#1) := by decide +kernel

/-- The queries of both maps side by side, each with the other map's dimensions at zero. -/
theorem pay96_at (q : Vec Ideal S1x1024x128 .bf16) (d : Fin 128) (n : Fin 2048) :
    k0_pay96 q (ix2 d n)
      = if h : n.val < 1024 then (if d.val < 64 then q (ix3 (0 : Fin 1) (⟨n.val, h⟩ : Fin 1024) d) else 0)
        else (if d.val < 64 then 0 else q (ix3 (0 : Fin 1) (⟨n.val - 1024, by omega⟩ : Fin 1024) d)) := by
  pointwise [k0_pay96]
  rw [(low_dim d).1, (low_dim d).2]
  by_cases hd : d.val < 64 <;> simp only [hd, if_true, if_false] <;> rfl

/-- The average of the values of one query column, with the weights two to the power of the scores. -/
def avg (σ : Fin 2048 → ℕ → ℝ) (v : Fin 128 → ℕ → ℝ) (n : Fin 2048) (e : Fin 128) : ℝ :=
  wsum (σ n) (v e) 16640 0 / wsum (σ n) (fun _ => 1) 16640 0

/-- The block a grid point stores. -/
theorem outv_at (L : Vec Ideal S4x64 .f32) (G : Vec Ideal S128x1 .f32) (q : Vec Ideal S1x1024x128 .bf16)
    (KX : Vec Ideal S1x16640x128 .bf16) (VT : Vec Ideal S128x16640 .bf16) (σ : Fin 2048 → ℕ → ℝ) (v : Fin 128 → ℕ → ℝ) (l : ℝ)
    (hS : Scores σ KX (k0_pay96 q)) (hV : Values v VT)
    (hl : Ideal.exp (∑ x : Fin 64, L (ix2 (0 : Fin 4) x) * L (ix2 (1 : Fin 4) x))
        - Ideal.exp (∑ x : Fin 64, L (ix2 (2 : Fin 4) x) * L (ix2 (3 : Fin 4) x)) + Ideal.ofBits .f32 0x3E4CCCCD#32 = (l : EReal))
    (r : Fin 1024) (e : Fin 128) :
    outv L G q KX VT (ix3 (0 : Fin 1) r e)
      = Ref.normed (fun e => ((avg σ v ⟨r.val, by omega⟩ e - l * avg σ v ⟨1024 + r.val, by omega⟩ e : ℝ) : EReal))
          (fun e => G (ix2 e (0 : Fin 1))) e := by
  unfold outv
  rw [pay1_at, pay137_at, pay138_at, hl]
  congr 1
  funext e
  rw [sums_quot hS hV, sums_quot hS hV, ← EReal.coe_mul, ← EReal.coe_sub]
  rfl

end Cert.Attn

end
-- ==== Proof.Match.lean ====
/-
  The averages the kernel takes are the reference's softmax quotients: two to the power of a score scaled by one over the
  logarithm of two is the exponential of the score, and the keys come in another order.
-/
module

public import proofs.«01_k».proof.Proof.Out

@[expose] public section

set_option maxRecDepth 16384

noncomputable section

namespace Cert.Attn

open Cert.KernelIdeal Cert.KernelIdeal.Gen
open Idealize.ShloMosaic
open Idealize.ShloMosaic.TcCoe Idealize.ShloMosaic.Tactic

/-- The product of a key and a query over the dimensions of one map. -/
def prod (kr : Fin 16640 → Fin 128 → ℝ) (qr : Fin 1024 → Fin 128 → ℝ) (t : Fin 2) (r : Fin 1024) (k : Fin 16640) : ℝ :=
  ∑ x : Fin 64, kr k ⟨t.val * 64 + x.val, by omega⟩ * qr r ⟨t.val * 64 + x.val, by omega⟩

/-- The scores of a query column: the first half of the columns are the first map's, the other half the second's. -/
def sc (kr : Fin 16640 → Fin 128 → ℝ) (qr : Fin 1024 → Fin 128 → ℝ) (n : Fin 2048) (j : ℕ) : ℝ :=
  if h : j < 16640 then prod kr qr ⟨n.val / 1024, by omega⟩ ⟨n.val % 1024, by omega⟩ ⟨j, h⟩ else 0

/-- The values, as functions of the key's number. -/
def vv (vr : Fin 128 → Fin 16640 → ℝ) (e : Fin 128) (j : ℕ) : ℝ := if h : j < 16640 then vr e ⟨j, h⟩ else 0

/-- The product with a query that is zero outside the first map's dimensions. -/
theorem sum_low (f g : Fin 128 → ℝ) (F G : Fin 128 → EReal) (hF : ∀ d, F d = (f d : EReal))
    (hG : ∀ d, G d = if d.val < 64 then (g d : EReal) else 0) :
    ∑ d, F d * G d = ((∑ x : Fin 64, f ⟨(0 : Fin 2).val * 64 + x.val, by simp; omega⟩ * g ⟨(0 : Fin 2).val * 64 + x.val, by simp; omega⟩ : ℝ) : EReal) := by
  rw [← coe_sum]
  refine (Fin.sum_univ_add (a := 64) (b := 64) fun d => F d * G d).trans ?_
  have h2 : ∑ i : Fin 64, F (Fin.natAdd 64 i) * G (Fin.natAdd 64 i) = 0 := Finset.sum_eq_zero fun i _ => by
    rw [hG, if_neg (by simp [Fin.natAdd]), mul_zero]
  refine (congrArg (_ + ·) h2).trans ((add_zero _).trans (Finset.sum_congr rfl fun i _ => ?_))
  rw [hF, hG, if_pos (show (Fin.castAdd 64 i).val < 64 from i.isLt), ← EReal.coe_mul]
  have e : (Fin.castAdd 64 i : Fin 128) = ⟨(0 : Fin 2).val * 64 + i.val, by simp; omega⟩ := Fin.ext (by simp)
  rw [← e]

/-- The product with a query that is zero outside the second map's dimensions. -/
theorem sum_high (f g : Fin 128 → ℝ) (F G : Fin 128 → EReal) (hF : ∀ d, F d = (f d : EReal))
    (hG : ∀ d, G d = if d.val < 64 then 0 else (g d : EReal)) :
    ∑ d, F d * G d = ((∑ x : Fin 64, f ⟨(1 : Fin 2).val * 64 + x.val, by simp; omega⟩ * g ⟨(1 : Fin 2).val * 64 + x.val, by simp; omega⟩ : ℝ) : EReal) := by
  rw [← coe_sum]
  refine (Fin.sum_univ_add (a := 64) (b := 64) fun d => F d * G d).trans ?_
  have h2 : ∑ i : Fin 64, F (Fin.castAdd 64 i) * G (Fin.castAdd 64 i) = 0 := Finset.sum_eq_zero fun i _ => by
    rw [hG, if_pos (show (Fin.castAdd 64 i).val < 64 from i.isLt), mul_zero]
  refine (congrArg (· + _) h2).trans ((zero_add _).trans (Finset.sum_congr rfl fun i _ => ?_))
  rw [hF, hG, if_neg (by simp [Fin.natAdd]), ← EReal.coe_mul]
  have e : (Fin.natAdd 64 i : Fin 128) = ⟨(1 : Fin 2).val * 64 + i.val, by simp; omega⟩ := Fin.ext (by simp; omega)
  rw [← e]

/-- The kernel's scores, for real keys and queries. -/
theorem scores_of (KX : Vec Ideal S1x16640x128 .bf16) (q : Vec Ideal S1x1024x128 .bf16)
    (kr : Fin 16640 → Fin 128 → ℝ) (qr : Fin 1024 → Fin 128 → ℝ)
    (hK : ∀ k d, KX (ix3 (0 : Fin 1) k d) = (kr k d : EReal)) (hq : ∀ r d, q (ix3 (0 : Fin 1) r d) = (qr r d : EReal)) :
    Scores (sc kr qr) KX (k0_pay96 q) := fun n j h => by
  unfold sc prod
  rw [dif_pos h]
  by_cases hn : n.val < 1024
  · have e0 : (⟨n.val / 1024, by omega⟩ : Fin 2) = 0 := Fin.ext (by show n.val / 1024 = 0; omega)
    have e1 : (⟨n.val % 1024, by omega⟩ : Fin 1024) = ⟨n.val, hn⟩ := Fin.ext (Nat.mod_eq_of_lt hn)
    rw [e0, e1]
    refine sum_low (kr ⟨j, h⟩) (qr ⟨n.val, hn⟩) (fun d => KX (ix3 (0 : Fin 1) ⟨j, h⟩ d)) (fun d => k0_pay96 q (ix2 d n)) (fun d => hK _ d) fun d => ?_
    show k0_pay96 q (ix2 d n) = _
    rw [pay96_at, dif_pos hn, hq]
  · have e0 : (⟨n.val / 1024, by omega⟩ : Fin 2) = 1 := Fin.ext (by show n.val / 1024 = 1; omega)
    have e1 : (⟨n.val % 1024, by omega⟩ : Fin 1024) = ⟨n.val - 1024, by omega⟩ := Fin.ext (by show n.val % 1024 = n.val - 1024; omega)
    rw [e0, e1]
    refine sum_high (kr ⟨j, h⟩) (qr ⟨n.val - 1024, by omega⟩) (fun d => KX (ix3 (0 : Fin 1) ⟨j, h⟩ d)) (fun d => k0_pay96 q (ix2 d n)) (fun d => hK _ d) fun d => ?_
    show k0_pay96 q (ix2 d n) = _
    rw [pay96_at, dif_neg hn, hq]

/-- The kernel's values, for real ones. -/
theorem values_of (VT : Vec Ideal S128x16640 .bf16) (vr : Fin 128 → Fin 16640 → ℝ) (hv : ∀ e k, VT (ix2 e k) = (vr e k : EReal)) :
    Values (vv vr) VT := fun e j h => by
  unfold vv
  rw [hv, dif_pos h]

/-- The average of one query column is the softmax quotient of the scores times the logarithm of two. -/
theorem avg_eq (kr : Fin 16640 → Fin 128 → ℝ) (qr : Fin 1024 → Fin 128 → ℝ) (vr : Fin 128 → Fin 16640 → ℝ) (n : Fin 2048)
    (t : Fin 2) (r : Fin 1024) (hn : n.val = t.val * 1024 + r.val) (e : Fin 128) :
    avg (sc kr qr) (vv vr) n e = Ref.att (fun k => Real.log 2 * prod kr qr t r k) (vr e) := by
  have e0 : (⟨n.val / 1024, by omega⟩ : Fin 2) = t := Fin.ext (by show n.val / 1024 = t.val; omega)
  have e1 : (⟨n.val % 1024, by omega⟩ : Fin 1024) = r := Fin.ext (by show n.val % 1024 = r.val; omega)
  have es : ∀ k : Fin 16640, Real.rpow 2 (sc kr qr n k.val - 0) = Real.exp (Real.log 2 * prod kr qr t r k) := fun k => by
    unfold sc
    rw [dif_pos k.isLt, e0, e1, sub_zero]
    exact Real.rpow_def_of_pos (by norm_num) _
  unfold avg Ref.att wsum
  rw [Finset.sum_range, Finset.sum_range]
  refine congrArg₂ (· / ·) (Finset.sum_congr rfl fun k _ => ?_) (Finset.sum_congr rfl fun k _ => ?_)
  · rw [es k]
    unfold vv
    rw [dif_pos k.isLt]
  · rw [es k, one_mul]

/-- The kernel's number of the reference's key: the context's keys come last. -/
def order : Fin 16640 ≃ Fin 16640 where
  toFun k := if h : k.val < 256 then ⟨16384 + k.val, by omega⟩ else ⟨k.val - 256, by omega⟩
  invFun j := if h : j.val < 16384 then ⟨j.val + 256, by omega⟩ else ⟨j.val - 16384, by omega⟩
  left_inv k := by
    by_cases h : k.val < 256
    · simp only [h, dif_pos]; rw [dif_neg (by omega)]; exact Fin.ext (by simp)
    · simp only [h, dif_neg, not_false_iff]; rw [dif_pos (by omega)]; exact Fin.ext (by simp; omega)
  right_inv j := by
    by_cases h : j.val < 16384
    · simp only [h, dif_pos]; rw [dif_neg (by omega)]; exact Fin.ext (by simp)
    · simp only [h, dif_neg, not_false_iff]; rw [dif_pos (by omega)]; exact Fin.ext (by simp; omega)

/-- Attention does not see the order of the keys. -/
theorem att_order (s w : Fin 16640 → ℝ) : Ref.att (fun k => s (order k)) (fun k => w (order k)) = Ref.att s w := by
  unfold Ref.att
  rw [Equiv.sum_comp order fun k => w k * Real.exp (s k), Equiv.sum_comp order fun k => Real.exp (s k)]

/-- The word of an eighth. -/
theorem word_eighth : Ideal.ofBits .f32 0x3E000000#32 = ((1 / 8 : ℝ) : EReal) := by
  simp [Ideal.ofBits, Ideal.ieee]
  rw [← EReal.coe_mul]
  norm_num

/-- The word of two. -/
theorem word_two : Ideal.ofBits .f32 0x40000000#32 = ((2 : ℝ) : EReal) := by
  simp [Ideal.ofBits, Ideal.ieee]
  rw [← EReal.coe_mul]
  norm_num

/-- The scale the kernel gives the queries: an eighth over the logarithm of two. -/
theorem scale_eq : Ideal.div (Ideal.ofBits .f32 0x3E000000#32) (Ideal.log (Ideal.ofBits .f32 0x40000000#32))
    = ((1 / 8 / Real.log 2 : ℝ) : EReal) := by
  have h : Real.log 2 ≠ 0 := (Real.log_pos (by norm_num)).ne'
  rw [word_eighth, word_two, Ideal.log_coe, if_neg (by norm_num), Ideal.div_coe h, ← EReal.coe_mul, mul_one_div]

/-- The score with the scale taken out. -/
theorem prod_scaled (kr : Fin 16640 → Fin 128 → ℝ) (qr : Fin 1024 → Fin 128 → ℝ) (t : Fin 2) (r : Fin 1024) (k : Fin 16640) :
    Real.log 2 * prod kr (fun r d => qr r d * (1 / 8 / Real.log 2)) t r k
      = (∑ x : Fin 64, qr r ⟨t.val * 64 + x.val, by omega⟩ * kr k ⟨t.val * 64 + x.val, by omega⟩) * (1 / 8) := by
  have h : Real.log 2 ≠ 0 := (Real.log_pos (by norm_num)).ne'
  unfold prod
  rw [Finset.mul_sum, Finset.sum_mul]
  refine Finset.sum_congr rfl fun x _ => ?_
  field_simp

end Cert.Attn

end
-- ==== Proof.Host.lean ====
/-
  What the launch's arrays hold, element by element, from the arguments; and the blocks a grid point reads of them.
-/
module

public import proofs.«01_k».proof.Proof.Region
public import Idealize.ShloMosaic.Lib.StableHlo.ReadAt

@[expose] public section

set_option maxRecDepth 16384

noncomputable section

namespace Cert.Attn

open Cert.KernelIdeal Cert.KernelIdeal.Gen
open Idealize.ShloMosaic
open Idealize.ShloMosaic.TcCoe Idealize.ShloMosaic.Tactic

variable (m : (ℓ : Loc nD τ sig) → Buf (Elt Ideal) ℓ) (c : Dev nD)

/-- A row of a concatenation: the latent's rows, then the context's. -/
def rows (a : (⟨S2x16384x1024, .f32⟩ : BufTy).Contents (Elt Ideal)) (z : (⟨S2x256x1024, .f32⟩ : BufTy).Contents (Elt Ideal))
    (b : Fin 2) (k : Fin 16640) (d : Fin 1024) : EReal :=
  if h : k.val < 16384 then a (ix3 b (⟨k.val, h⟩ : Fin 16384) d) else z (ix3 b (⟨k.val - 16384, by omega⟩ : Fin 256) d)

/-- The keys. -/
theorem keys_at (b : Fin 2) (k : Fin 16640) (d : Fin 1024) :
    V m c main_v8 (ix3 b k d) = rows (m ((c : Thread nD τ).loc main_arg1)) (m ((c : Thread nD τ).loc main_arg4)) b k d := by
  unfold V V0 rows
  after_reads_at
  rfl

/-- The values. -/
theorem vals_at (b : Fin 2) (k : Fin 16640) (d : Fin 1024) :
    V m c main_v10 (ix3 b k d) = rows (m ((c : Thread nD τ).loc main_arg2)) (m ((c : Thread nD τ).loc main_arg5)) b k d := by
  unfold V V0 rows
  after_reads_at
  rfl

/-- The queries, scaled. -/
theorem queries_at (b : Fin 2) (k : Fin 16640) (d : Fin 1024) :
    V m c main_v6 (ix3 b k d) = rows (m ((c : Thread nD τ).loc main_arg0)) (m ((c : Thread nD τ).loc main_arg3)) b k d
      * Ideal.div (Ideal.ofBits .f32 0x3E000000#32) (Ideal.log (Ideal.ofBits .f32 0x40000000#32)) := by
  unfold V V0 rows
  after_reads_at
  rfl

/-- The norm's weights. -/
theorem gains_at (e : Fin 128) : V m c main_v11 (ix2 e (0 : Fin 1)) = m ((c : Thread nD τ).loc main_arg7) (ix1 e) := by
  unfold V V0
  after_reads_at

/-- The block indices of the windows at a point: its row block, head and batch. -/
theorem index0 : ∀ t : Fin cfg0.N, (cfg0.win 0).index t = ![0, 0] := by decide +kernel
/-- The norm's weights, whole. -/
theorem index1 : ∀ t : Fin cfg0.N, (cfg0.win 1).index t = ![0, 0] := by decide +kernel
/-- The queries' rows. -/
theorem index2 : ∀ t : Fin cfg0.N, (cfg0.win 2).index t = ![t.val / 128, t.val % 16, t.val / 16 % 8] := by decide +kernel
/-- The keys, all rows. -/
theorem index3 : ∀ t : Fin cfg0.N, (cfg0.win 3).index t = ![t.val / 128, 0, t.val / 16 % 8] := by decide +kernel
/-- The result's rows. -/
theorem index5 : ∀ t : Fin cfg0.N, (cfg0.win 5).index t = ![t.val / 128, t.val % 16, t.val / 16 % 8] := by decide +kernel

/-- The point's batch. -/
def pb (t : Fin cfg0.N) : Fin 2 := ⟨t.val / 128, by have h : t.val < grid0.N := t.isLt; have e := N_0; omega⟩

/-- The block of the weight's vectors. -/
theorem iblk0_at (t : Fin cfg0.N) (x : Fin 4) (y : Fin 64) :
    iblk m c 0 t (ix2 x y) = V m c main_arg6 (ix2 x y) := by
  blk_ext [iblk, index0 t]

/-- The block of the norm's weights. -/
theorem iblk1_at (t : Fin cfg0.N) (e : Fin 128) :
    iblk m c 1 t (ix2 e (0 : Fin 1)) = V m c main_v11 (ix2 e (0 : Fin 1)) := by
  blk_ext [iblk, index1 t]

/-- The block of keys. -/
theorem iblk3_at (t : Fin cfg0.N) (k : Fin 16640) (d : Fin 128) :
    iblk m c 3 t (ix3 (0 : Fin 1) k d) = V m c main_v8 (ix3 (pb t) k (⟨t.val / 16 % 8 * 128 + d.val, by omega⟩ : Fin 1024)) := by
  blk_ext [iblk, index3 t]
  rfl

/-- The block of queries. -/
theorem X0_2_at (t : Fin cfg0.N) (r : Fin 1024) (d : Fin 128) :
    X0_2 m c t (ix3 (0 : Fin 1) r d) = V m c main_v6 (ix3 (pb t) (⟨t.val % 16 * 1024 + r.val, by omega⟩ : Fin 16640)
      (⟨t.val / 16 % 8 * 128 + d.val, by omega⟩ : Fin 1024)) := by
  unfold X0_2 Pipeline.Window.fill
  rw [dif_pos (moved0_2 t _)]
  blk_ext [iblk, index2 t]
  rfl

/-- The block of transposed values. -/
theorem tv_at (t : Fin cfg0.N) (e : Fin 128) (k : Fin 16640) :
    tv m c t (ix2 e k) = V m c main_v10 (ix3 (pb t) k (⟨t.val / 16 % 8 * 128 + e.val, by omega⟩ : Fin 1024)) :=
  iblk4_at m c t (ix3 0 k e)

end Cert.Attn

end
-- ==== Proof.Both.lean ====
/-
  Attention over the reals, and that the kernel's block and the reference's result are both it, normed.
-/
module

public import proofs.«01_k».proof.Proof.Match
public import proofs.«01_k».proof.Proof.Host

@[expose] public section

set_option maxRecDepth 16384

noncomputable section

namespace Cert.Attn

open Cert.KernelIdeal Cert.KernelIdeal.Gen
open Idealize.ShloMosaic
open Idealize.ShloMosaic.TcCoe Idealize.ShloMosaic.Tactic

section Real

variable (a0 a1 a2 : S2x16384x1024.Idx → ℝ) (a4 a5 : S2x256x1024.Idx → ℝ) (l : ℝ)

/-- A row of a concatenation of reals: the latent's rows, then the context's. -/
def rowsR (a : S2x16384x1024.Idx → ℝ) (z : S2x256x1024.Idx → ℝ) (b : Fin 2) (k : Fin 16640) (d : Fin 1024) : ℝ :=
  if h : k.val < 16384 then a (ix3 b (⟨k.val, h⟩ : Fin 16384) d) else z (ix3 b (⟨k.val - 16384, by omega⟩ : Fin 256) d)

/-- A head's columns. -/
def col (h : Fin 8) (d : Fin 128) : Fin 1024 := ⟨h.val * 128 + d.val, by omega⟩

/-- A score of one map of a head. -/
def score (b : Fin 2) (h : Fin 8) (r : Fin 16384) (t : Fin 2) (k : Fin 16640) : ℝ :=
  (∑ x : Fin 64, a0 (ix3 b r (col h ⟨t.val * 64 + x.val, by omega⟩)) * rowsR a1 a4 b k (col h ⟨t.val * 64 + x.val, by omega⟩)) * (1 / 8)

/-- A head of differential attention. -/
def diffAtt (b : Fin 2) (h : Fin 8) (r : Fin 16384) (e : Fin 128) : ℝ :=
  Ref.att (score a0 a1 a4 b h r 0) (fun k => rowsR a2 a5 b k (col h e))
    - l * Ref.att (score a0 a1 a4 b h r 1) (fun k => rowsR a2 a5 b k (col h e))

/-- The reference's key is the kernel's key of that number. -/
theorem rowsR_order (a : S2x16384x1024.Idx → ℝ) (z : S2x256x1024.Idx → ℝ) (b : Fin 2) (k : Fin 16640) (d : Fin 1024) :
    rowsR a z b (order k) d = if h : k.val < 256 then z (ix3 b (⟨k.val, h⟩ : Fin 256) d)
      else a (ix3 b (⟨k.val - 256, by omega⟩ : Fin 16384) d) := by
  unfold rowsR
  by_cases h : k.val < 256
  · have e : order k = ⟨16384 + k.val, by omega⟩ := dif_pos h
    rw [dif_pos h, e, dif_neg (by simp)]
    exact congrArg (fun q : Fin 256 => z (ix3 b q d)) (Fin.ext (Nat.add_sub_cancel_left _ _))
  · have e : order k = ⟨k.val - 256, by omega⟩ := dif_neg h
    rw [dif_neg h, e, dif_pos (by show k.val - 256 < 16384; omega)]

end Real

section Reference

variable (x0 x1 x2 : (⟨S2x16384x1024, .f32⟩ : BufTy).Contents (Elt Ideal)) (x4 x5 : (⟨S2x256x1024, .f32⟩ : BufTy).Contents (Elt Ideal))
  (x6 : (⟨S4x64, .f32⟩ : BufTy).Contents (Elt Ideal)) (x7 : (⟨S128, .f32⟩ : BufTy).Contents (Elt Ideal))
  (a0 a1 a2 : S2x16384x1024.Idx → ℝ) (a4 a5 : S2x256x1024.Idx → ℝ) (l : ℝ)
  (h0 : ∀ i, x0 i = (a0 i : EReal)) (h1 : ∀ i, x1 i = (a1 i : EReal)) (h2 : ∀ i, x2 i = (a2 i : EReal))
  (h4 : ∀ i, x4 i = (a4 i : EReal)) (h5 : ∀ i, x5 i = (a5 i : EReal))
  (hl : Ideal.exp (∑ x : Fin 64, x6 (ix2 (0 : Fin 4) x) * x6 (ix2 (1 : Fin 4) x))
        - Ideal.exp (∑ x : Fin 64, x6 (ix2 (2 : Fin 4) x) * x6 (ix2 (3 : Fin 4) x)) + Ideal.ofBits .f32 0x3E4CCCCD#32 = (l : EReal))

include h0 h1 h4 in
/-- The reference's scores are real. -/
theorem ref_score (b : Fin 2) (h : Fin 8) (t : Fin 2) (r : Fin 16384) (k : Fin 16640) :
    Cert.ReferenceIdeal.Read.val_main_v25 (F := Ideal) x0 x1 x4 (ix5 b h t r k) = (score a0 a1 a4 b h r t (order k) : EReal) := by
  rw [Ref.score_at, word_eighth]
  unfold score
  rw [EReal.coe_mul, ← coe_sum]
  congr 1
  refine Finset.sum_congr rfl fun x _ => ?_
  have e : (⟨h.val * 128 + t.val * 64 + x.val, by omega⟩ : Fin 1024) = col h ⟨t.val * 64 + x.val, by omega⟩ :=
    Fin.ext (Nat.add_assoc _ _ _)
  rw [e, rowsR_order, h0, EReal.coe_mul]
  congr 1
  by_cases hk : k.val < 256
  · rw [dif_pos hk, dif_pos hk, h4]
  · rw [dif_neg hk, dif_neg hk, h1]

include h2 h5 in
/-- The reference's values are real. -/
theorem ref_value (b : Fin 2) (k : Fin 16640) (h : Fin 8) (e : Fin 128) :
    Cert.ReferenceIdeal.Read.val_main_v22 (F := Ideal) x2 x5 (ix4 b k h e) = (rowsR a2 a5 b (order k) (col h e) : EReal) := by
  rw [Ref.value_at, rowsR_order]
  by_cases hk : k.val < 256
  · rw [dif_pos hk, dif_pos hk, h5]; rfl
  · rw [dif_neg hk, dif_neg hk, h2]; rfl

include h0 h1 h2 h4 h5 hl in
/-- The reference's result. -/
theorem ref_result (b : Fin 2) (r : Fin 16384) (j : Fin 1024) :
    Cert.ReferenceIdeal.Read.val_main_v62 (F := Ideal) x0 x1 x2 x4 x5 x6 x7 (ix3 b r j)
      = Ref.normed (fun e => (diffAtt a0 a1 a2 a4 a5 l b (⟨j.val / 128, by omega⟩ : Fin 8) r e : EReal))
          (fun e => x7 (ix1 e)) (⟨j.val % 128, by omega⟩ : Fin 128) := by
  rw [Ref.result_at]
  refine congrArg (fun f => Ref.normed f (fun e => x7 (ix1 e)) (⟨j.val % 128, by omega⟩ : Fin 128)) (funext fun e => ?_)
  have hr : ∀ i, ∃ z : ℝ, Cert.ReferenceIdeal.Read.val_main_v25 (F := Ideal) x0 x1 x4 i = (z : EReal) := fun i => by
    idx_vars i
    exact ⟨_, ref_score x0 x1 x4 a0 a1 a4 h0 h1 h4 _ _ _ _ _⟩
  rw [Ref.head_in x0 x1 x2 x4 x5 x6 hr b ⟨j.val / 128, by omega⟩ r e
    (fun t k => score a0 a1 a4 b ⟨j.val / 128, by omega⟩ r t (order k)) (fun k => rowsR a2 a5 b (order k) (col ⟨j.val / 128, by omega⟩ e)) l
    (fun t k => ref_score x0 x1 x4 a0 a1 a4 h0 h1 h4 _ _ _ _ _) (fun k => ref_value x2 x5 a2 a5 h2 h5 _ _ _ _)
    ((Ref.lam_at x6 _).trans hl)]
  unfold diffAtt
  rw [att_order (score a0 a1 a4 b ⟨j.val / 128, by omega⟩ r 0) fun k => rowsR a2 a5 b k (col ⟨j.val / 128, by omega⟩ e),
    att_order (score a0 a1 a4 b ⟨j.val / 128, by omega⟩ r 1) fun k => rowsR a2 a5 b k (col ⟨j.val / 128, by omega⟩ e)]

end Reference

section Kernel

variable (m : (ℓ : Loc nD τ sig) → Buf (Elt Ideal) ℓ) (c : Dev nD)
  (a0 a1 a2 : S2x16384x1024.Idx → ℝ) (a4 a5 : S2x256x1024.Idx → ℝ) (l : ℝ)
  (h0 : ∀ i, m ((c : Thread nD τ).loc main_arg0) i = (a0 i : EReal)) (h1 : ∀ i, m ((c : Thread nD τ).loc main_arg1) i = (a1 i : EReal))
  (h2 : ∀ i, m ((c : Thread nD τ).loc main_arg2) i = (a2 i : EReal))
  (h4 : ∀ i, m ((c : Thread nD τ).loc main_arg4) i = (a4 i : EReal)) (h5 : ∀ i, m ((c : Thread nD τ).loc main_arg5) i = (a5 i : EReal))
  (hl : ∀ x6 : (⟨S4x64, .f32⟩ : BufTy).Contents (Elt Ideal), (∀ x y, x6 (ix2 x y) = m ((c : Thread nD τ).loc main_arg6) (ix2 x y)) →
      Ideal.exp (∑ x : Fin 64, x6 (ix2 (0 : Fin 4) x) * x6 (ix2 (1 : Fin 4) x))
        - Ideal.exp (∑ x : Fin 64, x6 (ix2 (2 : Fin 4) x) * x6 (ix2 (3 : Fin 4) x)) + Ideal.ofBits .f32 0x3E4CCCCD#32 = (l : EReal))

/-- A row of a concatenation of arrays of reals is real. -/
theorem rows_real {a : (⟨S2x16384x1024, .f32⟩ : BufTy).Contents (Elt Ideal)} {z : (⟨S2x256x1024, .f32⟩ : BufTy).Contents (Elt Ideal)}
    {ar : S2x16384x1024.Idx → ℝ} {zr : S2x256x1024.Idx → ℝ} (ha : ∀ i, a i = (ar i : EReal)) (hz : ∀ i, z i = (zr i : EReal))
    (b : Fin 2) (k : Fin 16640) (d : Fin 1024) : rows a z b k d = (rowsR ar zr b k d : EReal) := by
  unfold rows rowsR
  by_cases hk : k.val < 16384
  · rw [dif_pos hk, dif_pos hk, ha]
  · rw [dif_neg hk, dif_neg hk, hz]

/-- The point's head. -/
def ph (t : Fin cfg0.N) : Fin 8 := ⟨t.val / 16 % 8, by omega⟩

/-- A row of the point's block, in the result. -/
def pr (t : Fin cfg0.N) (r : Fin 1024) : Fin 16384 := ⟨t.val % 16 * 1024 + r.val, by omega⟩

include h0 h1 h2 h4 h5 hl in
/-- The block a point stores. -/
theorem point_at (t : Fin cfg0.N) (r : Fin 1024) (e : Fin 128) :
    outv (iblk m c 0 t) (iblk m c 1 t) (X0_2 m c t) (iblk m c 3 t) (tv m c t) (ix3 (0 : Fin 1) r e)
      = Ref.normed (fun e => (diffAtt a0 a1 a2 a4 a5 l (pb t) (ph t) (pr t r) e : EReal))
          (fun e => m ((c : Thread nD τ).loc main_arg7) (ix1 e)) e := by
  have hK : ∀ k d, iblk m c 3 t (ix3 (0 : Fin 1) k d) = (rowsR a1 a4 (pb t) k (col (ph t) d) : EReal) := fun k d =>
    (iblk3_at m c t k d).trans ((keys_at m c _ _ _).trans (rows_real h1 h4 _ _ _))
  have hV : ∀ e k, tv m c t (ix2 e k) = (rowsR a2 a5 (pb t) k (col (ph t) e) : EReal) := fun e k =>
    (tv_at m c t e k).trans ((vals_at m c _ _ _).trans (rows_real h2 h5 _ _ _))
  have hQ : ∀ r d, X0_2 m c t (ix3 (0 : Fin 1) r d) = ((a0 (ix3 (pb t) (pr t r) (col (ph t) d)) * (1 / 8 / Real.log 2) : ℝ) : EReal) := fun r d => by
    refine (X0_2_at m c t r d).trans ((queries_at m c _ _ _).trans ?_)
    rw [scale_eq, EReal.coe_mul]
    congr 1
    unfold rows
    rw [dif_pos (by show t.val % 16 * 1024 + r.val < 16384; omega), h0]
    rfl
  have hL := hl (iblk m c 0 t) fun x y => (iblk0_at m c t x y).trans (congrFun (V_main_arg6 m c) _)
  rw [outv_at _ _ _ _ _ _ _ l (scores_of _ _ _ _ hK hQ) (values_of _ _ hV) hL r e]
  have hs : ∀ u : Fin 2, (fun k => Real.log 2 * prod (fun k d => rowsR a1 a4 (pb t) k (col (ph t) d))
      (fun r d => a0 (ix3 (pb t) (pr t r) (col (ph t) d)) * (1 / 8 / Real.log 2)) u r k) = score a0 a1 a4 (pb t) (ph t) (pr t r) u :=
    fun u => funext fun k => prod_scaled _ (fun r d => a0 (ix3 (pb t) (pr t r) (col (ph t) d))) u r k
  refine congrArg₂ (fun f g => Ref.normed f g e) (funext fun e => ?_) (funext fun e => ?_)
  · rw [avg_eq _ _ _ ⟨r.val, by omega⟩ 0 r (by simp) e, avg_eq _ _ _ ⟨1024 + r.val, by omega⟩ 1 r (by simp) e, hs, hs]
    rfl
  · exact (iblk1_at m c t e).trans (gains_at m c e)

end Kernel

end Cert.Attn

end
-- ==== Proof.Finite.lean ====
/-
  The precondition read: the arguments it names are real numbers.
-/
module

public import proofs.«01_k».proof.Proof.Gen.Pre_finite
public import Idealize.ShloMosaic.Lib.ReduceAll
public import Idealize.ShloMosaic.Lib.Pipeline.ValueKit

@[expose] public section

set_option maxRecDepth 16384

noncomputable section

namespace Cert.Attn

open Cert.Pre_finite Cert.Pre_finite.Gen
open Idealize.ShloMosaic

/-- The word of plus infinity. -/
theorem pos_inf : Ideal.ofBits .f32 0x7F800000#32 = ⊤ := by simp [Ideal.ofBits, Ideal.ieee]

/-- What lies below plus infinity in absolute value is a real. -/
theorem real_of_abs {x : EReal} (h : Ideal.cmp .olt (max x (-x)) (Ideal.ofBits .f32 0x7F800000#32) = 1#1) : ∃ r : ℝ, x = (r : EReal) := by
  have h' : max x (-x) < ⊤ := by
    rw [pos_inf] at h
    by_contra hn
    rw [show Ideal.cmp .olt (max x (-x)) ⊤ = 0#1 from by simp [Ideal.cmp, hn]] at h
    exact absurd h (by decide)
  refine ⟨x.toReal, (EReal.coe_toReal (lt_of_le_of_lt (le_max_left _ _) h').ne fun e => ?_).symm⟩
  rw [e] at h'
  exact absurd h' (by simp)

/-- A result of no axes has one index. -/
instance : Subsingleton S_.Idx := ⟨fun a b => funext fun i => i.elim0⟩

/-- An array every entry of which lies below plus infinity in absolute value is an array of reals. -/
theorem all_real {s : Shape} {axes : List (Fin s.rank)} (x : FVec Ideal s .f32) (hb : S_.BroadcastsInDim s (![] : Fin 0 → Fin s.rank))
    (hr : s.ReducesTo axes S_) (j : S_.Idx)
    (h : Host.reduce IntOp.andi (cmpf .olt (Host.absf x) (broadcastInDim s ![] hb (constant S_ .f32 0x7F800000#32)))
      (constantI S_ 1 1#1) hr h_S_ j = 1#1) (i : s.Idx) : ∃ r : ℝ, x i = (r : EReal) :=
  real_of_abs (Host.reduce_andi_all _ _ hr h_S_ j h i)

/-- The arrays of the precondition are arrays of reals. -/
theorem reals (x0 x1 x2 : FVec Ideal S2x16384x1024 .f32) (x3 x4 x5 : FVec Ideal S2x256x1024 .f32) (x6 : FVec Ideal S4x64 .f32)
    (x7 : FVec Ideal S128 .f32) (h : fn (F := Ideal) x0 x1 x2 x3 x4 x5 x6 x7 = fun _ => 1#1) :
    (∀ i, ∃ r : ℝ, x0 i = (r : EReal)) ∧ (∀ i, ∃ r : ℝ, x1 i = (r : EReal)) ∧ (∀ i, ∃ r : ℝ, x2 i = (r : EReal))
      ∧ (∀ i, ∃ r : ℝ, x4 i = (r : EReal)) ∧ (∀ i, ∃ r : ℝ, x5 i = (r : EReal)) ∧ (∀ i, ∃ r : ℝ, x6 i = (r : EReal)) := by
  have h0 := congrFun h (Shape.Idx.first h_S_)
  have a6 := IntOp.andi_eq_one.mp h0
  have a5 := IntOp.andi_eq_one.mp a6.1
  have a4 := IntOp.andi_eq_one.mp a5.1
  have a2 := IntOp.andi_eq_one.mp a4.1
  have a1 := IntOp.andi_eq_one.mp a2.1
  exact ⟨all_real x0 _ _ _ a1.1, all_real x1 _ _ _ a1.2, all_real x2 _ _ _ a2.2, all_real x4 _ _ _ a4.2,
    all_real x5 _ _ _ a5.2, all_real x6 _ _ _ a6.2⟩

end Cert.Attn

end
-- ==== Proof.Result.lean ====
/-
  The kernel's result array, and the claim that it and the reference's are one array.
-/
module

public import proofs.«01_k».proof.Proof.Both
public import proofs.«01_k».proof.Proof.Finite
public import proofs.«01_k».proof.Proof.Frames

@[expose] public section

set_option maxRecDepth 16384

noncomputable section

namespace Cert.Attn

open Cert.KernelIdeal Cert.KernelIdeal.Gen
open Idealize.ShloMosaic
open Idealize.ShloMosaic.TcCoe Idealize.ShloMosaic.Tactic

variable (m : (ℓ : Loc nD τ sig) → Buf (Elt Ideal) ℓ) (c : Dev nD)

/-- An array of latent rows, set in an array of all the rows. -/
def whole (R : Fin 2 → Fin 16384 → Fin 1024 → EReal) (i : S2x16640x1024.Idx) : EReal :=
  if h : (i 1).val < 16384 then R (i 0) (⟨(i 1).val, h⟩ : Fin 16384) (i 2) else 0

/-- A point's block at an index, when each point's block is the matching block of `R`. -/
theorem block_at (R : Fin 2 → Fin 16384 → Fin 1024 → EReal)
    (hR : ∀ (t : Fin cfg0.N) (r : Fin 1024) (e : Fin 128),
      outv (iblk m c 0 t) (iblk m c 1 t) (X0_2 m c t) (iblk m c 3 t) (tv m c t) (ix3 (0 : Fin 1) r e) = R (pb t) (pr t r) (col (ph t) e))
    (t : Fin cfg0.N) (q : S1x1024x128.Idx) (p : S2x16640x1024.Idx)
    (p0 : (p (0 : Fin 3)).val = t.val / 128 * 1 + 1 * (q (0 : Fin 3)).val)
    (p1 : (p (1 : Fin 3)).val = t.val % 16 * 1024 + 1 * (q (1 : Fin 3)).val)
    (p2 : (p (2 : Fin 3)).val = t.val / 16 % 8 * 128 + 1 * (q (2 : Fin 3)).val) :
    outv (iblk m c 0 t) (iblk m c 1 t) (X0_2 m c t) (iblk m c 3 t) (tv m c t) q = whole R p := by
  have q0 : (q (0 : Fin 3)).val = 0 := Nat.lt_one_iff.mp (q (0 : Fin 3)).isLt
  obtain ⟨r, hr⟩ : ∃ r : Fin 1024, r.val = (q (1 : Fin 3)).val := ⟨q (1 : Fin 3), rfl⟩
  obtain ⟨e, he⟩ : ∃ e : Fin 128, e.val = (q (2 : Fin 3)).val := ⟨q (2 : Fin 3), rfl⟩
  have eq : q = ix3 (0 : Fin 1) r e := by
    funext a
    match a with
    | ⟨0, _⟩ => exact Fin.ext q0
    | ⟨1, _⟩ => exact Fin.ext hr.symm
    | ⟨2, _⟩ => exact Fin.ext he.symm
  have hlt : (p (1 : Fin 3)).val < 16384 := by omega
  have f0 : pb t = p (0 : Fin 3) := Fin.ext (by show t.val / 128 = (p (0 : Fin 3)).val; omega)
  have f1 : pr t r = ⟨(p (1 : Fin 3)).val, hlt⟩ := Fin.ext (by show t.val % 16 * 1024 + r.val = (p (1 : Fin 3)).val; omega)
  have f2 : col (ph t) e = p (2 : Fin 3) := Fin.ext (by show t.val / 16 % 8 * 128 + e.val = (p (2 : Fin 3)).val; omega)
  refine (congrArg _ eq).trans ((hR t r e).trans ?_)
  rw [f0, f1, f2]
  unfold whole
  rw [dif_pos hlt]

/-- The launch's result in its latent rows, when each point's block is the matching block of `R`. -/
theorem arr_at (R : Fin 2 → Fin 16384 → Fin 1024 → EReal)
    (hR : ∀ (t : Fin cfg0.N) (r : Fin 1024) (e : Fin 128),
      outv (iblk m c 0 t) (iblk m c 1 t) (X0_2 m c t) (iblk m c 3 t) (tv m c t) (ix3 (0 : Fin 1) r e) = R (pb t) (pr t r) (col (ph t) e))
    (i : S2x16640x1024.Idx) (hi : (i 1).val / 1024 < 16) :
    (dats m 0 c).arrAt 5 cfg0.N i = R (i 0) (⟨(i 1).val, by omega⟩ : Fin 16384) (i 2) := by
  refine ((dats m 0 c).arrAt_apply_of_coversWhere 5
    (whole R)
    (P := fun i : S2x16640x1024.Idx => (i 1).val / 1024 < 16)
    (fun β => β (1 : Fin 3) < 16) (by decide +kernel) (fun t hf y => ?_) (fun j => Iff.rfl) i).trans ?_
  · blk_simp
    have e : ∀ a : Fin 3, ((win0_5.blk t).view.emb y a).val = win0_5.index t a * S1x1024x128.size a + 1 * (y a).val := fun a => rfl
    have z : ∀ a : Fin 3, (win0_5.xinj (grid0.coords t) y a).val = (y a).val := fun a => rfl
    generalize (win0_5.blk t).view.emb y = p at e
    change outv (iblk m c 0 t) (iblk m c 1 t) (X0_2 m c t) (iblk m c 3 t) (tv m c t) (win0_5.xinj (grid0.coords t) y) = whole R p
    generalize win0_5.xinj (grid0.coords t) y = q at z
    have i0 : win0_5.index t (0 : Fin 3) = t.val / 128 := congrFun (index5 t) (0 : Fin 3)
    have i1 : win0_5.index t (1 : Fin 3) = t.val % 16 := congrFun (index5 t) (1 : Fin 3)
    have i2 : win0_5.index t (2 : Fin 3) = t.val / 16 % 8 := congrFun (index5 t) (2 : Fin 3)
    have p0 : (p (0 : Fin 3)).val = t.val / 128 * 1 + 1 * (q (0 : Fin 3)).val := by rw [← i0, z]; exact e 0
    have p1 : (p (1 : Fin 3)).val = t.val % 16 * 1024 + 1 * (q (1 : Fin 3)).val := by rw [← i1, z]; exact e 1
    have p2 : (p (2 : Fin 3)).val = t.val / 16 % 8 * 128 + 1 * (q (2 : Fin 3)).val := by rw [← i2, z]; exact e 2
    exact block_at m c R hR t q p p0 p1 p2
  · rw [if_pos hi]
    exact dif_pos (by omega)

/-- The kernel's result: the launch's, its latent rows. -/
theorem out_at (b : Fin 2) (r : Fin 16384) (j : Fin 1024) :
    Pipeline.afterTail₀ cfgs (dats m) 0 (V0 m) [hostOps1] c main_v13 (ix3 b r j)
      = (dats m 0 c).arrAt 5 cfg0.N (ix3 b (⟨r.val, by omega⟩ : Fin 16640) j) := by
  unfold Pipeline.afterTail₀
  have e : Pipeline.withArrays spec0 c (V0 m c) (fun w => (dats m 0 c).arrAt w cfg0.N) (Proc.devRef .tc main_v12)
      = (dats m 0 c).arrAt 5 cfg0.N := Pipeline.withArrays_arr spec0 (by decide) c (V0 m c) _ 5
  generalize Pipeline.withArrays spec0 c (V0 m c) (fun w => (dats m 0 c).arrAt w cfg0.N) = W at e ⊢
  rw [← e]
  after_reads_at

/-- The factor of the second map is real when its vectors are. -/
theorem factor_real (x6 : (⟨S4x64, .f32⟩ : BufTy).Contents (Elt Ideal)) (a6 : S4x64.Idx → ℝ) (h6 : ∀ i, x6 i = (a6 i : EReal)) :
    ∃ l : ℝ, Ideal.exp (∑ x : Fin 64, x6 (ix2 (0 : Fin 4) x) * x6 (ix2 (1 : Fin 4) x))
        - Ideal.exp (∑ x : Fin 64, x6 (ix2 (2 : Fin 4) x) * x6 (ix2 (3 : Fin 4) x)) + Ideal.ofBits .f32 0x3E4CCCCD#32 = (l : EReal) := by
  have s : ∀ i j : Fin 4, (∑ x : Fin 64, x6 (ix2 i x) * x6 (ix2 j x)) = ((∑ x : Fin 64, a6 (ix2 i x) * a6 (ix2 j x) : ℝ) : EReal) :=
    fun i j => (Finset.sum_congr rfl fun x _ => by rw [h6, h6, ← EReal.coe_mul]).trans (coe_sum _ _)
  obtain ⟨w, hw⟩ := word_real 0x3E4CCCCD#32 (by decide)
  rw [s, s, hw, Ideal.exp_coe, Ideal.exp_coe, ← EReal.coe_sub, ← EReal.coe_add]
  exact ⟨_, rfl⟩

/-- Under the precondition the kernel's result is the reference's. -/
theorem result_eq (h : Cert.Pre_finite.fn (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7)) = fun _ => 1#1) :
    Pipeline.afterTail₀ cfgs (dats m) 0 (V0 m) [hostOps1] c main_v13
      = Cert.ReferenceIdeal.Read.val_main_v62 (F := Ideal) (m ((c : Thread nD τ).loc main_arg0)) (m ((c : Thread nD τ).loc main_arg1))
          (m ((c : Thread nD τ).loc main_arg2)) (m ((c : Thread nD τ).loc main_arg4)) (m ((c : Thread nD τ).loc main_arg5))
          (m ((c : Thread nD τ).loc main_arg6)) (m ((c : Thread nD τ).loc main_arg7)) := by
  obtain ⟨h0, h1, h2, h4, h5, h6⟩ := reals _ _ _ _ _ _ _ _ h
  choose a0 h0 using h0
  choose a1 h1 using h1
  choose a2 h2 using h2
  choose a4 h4 using h4
  choose a5 h5 using h5
  choose a6 h6 using h6
  obtain ⟨l, hl⟩ := factor_real _ a6 h6
  funext i
  idx_vars i
  rw [ref_result _ _ _ _ _ _ _ a0 a1 a2 a4 a5 l h0 h1 h2 h4 h5 hl, out_at m c i0 i1 i2]
  refine (arr_at m c (fun b r j => Ref.normed (fun e => (diffAtt a0 a1 a2 a4 a5 l b (⟨j.val / 128, by omega⟩ : Fin 8) r e : EReal))
    (fun e => m ((c : Thread nD τ).loc main_arg7) (ix1 e)) (⟨j.val % 128, by omega⟩ : Fin 128)) (fun t r e => ?_) _
      (by show i1.val / 1024 < 16; omega)).trans rfl
  have d : (⟨(col (ph t) e).val / 128, by omega⟩ : Fin 8) = ph t := Fin.ext (by show ((ph t).val * 128 + e.val) / 128 = (ph t).val; omega)
  have d' : (⟨(col (ph t) e).val % 128, by omega⟩ : Fin 128) = e := Fin.ext (by show ((ph t).val * 128 + e.val) % 128 = e.val; omega)
  rw [point_at m c a0 a1 a2 a4 a5 l h0 h1 h2 h4 h5 (fun x6 hx => by simp only [hx]; exact hl) t r e, d, d']

/-- Under the precondition the idealized kernel and the idealized reference end with one result. -/
theorem algebraic : Cert.algebraic_KernelIdeal_ReferenceIdeal_pre_finite := fun m ρ m' ρ' hm hargs => by
  refine ⟨fun c => Cert.ReferenceIdeal.Read.val_main_v62 (F := Ideal) (m ((c : Thread nD τ).loc main_arg0)) (m ((c : Thread nD τ).loc main_arg1))
          (m ((c : Thread nD τ).loc main_arg2)) (m ((c : Thread nD τ).loc main_arg4)) (m ((c : Thread nD τ).loc main_arg5))
          (m ((c : Thread nD τ).loc main_arg6)) (m ((c : Thread nD τ).loc main_arg7)),
    (θ_run defs _ _).mono (fun r h c => ⟨?_, args_kept m r h.1 c⟩) (run_main m ρ),
    (θ_run Cert.ReferenceIdeal.defs _ _).mono (fun r h c => ⟨?_, (h c).2⟩) (Cert.ReferenceIdeal.Value.run m' ρ')⟩
  · exact ((h.1 c).2 main_v13 (Pipeline.mem_restRefs_of _ (by decide) (by decide))).trans (result_eq m c (hm c))
  · obtain ⟨e0, e1, e2, e3, e4, e5, e6, e7⟩ := hargs c
    refine (h c).1.trans ((Cert.ReferenceIdeal.Read.val_main_v62_eq m' c).trans ?_)
    rw [e0, e1, e2, e4, e5, e6, e7]

end Cert.Attn

end
-- ==== Proof.Tile.lean ====
/-
  One grid point of the experts kernel, run once over any floats: a tile of rows in use gets its expert's network, the others
  get zeros.
-/
module

public import proofs.«01_k».proof.Proof.Trip
public import proofs.«01_k».proof.Proof.Gen.Kernel2Ideal.Skeleton
public import proofs.«01_k».proof.Proof.Gen.Kernel2Ideal.Launch
public import Idealize.ShloMosaic.Lib.Pipeline.ValueKit

@[expose] public section

set_option maxRecDepth 16384
set_option maxHeartbeats 4000000

noncomputable section

namespace Cert.Experts

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- A memref's buffer held at `f`. -/
abbrev at_ (c : Dev nD) {s : Shape} {e : EltTy} {sp : Space} (m : Memref sig .tc sp s e) (f : m.view.ty.Contents (Elt F)) : sProp 𝕄G :=
  m.view.loc (c : Thread nD τ) ↦[m.view.set]{fullShare} f

/-- The tiles' experts, as the kernel is handed them. -/
abbrev owner : Memref sig .tc .smem S276 .i32 := Memref.whole main_arg0

/-- The number of tiles in use, as the kernel is handed it. -/
abbrev used : Memref sig .tc .smem S1 .i32 := Memref.whole main_arg1

/-- The one word of the table of the number of tiles in use. -/
abbrev word (T : S1.Idx → Elt F .i32) : BitVec 32 := T (ix1 (0 : Fin 1))

/-- A load of that word reads it. -/
theorem readAt_used (T : S1.Idx → Elt F .i32) (h : 0 < S1.numel) :
    View.readAt (Elt F) used.view (Rect.unit (s := S1) ![0] S1.size inb_S1_S1_0).toLoadRect T (Shape.Idx.first h) = word T := by
  refine congrArg T ?_
  funext a
  match a with
  | ⟨0, _⟩ => exact Subsingleton.elim (α := Fin 1) _ _

/-- What a grid point leaves in its block: the network of its expert while the tile is in use, zeros after. -/
def tile (i : grid0.Coords) (n : BitVec 32) (X : Vec F S256x1024 .f32) (G U : Vec F S1x1024x512 .f32) (D : Vec F S1x512x1024 .f32) :
    Vec F S256x1024 .f32 := if k0_cond1 i n = 1#1 then k0_pay1 X G U D else k0_pay2

/-- The kernel's two conditions are each other's negations. -/
theorem one_of_two (i : grid0.Coords) (n : BitVec 32) : k0_cond2 i n = 1#1 ↔ ¬ k0_cond1 i n = 1#1 := by
  unfold k0_cond1 k0_cond2
  generalize BitVec.ofNat 32 (i 0).val = x
  show Scalar.cmpi .ne (Scalar.extui (BitVec.ofBool (n.sle x))) 0#32 = 1#1 ↔ ¬ Scalar.cmpi .ne (Scalar.extui (BitVec.ofBool (x.slt n))) 0#32 = 1#1
  rw [BitVec.sle_eq_not_slt]
  generalize x.slt n = b
  cases b <;> decide

/-- One grid point. -/
theorem tile_run (c : Dev nD) (i : grid0.Coords) (arg3 : Memref sig .tc .vmem S256x1024 .f32) (harg3 : arg3.IsWhole)
    (arg4 : Memref sig .tc .vmem S1x1024x512 .f32) (harg4 : arg4.IsWhole) (arg5 : Memref sig .tc .vmem S1x1024x512 .f32) (harg5 : arg5.IsWhole)
    (arg6 : Memref sig .tc .vmem S1x512x1024 .f32) (harg6 : arg6.IsWhole) (arg7 : Memref sig .tc .vmem S256x1024 .f32) (harg7 : arg7.IsWhole)
    (T : S1.Idx → Elt F .i32) (X : Vec F S256x1024 .f32) (G U : Vec F S1x1024x512 .f32) (D : Vec F S1x512x1024 .f32)
    (p : arg7.view.ty.Contents (Elt F)) :
    iprop(at_ c arg3 (harg3.unread X) ∗ at_ c arg4 (harg4.unread G) ∗ at_ c arg5 (harg5.unread U) ∗ at_ c arg6 (harg6.unread D)
      ∗ (used.view.loc (c : Thread nD τ) ↦{fullShare.right} T) ∗ at_ c arg7 p)
      ⊢ wp frame (wpE (defs₀ (F := F)) Variants.none (c : Thread nD τ) none) Set.univ
          (cc0_experts i owner (Memref.isWhole_whole _) used (Memref.isWhole_whole _) arg3 harg3 arg4 harg4 arg5 harg5 arg6 harg6 arg7 harg7)
        (fun _ => iprop(at_ c arg3 (harg3.unread X) ∗ at_ c arg4 (harg4.unread G) ∗ at_ c arg5 (harg5.unread U) ∗ at_ c arg6 (harg6.unread D)
          ∗ (used.view.loc (c : Thread nD τ) ↦{fullShare.right} T) ∗ at_ c arg7 (harg7.unread (tile i (word T) X G U D)))) := by
  rw [cc0_experts_eq_skeleton]
  unfold cc0_experts_skel
  iintro ⟨H3, H4, H5, H6, HT, H7⟩
  by_cases h1 : k0_cond1 i (word T) = 1#1
  · have h2 : ¬ k0_cond2 i (word T) = 1#1 := fun h => (one_of_two i _).mp h h1
    have e : tile i (word T) X G U D = k0_pay1 X G U D := if_pos h1
    rw [e]
    rw [← readAt_used T (numel1_S1.symm ▸ Nat.one_pos)] at h1 h2
    sl_exec! (disch := first | (guard_target = ¬(k0_cond2 _ _ = _); exact h2) | (guard_target = k0_cond1 _ _ = _; exact h1))
    sl_step
    delta tile_run.sl.H7_1
    simp only [Attn.readAt_whole harg3 Attn.z2, Attn.readAt_whole harg4 Attn.z3, Attn.readAt_whole harg5 Attn.z3, Attn.readAt_whole harg6 Attn.z3,
      Attn.writes_whole harg7 Attn.z2]
    isplitl [H3]; · iexact H3
    isplitl [H4]; · iexact H4
    isplitl [H5]; · iexact H5
    isplitl [H6]; · iexact H6
    isplitl [HT]; · iexact HT
    iexact H7
  · have h2 : k0_cond2 i (word T) = 1#1 := (one_of_two i _).mpr h1
    have e : tile i (word T) X G U D = k0_pay2 := if_neg h1
    rw [e]
    rw [← readAt_used T (numel1_S1.symm ▸ Nat.one_pos)] at h1 h2
    sl_exec! (disch := first | (guard_target = ¬(k0_cond1 _ _ = _); exact h1) | (guard_target = k0_cond2 _ _ = _; exact h2))
    sl_step
    delta tile_run.sl.H7_1_1
    simp only [Attn.writes_whole harg7 Attn.z2]
    isplitl [H3]; · iexact H3
    isplitl [H4]; · iexact H4
    isplitl [H5]; · iexact H5
    isplitl [H6]; · iexact H6
    isplitl [HT]; · iexact HT
    iexact H7

end Cert.Experts

end
-- ==== Proof.Tiles.lean ====
/-
  The run of the experts kernel over any floats, from any memory whose tiles name experts there are.
-/
module

public import proofs.«01_k».proof.Proof.Tile

@[expose] public section

set_option maxRecDepth 16384
set_option maxHeartbeats 4000000

noncomputable section

namespace Cert.Experts

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.ShloMosaic.Pipeline (Dat BodyObligation)
open Idealize.SL.BI.BIBase Idealize.SL.BI.Laws Idealize.SL.ProofMode Idealize.SL.Sem

variable {F : FTy → Type} [FloatOps F]

local notation "𝕄G" => MT nD τ sig Unit (Elt F) ℕ (UR sig nD τ) ℕ

variable (m : (ℓ : Loc nD τ sig) → Buf (Elt F) ℓ) (ρ : Dev nD → PrngReg)

/-- The buffers as launched. -/
abbrev V (c : Dev nD) (b : Ref sig .tc) : Buf (Elt F) ((c : Thread nD τ).loc b) := m ((c : Thread nD τ).loc b)

/-- The two tables as launched, on the one device. -/
def tabs : pre0.Contents (Elt F) := fun k => V m 0 (pre0.ref k)

/-- The expert a tile of rows is for. -/
abbrev own (t : Fin 276) : BitVec 32 := V m 0 main_arg0 (ix1 t)

/-- Every tile names one of the sixteen experts. -/
def InRange : Prop := ∀ t : Fin 276, (own m t).toNat < 16

/-- The word the index maps read at a point is the expert of its tile. -/
theorem at_owner (i : grid0.Coords) :
    (tabs m).at 0 (Rect.unit (s := S276) (k0_off1 i) S1.size (k0_off1_inb i)) numel1_S1 = own m (i 0) := by
  refine congrArg (V m 0 main_arg0) ?_
  funext a
  match a with
  | ⟨0, _⟩ =>
    refine Fin.ext ?_
    have h : (i 0).val < 276 := (i 0).isLt
    have z : (Shape.Idx.first (s := S1) (numel1_S1.symm ▸ Nat.one_pos) 0).val = 0 := Nat.lt_one_iff.mp (Shape.Idx.first (s := S1) _ 0).isLt
    show (BitVec.ofNat 32 (i 0).val).toNat + 1 * (Shape.Idx.first (s := S1) _ 0).val = (i 0).val
    rw [z, BitVec.toNat_ofNat, Nat.mod_eq_of_lt (by omega)]
    rfl

/-- With every expert in range the blocks the tables name lie in the arrays. -/
theorem ok_of_range (h : InRange m) : ok0 (tabs m) := by
  refine ⟨fun i => ⟨fun a => ?_, .inl rfl⟩, fun i => ⟨fun a => ?_, .inl rfl⟩, fun i => ⟨fun a => ?_, .inl rfl⟩⟩
  all_goals
    have e := at_owner m i
    have h' : (own m (i 0)).toNat < 16 := h (i 0)
    rw [← e] at h'
    match a with
    | ⟨0, _⟩ => exact (Nat.mul_one _).trans_le h'
    | ⟨1, _⟩ => exact Nat.le_of_eq rfl
    | ⟨2, _⟩ => exact Nat.le_of_eq rfl

variable (hok : ok0 (tabs m))

/-- The tables, admitted. -/
def adm : (pcfg0 (F := F)).Adm := ⟨tabs m, hok⟩

/-- Window `w`'s block at point `t`. -/
def iblk (c : Dev nD) (w : Fin (cfg0 (adm m hok)).W) (t : Fin (cfg0 (adm m hok)).N) :
    (((cfg0 (adm m hok)).win w).xblock ((cfg0 (adm m hok)).grid.coords t)).Idx → Elt F ((cfg0 (adm m hok)).win w).elt :=
  (((cfg0 (adm m hok)).win w).blk t).view.read (Elt F) (V m c (Pipeline.arrRef spec0 w))

/-- The proof data of the launch: the input blocks left in place, the output block at the tile's network. -/
def dats (p : Fin 1) (c : Dev nD) : Dat τ (Elt F) Unit ℕ (UR sig nD τ) ℕ (Pipeline.pin (pcfgs (F := F)) (fun _ => adm m hok) p) c where
  A := fun w => V m c (Pipeline.arrRef spec0 w)
  after := fun w t => match w with
    | 0 => iblk m hok c 0 t
    | 1 => iblk m hok c 1 t
    | 2 => iblk m hok c 2 t
    | 3 => iblk m hok c 3 t
    | 4 => tile (grid0.coords t) (word (V m 0 main_arg1)) (iblk m hok c 0 t) (iblk m hok c 1 t) (iblk m hok c 2 t) (iblk m hok c 3 t)
    | ⟨_ + 5, h⟩ => absurd h (Nat.not_lt.2 (Nat.le_add_left _ _))
  Φ := fun _ => iprop(Pipeline.ΦA spec0 c ∗ Pipeline.ΦT pre0 (tabs m) c)
  q := fun _ => fullShare
  owed := fun _ => 0

section Before

variable (c : Dev nD) (t : Fin (cfg0 (adm m hok)).N)

theorem before0 (d) : (dats m hok 0 c).before 0 t d = iblk m hok c 0 t :=
  (dats m hok 0 c).before_in_eq_fetched 0 rfl (fun _ => rfl) (fun _ _ _ => rfl) (fun _ => rfl) t d
theorem before1 (d) : (dats m hok 0 c).before 1 t d = iblk m hok c 1 t :=
  (dats m hok 0 c).before_in_eq_fetched 1 rfl (fun _ => rfl) (fun _ _ _ => rfl) (fun _ => rfl) t d
theorem before2 (d) : (dats m hok 0 c).before 2 t d = iblk m hok c 2 t :=
  (dats m hok 0 c).before_in_eq_fetched 2 rfl (fun _ => rfl) (fun _ _ _ => rfl) (fun _ => rfl) t d
theorem before3 (d) : (dats m hok 0 c).before 3 t d = iblk m hok c 3 t :=
  (dats m hok 0 c).before_in_eq_fetched 3 rfl (fun _ => rfl) (fun _ _ _ => rfl) (fun _ => rfl) t d

end Before

/-- The output block is stored at every point. -/
theorem stored_always (i : grid0.Coords) : idle0 (tabs m) 4 i = false := by
  show (!(k0_cond1 i _ == 1#1) && !(k0_cond2 i _ == 1#1)) = false
  generalize (tabs m).atD 1 ![0] = n
  by_cases h : k0_cond1 i n = 1#1
  · rw [h]; rfl
  · rw [(one_of_two i n).mpr h, Bool.and_comm]; rfl

/-- The tables held are the two tables. -/
theorem tables_eq (c : Dev nD) : (Pipeline.ΦT pre0 (tabs m) c : sProp 𝕄G)
    = iprop((((c : Thread nD τ).loc main_arg0) ↦{fullShare.right} V m 0 main_arg0) ∗ (((c : Thread nD τ).loc main_arg1) ↦{fullShare.right} V m 0 main_arg1)) :=
  bigSep_univ_eq_bigSepL [(0 : Fin 2), (1 : Fin 2)] (by decide) (by decide) _

section Owns

variable {s : Shape} {e : EltTy} {sp : Space} {b : Memref sig .tc sp s e}

/-- A buffer held at the value it reads as is held at the contents with that reading. -/
theorem at_of_owns (h : b.IsWhole) (c : Dev nD) (X : s.Idx → Elt F e) : (owns (c : Thread nD τ) b fullShare X : sProp 𝕄G) ⊢ at_ c b (h.unread X) := by
  unfold owns
  iintro ⟨%f, %hf, H⟩
  rw [← h.eq_unread hf]
  iexact H

/-- The converse. -/
theorem owns_of_at (h : b.IsWhole) (c : Dev nD) (X : s.Idx → Elt F e) : (at_ c b (h.unread X) : sProp 𝕄G) ⊢ owns (c : Thread nD τ) b fullShare X := by
  unfold owns
  iintro H
  iexists (h.unread X)
  isplitr
  · ipureintro
    exact h.read_unread X
  iexact H

end Owns

/-- The windows' buffers before the body at point `t`, and what they hold after it. -/
theorem body_point (c : Dev nD) (t : Fin (cfg0 (adm m hok)).N) :
    iprop((Pipeline.ΦA spec0 c ∗ Pipeline.ΦT pre0 (tabs m) c) ∗ (dats m hok 0 c).owesAt () t.castSucc
      ∗ (∃ d, owns c (spec0_0.stage ((cfg0 (adm m hok)).slots t 0)) fullShare ((dats m hok 0 c).before 0 t d))
      ∗ (∃ d, owns c (spec0_1.stage ((cfg0 (adm m hok)).slots t 1)) fullShare ((dats m hok 0 c).before 1 t d))
      ∗ (∃ d, owns c (spec0_2.stage ((cfg0 (adm m hok)).slots t 2)) fullShare ((dats m hok 0 c).before 2 t d))
      ∗ (∃ d, owns c (spec0_3.stage ((cfg0 (adm m hok)).slots t 3)) fullShare ((dats m hok 0 c).before 3 t d))
      ∗ (∃ d, owns c (spec0_4.stage ((cfg0 (adm m hok)).slots t 4)) fullShare ((dats m hok 0 c).before 4 t d)))
    ⊢ wp frame (wpE (defs₀ (F := F)) Variants.none (c : Thread nD τ) none) Set.univ
        (defs₀ (F := F) .tc (cfg0 (adm m hok)).body ((cfg0 (adm m hok)).bodyArgs t ((cfg0 (adm m hok)).slots t)))
      (fun _ => iprop((Pipeline.ΦA spec0 c ∗ Pipeline.ΦT pre0 (tabs m) c) ∗ (dats m hok 0 c).owesAt () t.castSucc
        ∗ owns c (spec0_0.stage ((cfg0 (adm m hok)).slots t 0)) fullShare (iblk m hok c 0 t)
        ∗ owns c (spec0_1.stage ((cfg0 (adm m hok)).slots t 1)) fullShare (iblk m hok c 1 t)
        ∗ owns c (spec0_2.stage ((cfg0 (adm m hok)).slots t 2)) fullShare (iblk m hok c 2 t)
        ∗ owns c (spec0_3.stage ((cfg0 (adm m hok)).slots t 3)) fullShare (iblk m hok c 3 t)
        ∗ owns c (spec0_4.stage ((cfg0 (adm m hok)).slots t 4)) fullShare
            (tile (grid0.coords t) (word (V m 0 main_arg1)) (iblk m hok c 0 t) (iblk m hok c 1 t) (iblk m hok c 2 t) (iblk m hok c 3 t)))) := by
  have w0 : (spec0_0.stage ((cfg0 (adm m hok)).slots t 0)).IsWhole := hstage0_0 (((cfg0 (adm m hok)).slots t 0).cast nbuf0_0)
  have w1 : (spec0_1.stage ((cfg0 (adm m hok)).slots t 1)).IsWhole := hstage0_1 (((cfg0 (adm m hok)).slots t 1).cast nbuf0_1)
  have w2 : (spec0_2.stage ((cfg0 (adm m hok)).slots t 2)).IsWhole := hstage0_2 (((cfg0 (adm m hok)).slots t 2).cast nbuf0_2)
  have w3 : (spec0_3.stage ((cfg0 (adm m hok)).slots t 3)).IsWhole := hstage0_3 (((cfg0 (adm m hok)).slots t 3).cast nbuf0_3)
  have w4 : (spec0_4.stage ((cfg0 (adm m hok)).slots t 4)).IsWhole := hstage0_4 (((cfg0 (adm m hok)).slots t 4).cast nbuf0_4)
  simp only [before0, before1, before2, before3]
  rw [tables_eq]
  iintro ⟨⟨HA, HT0, HT1⟩, Ho, ⟨%d0, H0⟩, ⟨%d1, H1⟩, ⟨%d2, H2⟩, ⟨%d3, H3⟩, ⟨%d4, H4⟩⟩
  ihave H0 := (at_of_owns w0 c (iblk m hok c 0 t)) $$ H0
  ihave H1 := (at_of_owns w1 c (iblk m hok c 1 t)) $$ H1
  ihave H2 := (at_of_owns w2 c (iblk m hok c 2 t)) $$ H2
  ihave H3 := (at_of_owns w3 c (iblk m hok c 3 t)) $$ H3
  ihave H4 := (at_of_owns w4 c ((dats m hok 0 c).before 4 t d4)) $$ H4
  iapply (wp_wand _ _ _) $$ [H0 H1 H2 H3 H4 HT1]
  · iapply (tile_run c (grid0.coords t) _ w0 _ w1 _ w2 _ w3 _ w4 (V m 0 main_arg1)
      (iblk m hok c 0 t) (iblk m hok c 1 t) (iblk m hok c 2 t) (iblk m hok c 3 t) _)
    isplitl [H0]; · iexact H0
    isplitl [H1]; · iexact H1
    isplitl [H2]; · iexact H2
    isplitl [H3]; · iexact H3
    isplitl [HT1]; · iexact HT1
    iexact H4
  iintro %r ⟨H0, H1, H2, H3, HT1, H4⟩
  isplitl [HA HT0 HT1]
  · isplitl [HA]; · iexact HA
    isplitl [HT0]; · iexact HT0
    iexact HT1
  isplitl [Ho]; · iexact Ho
  isplitl [H0]; · iapply (owns_of_at w0 c _); iexact H0
  isplitl [H1]; · iapply (owns_of_at w1 c _); iexact H1
  isplitl [H2]; · iapply (owns_of_at w2 c _); iexact H2
  isplitl [H3]; · iapply (owns_of_at w3 c _); iexact H3
  iapply (owns_of_at w4 c _); iexact H4

/-- What an obligation asks of a window stored at the point is the stored value. -/
theorem of_stored {b b' : Bool} (P Q R : sProp 𝕄G) : b = false → (R ⊢ (match b with
      | true => match b' with
        | false => P
        | true => Q
      | false => R)) := by
  rintro rfl
  exact .rfl

/-- The body at every point, as the launch asks for it. -/
theorem body_obligation (c : Dev nD) : BodyObligation (dats m hok 0 c) (defs₀ (F := F)) Variants.none () Set.univ := fun t => by
  rw [bigSep_W0, bigSep_W0]
  exact (body_point m hok c t).trans (wp_mono _ _ _ fun _ => sep_mono .rfl (sep_mono .rfl (sep_mono .rfl (sep_mono .rfl
    (sep_mono .rfl (sep_mono .rfl (of_stored _ _ _ (stored_always m (grid0.coords t)))))))))

/-- The program runs, its semaphores end at zero, and its arrays hold what the launch's data say. -/
theorem run_main : θ_run defs (onTc (τ := τ) (main (F := F))) ⟨m, fun _ => 0, ρ⟩ (fun r =>
    Pipeline.FramePost (Pipeline.pin (pcfgs (F := F)) (fun _ => adm m hok)) (dats m hok) 0 (V m) r ∧ r.2.sem = fun _ => 0) :=
  Pipeline.θ_run_frameP pcfgs (fun _ => adm m hok) (dats m hok) 0 launch0 defs₀ Variants.none m ρ main
    (fun c => (body_obligation m hok c).loose) (fun _ w => by fin_cases w <;> rfl) (fun _ _ => rfl) (V m)
    (Pipeline.hmainP_region pcfgs 0 defs₀ Variants.none m main (fun _ => rfl)) (fun _ _ => rfl)
    (fun c k => by rw [Subsingleton.elim c 0]; rfl) (fun _ _ => rfl) _ (fun _ h => h)

end Cert.Experts

end
-- ==== Proof.ExpertRef.lean ====
/-
  An expert's network, element by element: what the kernel makes of a tile of rows, and what the reference makes of a row.
-/
module

public import proofs.«01_k».proof.Proof.Gen.Reference2Ideal.Read
public import proofs.«01_k».proof.Proof.Gen.Kernel2Ideal.Skeleton
public import Idealize.ShloMosaic.Lib.Pipeline.ValueKit

@[expose] public section

set_option maxRecDepth 16384

noncomputable section

namespace Cert.Experts

open Idealize.ShloMosaic
open Idealize.ShloMosaic.TcCoe Idealize.ShloMosaic.Tactic

/-- One expert's network on a row: two linear maps, the first passed through the gate and multiplied by the second, and a
    third back. -/
def net (x : Fin 1024 → EReal) (g u : Fin 1024 → Fin 512 → EReal) (d : Fin 512 → Fin 1024 → EReal) (j : Fin 1024) : EReal :=
  ∑ f : Fin 512, ((∑ k : Fin 1024, x k * g k f) * Ideal.logistic (∑ k : Fin 1024, x k * g k f) * ∑ k : Fin 1024, x k * u k f) * d f j

/-- The network of equal rows and weights is one. -/
theorem net_congr {x x' : Fin 1024 → EReal} {g u g' u' : Fin 1024 → Fin 512 → EReal} {d d' : Fin 512 → Fin 1024 → EReal} (j : Fin 1024)
    (hx : ∀ k, x k = x' k) (hg : ∀ k f, g k f = g' k f) (hu : ∀ k f, u k f = u' k f) (hd : ∀ f j, d f j = d' f j) :
    net x g u d j = net x' g' u' d' j := by
  rw [funext hx, funext fun k => funext (hg k), funext fun k => funext (hu k), funext fun f => funext (hd f)]

section Kernel

open Cert.Kernel2Ideal Cert.Kernel2Ideal.Gen

/-- The kernel's stored value, in use: the network of the blocks. -/
theorem pay1_at (X : Vec Ideal S256x1024 .f32) (G U : Vec Ideal S1x1024x512 .f32) (D : Vec Ideal S1x512x1024 .f32)
    (r : Fin 256) (j : Fin 1024) :
    k0_pay1 (F := Ideal) X G U D (ix2 r j)
      = net (fun k => X (ix2 r k)) (fun k f => G (ix3 (0 : Fin 1) k f)) (fun k f => U (ix3 (0 : Fin 1) k f))
          (fun f j => D (ix3 (0 : Fin 1) f j)) j := by
  unfold net
  pointwise [k0_pay1]

/-- The kernel's stored value out of use: zero. -/
theorem pay2_at (i : S256x1024.Idx) : k0_pay2 (F := Ideal) i = (0 : EReal) := by
  idx_vars i
  pointwise [k0_pay2]

end Kernel

section Reference

open Cert.Reference2Ideal Cert.Reference2Ideal.Gen Cert.Reference2Ideal.Read

/-- The reference's network of expert `e` on row `n`. -/
theorem ref_net (x2 : (⟨S70656x1024, .f32⟩ : BufTy).Contents (Elt Ideal)) (x3 x4 : (⟨S16x1024x512, .f32⟩ : BufTy).Contents (Elt Ideal))
    (x5 : (⟨S16x512x1024, .f32⟩ : BufTy).Contents (Elt Ideal)) (n : Fin 70656) (e : Fin 16) (j : Fin 1024) :
    val_main_v5 (F := Ideal) x2 x3 x4 x5 (ix3 n e j)
      = net (fun k => x2 (ix2 n k)) (fun k f => x3 (ix3 e k f)) (fun k f => x4 (ix3 e k f)) (fun f j => x5 (ix3 e f j)) j := by
  unfold net
  pointwise [val_main_v5, val_main_v4]
  refine Finset.sum_congr rfl fun f _ => ?_
  rw [mul_comm]
  pointwise [val_main_v3, val_main_v2, val_main_v1, val_main_v0, val_main_call0_v5, val_main_call0_v4, val_main_call0_v3,
    val_main_call0_v2, val_main_call0_v1, val_main_call0_v0, val_main_call0_cst, val_main_call0_cst_0]
  rfl

/-- Whether row `n` goes to expert `e`: its run's word names the expert and the run is in use. -/
theorem goes_at (x0 : (⟨S276, .i32⟩ : BufTy).Contents (Elt Ideal)) (x1 : (⟨S1, .i32⟩ : BufTy).Contents (Elt Ideal))
    (n : Fin 70656) (e : Fin 16) (j : Fin 1024) :
    val_main_call1_v1 (F := Ideal) x0 x1 (ix3 n e j)
      = IntOp.andi (IntOp.cmpi .eq (x0 (ix1 (⟨n.val / 256, by omega⟩ : Fin 276))) (BitVec.ofNat 32 e.val))
          (IntOp.cmpi .slt (BitVec.ofNat 32 (n.val / 256)) (x1 (ix1 (0 : Fin 1)))) := by
  pointwise [val_main_call1_v1, val_main_v22, val_main_v21, val_main_v20, val_main_v19, val_main_v18, val_main_v17, val_main_v16,
    val_main_v15, val_main_v14, val_main_v13, val_main_v12, val_main_v11, val_main_v10, val_main_v9, val_main_v8, val_main_v7, val_main_v6]

end Reference

end Cert.Experts

end
-- ==== Proof.ExpertBlocks.lean ====
/-
  The blocks of the experts' launch in their arrays, and the array its result blocks make.
-/
module

public import proofs.«01_k».proof.Proof.Tiles
public import proofs.«01_k».proof.Proof.ExpertRef

@[expose] public section

set_option maxRecDepth 16384

noncomputable section

namespace Cert.Experts

open Cert.Kernel2Ideal Cert.Kernel2Ideal.Gen
open Idealize.ShloMosaic
open Idealize.ShloMosaic.TcCoe Idealize.ShloMosaic.Tactic

variable (m : (ℓ : Loc nD τ sig) → Buf (Elt Ideal) ℓ) (c : Dev nD) (hok : ok0 (tabs m))

/-- A point of the grid is its tile. -/
theorem coord0 : ∀ t : Fin grid0.N, (grid0.coords t 0).val = t.val := by decide +kernel

/-- The block of rows at a point, by its index map. -/
theorem map0 : ∀ t : Fin grid0.N, cc0_transform_0 (grid0.coords t) = ![t.val, 0] := by decide +kernel
theorem map4 : ∀ t : Fin grid0.N, cc0_transform_4 (grid0.coords t) = ![t.val, 0] := by decide +kernel

/-- The tile of a point. -/
def tl (t : Fin (cfg0 (adm m hok)).N) : Fin 276 := ⟨t.val, by have h : t.val < grid0.N := t.isLt; have e := N_0; omega⟩

/-- The word that names the blocks of weights at a point. -/
theorem word_at (t : Fin (cfg0 (adm m hok)).N) :
    (tabs m).at 0 (Rect.unit (s := S276) (k0_off1 (grid0.coords t)) S1.size (k0_off1_inb (grid0.coords t))) numel1_S1 = own m (tl m hok t) :=
  (at_owner m (grid0.coords t)).trans (congrArg (own m) (Fin.ext (coord0 t)))

/-- A row of the block at a point. -/
theorem rows_at (t : Fin (cfg0 (adm m hok)).N) (r : Fin 256) (k : Fin 1024) :
    (iblk m hok c 0 t : S256x1024.Idx → EReal) (ix2 r k)
      = (V m c main_arg2 : S70656x1024.Idx → EReal) (ix2 (⟨t.val * 256 + r.val, by have := (tl m hok t).isLt; have e : (tl m hok t).val = t.val := rfl; omega⟩ : Fin 70656) k) := by
  refine congrArg (V m c main_arg2 : S70656x1024.Idx → EReal) ?_
  have e : ∀ a : Fin 2, (((((cfg0 (adm m hok)).win 0).blk t).view.emb (ix2 r k)) a).val
      = cc0_transform_0 (grid0.coords t) a * S256x1024.size a + 1 * ((ix2 r k : S256x1024.Idx) a).val := fun a => rfl
  have e0 := e 0
  have e1 := e 1
  rw [map0 t] at e0 e1
  funext a
  match a with
  | ⟨0, _⟩ => exact Fin.ext (e0.trans (by show t.val * 256 + 1 * r.val = t.val * 256 + r.val; omega))
  | ⟨1, _⟩ => exact Fin.ext (e1.trans (by show 0 * 1024 + 1 * k.val = k.val; omega))

/-- A block of weights at a point: its expert's. -/
theorem gate_at (t : Fin (cfg0 (adm m hok)).N) (o : Fin 16) (ho : o.val = (own m (tl m hok t)).toNat) (k : Fin 1024) (f : Fin 512) :
    (iblk m hok c 1 t : S1x1024x512.Idx → EReal) (ix3 (0 : Fin 1) k f) = (V m c main_arg3 : S16x1024x512.Idx → EReal) (ix3 o k f) := by
  refine congrArg (V m c main_arg3 : S16x1024x512.Idx → EReal) ?_
  have e : ∀ a : Fin 3, (((((cfg0 (adm m hok)).win 1).blk t).view.emb (ix3 (0 : Fin 1) k f)) a).val
      = cc0_transform_1 k0_off1_inb numel1_S1 (tabs m) (grid0.coords t) a * S1x1024x512.size a + 1 * ((ix3 (0 : Fin 1) k f : S1x1024x512.Idx) a).val := fun a => rfl
  have w := congrArg BitVec.toNat (word_at m hok t)
  funext a
  match a with
  | ⟨0, _⟩ => exact Fin.ext ((e 0).trans ((congrArg (fun n : Nat => n * 1 + 1 * 0) w).trans (by show (own m (tl m hok t)).toNat * 1 + 1 * 0 = o.val; omega)))
  | ⟨1, _⟩ => exact Fin.ext ((e 1).trans (by show 0 * 1024 + 1 * k.val = k.val; omega))
  | ⟨2, _⟩ => exact Fin.ext ((e 2).trans (by show 0 * 512 + 1 * f.val = f.val; omega))

theorem up_at (t : Fin (cfg0 (adm m hok)).N) (o : Fin 16) (ho : o.val = (own m (tl m hok t)).toNat) (k : Fin 1024) (f : Fin 512) :
    (iblk m hok c 2 t : S1x1024x512.Idx → EReal) (ix3 (0 : Fin 1) k f) = (V m c main_arg4 : S16x1024x512.Idx → EReal) (ix3 o k f) := by
  refine congrArg (V m c main_arg4 : S16x1024x512.Idx → EReal) ?_
  have e : ∀ a : Fin 3, (((((cfg0 (adm m hok)).win 2).blk t).view.emb (ix3 (0 : Fin 1) k f)) a).val
      = cc0_transform_2 k0_off1_inb numel1_S1 (tabs m) (grid0.coords t) a * S1x1024x512.size a + 1 * ((ix3 (0 : Fin 1) k f : S1x1024x512.Idx) a).val := fun a => rfl
  have w := congrArg BitVec.toNat (word_at m hok t)
  funext a
  match a with
  | ⟨0, _⟩ => exact Fin.ext ((e 0).trans ((congrArg (fun n : Nat => n * 1 + 1 * 0) w).trans (by show (own m (tl m hok t)).toNat * 1 + 1 * 0 = o.val; omega)))
  | ⟨1, _⟩ => exact Fin.ext ((e 1).trans (by show 0 * 1024 + 1 * k.val = k.val; omega))
  | ⟨2, _⟩ => exact Fin.ext ((e 2).trans (by show 0 * 512 + 1 * f.val = f.val; omega))

theorem down_at (t : Fin (cfg0 (adm m hok)).N) (o : Fin 16) (ho : o.val = (own m (tl m hok t)).toNat) (f : Fin 512) (j : Fin 1024) :
    (iblk m hok c 3 t : S1x512x1024.Idx → EReal) (ix3 (0 : Fin 1) f j) = (V m c main_arg5 : S16x512x1024.Idx → EReal) (ix3 o f j) := by
  refine congrArg (V m c main_arg5 : S16x512x1024.Idx → EReal) ?_
  have e : ∀ a : Fin 3, (((((cfg0 (adm m hok)).win 3).blk t).view.emb (ix3 (0 : Fin 1) f j)) a).val
      = cc0_transform_3 k0_off1_inb numel1_S1 (tabs m) (grid0.coords t) a * S1x512x1024.size a + 1 * ((ix3 (0 : Fin 1) f j : S1x512x1024.Idx) a).val := fun a => rfl
  have w := congrArg BitVec.toNat (word_at m hok t)
  funext a
  match a with
  | ⟨0, _⟩ => exact Fin.ext ((e 0).trans ((congrArg (fun n : Nat => n * 1 + 1 * 0) w).trans (by show (own m (tl m hok t)).toNat * 1 + 1 * 0 = o.val; omega)))
  | ⟨1, _⟩ => exact Fin.ext ((e 1).trans (by show 0 * 512 + 1 * f.val = f.val; omega))
  | ⟨2, _⟩ => exact Fin.ext ((e 2).trans (by show 0 * 1024 + 1 * j.val = j.val; omega))

/-- Every point writes its block back. -/
theorem turns : ∀ t : Fin grid0.N, (decide (t.val + 1 = grid0.N) || decide (∃ h : t.val + 1 < grid0.N,
    cc0_transform_4 (grid0.coords ⟨t.val + 1, h⟩) ≠ cc0_transform_4 (grid0.coords t))) = true := by decide +kernel

theorem flushes (t : Fin (cfg0 (adm m hok)).N) : ((cfg0 (adm m hok)).win 4).flush t = true := (Bool.true_and _).trans (turns t)

/-- The blocks of the result cover it. -/
theorem covers : ((cfg0 (adm m hok)).win 4).CoversWhere (fun _ => True) := by
  refine ⟨fun a => ?_, fun t _ => ⟨trivial, fun a => .inl rfl⟩, fun β _ => ?_⟩
  · match a with
    | ⟨0, _⟩ => exact (by decide : 0 < 256)
    | ⟨1, _⟩ => exact (by decide : 0 < 1024)
  · have h0 : (β (0 : Fin 2)).val < 276 := lt_of_lt_of_eq (β (0 : Fin 2)).isLt (by show (70656 + 256 - 1) / 256 = 276; decide)
    have h1 : (β (1 : Fin 2)).val < 1 := lt_of_lt_of_eq (β (1 : Fin 2)).isLt (by show (1024 + 1024 - 1) / 1024 = 1; decide)
    refine ⟨⟨(β (0 : Fin 2)).val, by have e := N_0; show _ < grid0.N; omega⟩, fun a => ?_, ?_⟩
    · refine (congrFun (map4 _) a).trans ?_
      match a with
      | ⟨0, _⟩ => rfl
      | ⟨1, _⟩ => exact (Nat.lt_one_iff.mp h1).symm
    · exact flushes m hok _

end Cert.Experts

end
-- ==== Proof.ExpertFrames.lean ====
/-
  The experts' frames: the kernel as printed, its idealized copy and the reference each run, keep their arguments and end
  with their semaphores at zero, when the tiles name experts there are.
-/
module

public import proofs.«01_k».proof.Proof.Tiles
public import proofs.«01_k».proof.Defs
public import proofs.«01_k».proof.Proof.Finite
public import proofs.«01_k».proof.Proof.Gen.Kernel2
public import proofs.«01_k».proof.Proof.Gen.Reference2Ideal.Run
public import proofs.«01_k».proof.Proof.Gen.Pre_experts_in_range

@[expose] public section

set_option maxRecDepth 16384
set_option maxHeartbeats 4000000

noncomputable section

namespace Cert.Experts

open Cert.Kernel2Ideal Cert.Kernel2Ideal.Gen
open Idealize.ShloMosaic Idealize.ShloMosaic.TcCoe Idealize.SL.Sem

variable {F : FTy → Type} [FloatOps F]

section Range

/-- A word at least zero and less than sixteen, as signed words, is below sixteen. -/
theorem small_of_signed (w : BitVec 32) (h0 : IntOp.cmpi .sge w 0#32 = 1#1) (h1 : IntOp.cmpi .slt w 16#32 = 1#1) : w.toNat < 16 := by
  simp only [IntOp.cmpi] at h0 h1
  have a : (0#32).sle w = true := by
    rcases e : (0#32).sle w with _ | _
    · rw [e] at h0; exact absurd h0 (by decide)
    · rfl
  have b : w.slt 16#32 = true := by
    rcases e : w.slt 16#32 with _ | _
    · rw [e] at h1; exact absurd h1 (by decide)
    · rfl
  have a' : (0 : Int) ≤ w.toInt := by simpa [BitVec.sle] using a
  have b' : w.toInt < 16 := by simpa [BitVec.slt] using b
  rw [BitVec.toInt_eq_toNat_cond] at a' b'
  split at a' <;> omega

/-- A result of no axes has one index. -/
instance : Subsingleton Cert.Pre_experts_in_range.S_.Idx := ⟨fun a b => funext fun i => i.elim0⟩

/-- The precondition read: every word of the table is below sixteen. -/
theorem small (x0 : IVec S276 32) (x1 : IVec S1 32) (x2 : FVec F S70656x1024 .f32) (x3 x4 : FVec F S16x1024x512 .f32)
    (x5 : FVec F S16x512x1024 .f32) (h : Cert.Pre_experts_in_range.fn (F := F) x0 x1 x2 x3 x4 x5 = fun _ => 1#1) (i : S276.Idx) :
    (x0 i).toNat < 16 := by
  have e := Host.reduce_andi_all _ _ Cert.Pre_experts_in_range.Facts.reducesTo_S276_S_d0 Cert.Pre_experts_in_range.Facts.h_S_ _
    (congrFun h (Shape.Idx.first Cert.Pre_experts_in_range.Facts.h_S_)) i
  have e' := IntOp.andi_eq_one.mp e
  exact small_of_signed _ e'.1 e'.2

end Range

variable (m : (ℓ : Loc nD τ sig) → Buf (Elt F) ℓ) (ρ : Dev nD → PrngReg)

/-- Every argument ends as it began. -/
def Kept (r : PUnit × MemSt nD τ sig (Elt F)) (c : Dev nD) : Prop :=
  r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)

/-- The tables are staged by no window. -/
theorem rest0 : main_arg0 ∈ Pipeline.restRefs sig spec0 := Pipeline.mem_restRefs_of _ (by decide) (by decide)
theorem rest1 : main_arg1 ∈ Pipeline.restRefs sig spec0 := Pipeline.mem_restRefs_of _ (by decide) (by decide)

theorem args_kept (hok : ok0 (tabs m)) (r : PUnit × MemSt nD τ sig (Elt F))
    (h : Pipeline.FramePost (Pipeline.pin (pcfgs (F := F)) (fun _ => adm m hok)) (dats m hok) 0 (V m) r) (c : Dev nD) : Kept m r c :=
  ⟨(h c).2 main_arg0 rest0,
    (h c).2 main_arg1 rest1,
    ((h c).1 0).trans (((dats m hok 0 c).arrAt_in 0 rfl _).trans rfl),
    ((h c).1 1).trans (((dats m hok 0 c).arrAt_in 1 rfl _).trans rfl),
    ((h c).1 2).trans (((dats m hok 0 c).arrAt_in 2 rfl _).trans rfl),
    ((h c).1 3).trans (((dats m hok 0 c).arrAt_in 3 rfl _).trans rfl)⟩

/-- The kernel at any floats. -/
theorem frame_any (h : InRange m) : θ_run (defs (F := F)) (onTc (τ := τ) (main (F := F))) ⟨m, fun _ => 0, ρ⟩ (fun r =>
    (∀ c : Dev nD, Kept m r c) ∧ r.2.sem = fun _ => 0) :=
  (θ_run defs _ _).mono (fun r h => ⟨args_kept m _ r h.1, h.2⟩) (run_main m ρ (ok_of_range m h))

/-- The body the printed kernel calls at a point is the idealized copy's. -/
theorem body_kernel : Cert.Kernel2.defs₀ (F := F) = defs₀ := by
  unfold Cert.Kernel2.defs₀ defs₀
  refine congrArg Defs.onTc ?_
  funext l a
  match l with
  | 0 => rfl

/-- So are its definitions. -/
theorem defs_kernel : Cert.Kernel2.defs (F := F) = defs := congrArg (Pipeline.defs pcfgs) body_kernel

/-- The same of definitions equal to the kernel's. -/
theorem frame_defs (h : InRange m) (d : Defs nD τ sig (Elt F) (Pipeline.Sig Λ₀ (Fin 1) fun p => (pcfgs (F := F) p).Adm))
    (hd : d = defs) : θ_run d (onTc (τ := τ) (main (F := F))) ⟨m, fun _ => 0, ρ⟩ (fun r =>
    (∀ c : Dev nD, Kept m r c) ∧ r.2.sem = fun _ => 0) := by
  subst hd
  exact frame_any m ρ h

/-- The frame of the kernel as printed: it has the text of its idealized copy. -/
theorem frame_kernel : Cert.quiescent_Kernel2 := fun m ρ hm =>
  frame_defs (F := Bits) m ρ (fun t => small _ _ _ _ _ _ (hm 0) (ix1 t)) _ defs_kernel

/-- The frame of the idealized kernel. -/
theorem frame_ideal : Cert.quiescent_Kernel2Ideal := fun m ρ hm =>
  frame_any m ρ (fun t => small _ _ _ _ _ _ (hm 0) (ix1 t))

/-- The frame of the reference. -/
theorem frame_reference : Cert.quiescent_Reference2Ideal := fun m ρ _ =>
  (θ_run Cert.Reference2Ideal.defs _ _).mono (fun r h => ⟨fun c => (h c).2, sem_eq_zero_of_no_sems (by decide) r.2⟩)
    (Cert.Reference2Ideal.Value.run m ρ)

end Cert.Experts

end
-- ==== Proof.ExpertResult.lean ====
/-
  The experts' result array, and the claim that it and the reference's are one array.
-/
module

public import proofs.«01_k».proof.Proof.ExpertBlocks
public import proofs.«01_k».proof.Proof.ExpertFrames

@[expose] public section

set_option maxRecDepth 16384
set_option maxHeartbeats 4000000

noncomputable section

namespace Cert.Experts

open Idealize.ShloMosaic
open Idealize.ShloMosaic.TcCoe Idealize.ShloMosaic.Tactic

section Reference

open Cert.Reference2Ideal Cert.Reference2Ideal.Gen Cert.Reference2Ideal.Read

/-- A choice by two tests, made one after the other. -/
theorem select_two (a b : BitVec 32) (s : Bool) (x : EReal) :
    Scalar.select (IntOp.andi (IntOp.cmpi .eq a b) (BitVec.ofBool s)) x 0 = if s = true ∧ a = b then x else 0 := by
  show (if (BitVec.ofBool (a == b) &&& BitVec.ofBool s) = 1#1 then x else 0) = _
  refine if_congr ?_ rfl rfl
  rw [← beq_iff_eq (a := a) (b := b)]
  generalize (a == b) = q
  cases q <;> cases s <;> decide

/-- The reference at an element: the network of its run's expert while the run is in use, zero after. -/
theorem ref_at (x0 : (⟨S276, .i32⟩ : BufTy).Contents (Elt Ideal)) (x1 : (⟨S1, .i32⟩ : BufTy).Contents (Elt Ideal))
    (x2 : (⟨S70656x1024, .f32⟩ : BufTy).Contents (Elt Ideal)) (x3 x4 : (⟨S16x1024x512, .f32⟩ : BufTy).Contents (Elt Ideal))
    (x5 : (⟨S16x512x1024, .f32⟩ : BufTy).Contents (Elt Ideal)) (n : Fin 70656) (j : Fin 1024) (o : Fin 16)
    (ho : (x0 (ix1 (⟨n.val / 256, by omega⟩ : Fin 276)) : BitVec 32) = BitVec.ofNat 32 o.val) :
    val_main_v24 (F := Ideal) x0 x1 x2 x3 x4 x5 (ix2 n j)
      = if (BitVec.ofNat 32 (n.val / 256)).slt (x1 (ix1 (0 : Fin 1))) = true then
          net (fun k => x2 (ix2 n k)) (fun k f => x3 (ix3 o k f)) (fun k f => x4 (ix3 o k f)) (fun f j => x5 (ix3 o f j)) j
        else 0 := by
  have ei : ∀ e : Fin 16, idx_main_v24 (ix2 n j) e = ix3 n e j := fun e => by
    funext a; apply Fin.ext
    match a with
    | ⟨0, _⟩ => rfl
    | ⟨1, _⟩ => rfl
    | ⟨2, _⟩ => rfl
  have e0 : val_main_cst_0 (F := Ideal) (Shape.Idx.first h_S_) = 0 := (val_main_cst_0_apply _).trans Ideal.ofBits_zero_f32
  have ez : ∀ i, val_main_call1_v2 (F := Ideal) i = 0 := fun i => by
    rw [val_main_call1_v2_apply]
    exact (val_main_cst_apply (idx_main_call1_v2 i)).trans Ideal.ofBits_zero_f32
  have term : ∀ e : Fin 16, val_main_v23 (F := Ideal) x0 x1 x2 x3 x4 x5 (ix3 n e j)
      = if (BitVec.ofNat 32 (n.val / 256)).slt (x1 (ix1 (0 : Fin 1))) = true ∧ BitVec.ofNat 32 o.val = BitVec.ofNat 32 e.val then
          net (fun k => x2 (ix2 n k)) (fun k f => x3 (ix3 e k f)) (fun k f => x4 (ix3 e k f)) (fun f j => x5 (ix3 e f j)) j
        else 0 := fun e => by
    rw [val_main_v23_apply, ez, goes_at, ref_net, ho]
    exact select_two _ _ _ _
  rw [val_main_v24_apply, e0, zero_add]
  refine (Finset.sum_congr rfl fun e _ => by rw [ei, term]).trans ?_
  by_cases hs : (BitVec.ofNat 32 (n.val / 256)).slt (x1 (ix1 (0 : Fin 1))) = true
  · rw [if_pos hs]
    refine (Finset.sum_eq_single o (fun e _ he => if_neg fun h => he ?_) (fun h => absurd (Finset.mem_univ _) h)).trans (if_pos ⟨hs, rfl⟩)
    have h' := congrArg BitVec.toNat h.2
    simp only [BitVec.toNat_ofNat] at h'
    exact Fin.ext (by omega)
  · rw [if_neg hs]
    exact Finset.sum_eq_zero fun e _ => if_neg fun h => hs h.1

end Reference

open Cert.Kernel2Ideal Cert.Kernel2Ideal.Gen
open Idealize.SL.Sem

/-- The kernel's condition at a point. -/
theorem cond_at (i : grid0.Coords) (t : ℕ) (h : (i 0).val = t) (n : BitVec 32) : k0_cond1 i n = 1#1 ↔ (BitVec.ofNat 32 t).slt n = true := by
  unfold k0_cond1
  rw [h]
  show Scalar.cmpi .ne (Scalar.extui (BitVec.ofBool ((BitVec.ofNat 32 t).slt n))) 0#32 = 1#1 ↔ _
  generalize (BitVec.ofNat 32 t).slt n = b
  cases b <;> decide

variable (m : (ℓ : Loc nD τ sig) → Buf (Elt Ideal) ℓ) (c : Dev nD)

/-- The reference's result, from the kernel's arguments. -/
abbrev want : S70656x1024.Idx → EReal :=
  Cert.Reference2Ideal.Read.val_main_v24 (F := Ideal) (V m c main_arg0) (V m c main_arg1) (V m c main_arg2) (V m c main_arg3) (V m c main_arg4) (V m c main_arg5)

/-- A point's block holds the reference's rows. -/
theorem tile_at (h : InRange m) (t : Fin (cfg0 (adm m (ok_of_range m h))).N) (r : Fin 256) (j : Fin 1024) :
    tile (grid0.coords t) (word (V m 0 main_arg1)) (iblk m (ok_of_range m h) c 0 t) (iblk m (ok_of_range m h) c 1 t)
        (iblk m (ok_of_range m h) c 2 t) (iblk m (ok_of_range m h) c 3 t) (ix2 r j)
      = want m c (ix2 (⟨t.val * 256 + r.val, by have := (tl m (ok_of_range m h) t).isLt; have e : (tl m (ok_of_range m h) t).val = t.val := rfl; omega⟩ : Fin 70656) j) := by
  obtain rfl : c = 0 := Subsingleton.elim _ _
  obtain ⟨o, ho⟩ : ∃ o : Fin 16, o.val = (own m (tl m (ok_of_range m h) t)).toNat := ⟨⟨_, h (tl m (ok_of_range m h) t)⟩, rfl⟩
  have et : (⟨(t.val * 256 + r.val) / 256, by have := (tl m (ok_of_range m h) t).isLt; have e : (tl m (ok_of_range m h) t).val = t.val := rfl; omega⟩ : Fin 276)
      = tl m (ok_of_range m h) t := Fin.ext (by show (t.val * 256 + r.val) / 256 = t.val; omega)
  have ew : own m (tl m (ok_of_range m h) t) = BitVec.ofNat 32 o.val := by
    rw [ho]
    exact ((BitVec.ofNat_toNat _ _).trans (BitVec.setWidth_eq _)).symm
  have eq : (t.val * 256 + r.val) / 256 = t.val := by omega
  refine Eq.trans ?_ (ref_at _ _ _ _ _ _ _ j o ((congrArg (own m) et).trans ew)).symm
  dsimp only
  rw [eq]
  unfold tile
  by_cases hs : (BitVec.ofNat 32 t.val).slt (V m 0 main_arg1 (ix1 (0 : Fin 1))) = true
  · rw [if_pos hs, if_pos ((cond_at _ _ (coord0 t) _).2 hs)]
    exact (pay1_at _ _ _ _ r j).trans (net_congr j (rows_at m 0 (ok_of_range m h) t r) (gate_at m 0 (ok_of_range m h) t o ho)
      (up_at m 0 (ok_of_range m h) t o ho) (down_at m 0 (ok_of_range m h) t o ho))
  · rw [if_neg hs, if_neg (fun hc => hs ((cond_at _ _ (coord0 t) _).1 hc))]
    exact pay2_at _

/-- The same at any index of the block and the index of the array it goes to. -/
theorem tile_emb (h : InRange m) (t : Fin (cfg0 (adm m (ok_of_range m h))).N) (q : S256x1024.Idx) (p : S70656x1024.Idx)
    (p0 : (p (0 : Fin 2)).val = t.val * 256 + 1 * (q (0 : Fin 2)).val) (p1 : (p (1 : Fin 2)).val = 0 * 1024 + 1 * (q (1 : Fin 2)).val) :
    tile (grid0.coords t) (word (V m 0 main_arg1)) (iblk m (ok_of_range m h) c 0 t) (iblk m (ok_of_range m h) c 1 t)
        (iblk m (ok_of_range m h) c 2 t) (iblk m (ok_of_range m h) c 3 t) q = want m c p := by
  obtain ⟨r, hr⟩ : ∃ r : Fin 256, r.val = (q (0 : Fin 2)).val := ⟨q (0 : Fin 2), rfl⟩
  obtain ⟨j, hj⟩ : ∃ j : Fin 1024, j.val = (q (1 : Fin 2)).val := ⟨q (1 : Fin 2), rfl⟩
  have eq : q = ix2 r j := by
    funext a
    match a with
    | ⟨0, _⟩ => exact Fin.ext hr.symm
    | ⟨1, _⟩ => exact Fin.ext hj.symm
  refine (congrArg _ eq).trans ((tile_at m c h t r j).trans (congrArg (want m c) ?_))
  funext a
  match a with
  | ⟨0, _⟩ => exact Fin.ext (by show t.val * 256 + r.val = (p (0 : Fin 2)).val; omega)
  | ⟨1, _⟩ => exact Fin.ext (by show j.val = (p (1 : Fin 2)).val; omega)

/-- The launch's result is the reference's. -/
theorem arr_eq (h : InRange m) : (dats m (ok_of_range m h) 0 c).arrAt 4 (cfg0 (adm m (ok_of_range m h))).N = want m c := by
  funext i
  refine ((dats m (ok_of_range m h) 0 c).arrAt_apply_of_coversWhere 4 (want m c) (P := fun _ => True) (fun _ => True)
    (covers m (ok_of_range m h)) (fun t hf y => ?_) (fun j => Iff.rfl) i).trans (if_pos trivial)
  have e : ∀ a : Fin 2, (((((cfg0 (adm m (ok_of_range m h))).win 4).blk t).view.emb y) a).val
      = cc0_transform_4 (grid0.coords t) a * S256x1024.size a + 1 * (y a).val := fun a => rfl
  have e0 := e 0
  have e1 := e 1
  rw [map4 t] at e0 e1
  exact tile_emb m c h t _ _ e0 e1

/-- With every expert in range the idealized kernel and the idealized reference end with one result. -/
theorem algebraic : Cert.algebraic_Kernel2Ideal_Reference2Ideal := fun m ρ m' ρ' hm hargs => by
  have h : InRange m := fun t => small _ _ _ _ _ _ (hm 0) (ix1 t)
  refine ⟨fun c => want m c,
    (θ_run defs _ _).mono (fun r hr c => ⟨((hr.1 c).1 4).trans (arr_eq m c h), args_kept m _ r hr.1 c⟩) (run_main m ρ (ok_of_range m h)),
    (θ_run Cert.Reference2Ideal.defs _ _).mono (fun r hr c => ⟨?_, (hr c).2⟩) (Cert.Reference2Ideal.Value.run m' ρ')⟩
  obtain ⟨e0, e1, e2, e3, e4, e5⟩ := hargs c
  refine (hr c).1.trans ((Cert.Reference2Ideal.Read.val_main_v24_eq _ _ _ _ _ _).trans ?_)
  rw [e0, e1, e2, e3, e4, e5]

end Cert.Experts

end
-- ==== Proof.Last.lean ====
/-
  The last norm: its frames, its value at a row, and the claim that it and the reference end with one result.
-/
module

public import proofs.«01_k».proof.Defs
public import proofs.«01_k».proof.Proof.Gen.Kernel3
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal.Read
public import Idealize.ShloMosaic.Lib.StableHlo.ReadAt
public import Idealize.ShloMosaic.Lib.Pipeline.ValueKit

@[expose] public section

set_option maxRecDepth 16384
set_option maxHeartbeats 4000000

noncomputable section

namespace Cert.Last

open Cert.Kernel3Ideal Cert.Kernel3Ideal.Gen
open Idealize.ShloMosaic Idealize.SL.Sem
open Idealize.ShloMosaic.TcCoe Idealize.ShloMosaic.Tactic

section Frames

variable {F : FTy → Type} [FloatOps F]

/-- The body the printed kernel calls at a point is the idealized copy's. -/
theorem body_kernel : Cert.Kernel3.defs₀ (F := F) = defs₀ := by
  unfold Cert.Kernel3.defs₀ defs₀
  refine congrArg Defs.onTc ?_
  funext l a
  match l with
  | 0 => rfl

/-- So are its definitions. -/
theorem defs_kernel : Cert.Kernel3.defs (F := F) = defs := congrArg (Pipeline.defs pcfgs) body_kernel

variable (m : (ℓ : Loc nD τ sig) → Buf (Elt F) ℓ) (ρ : Dev nD → PrngReg)

/-- Every argument ends as it began. -/
def Kept (r : PUnit × MemSt nD τ sig (Elt F)) (c : Dev nD) : Prop :=
  r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)

/-- The run under definitions equal to the idealized copy's. -/
theorem frame_defs (d : Defs nD τ sig (Elt F) (Pipeline.Sig Λ₀ (Fin 1) fun p => (pcfgs (F := F) p).Adm))
    (hd : d = defs) : θ_run d (onTc (τ := τ) (main (F := F))) ⟨m, fun _ => 0, ρ⟩ (fun r =>
    (∀ c : Dev nD, Kept m r c) ∧ r.2.sem = fun _ => 0) := by
  subst hd
  exact Cert.Kernel3Ideal.Gen.frame m ρ

/-- The frame of the kernel as printed: it has the text of its idealized copy. -/
theorem frame_kernel : Cert.quiescent_Kernel3 := fun m ρ _ => frame_defs (F := Bits) m ρ _ defs_kernel

/-- The frame of the idealized kernel. -/
theorem frame_ideal : Cert.quiescent_Kernel3Ideal := fun m ρ _ => frame_defs (F := Ideal) m ρ _ rfl

/-- The frame of the reference. -/
theorem frame_reference : Cert.quiescent_Reference3Ideal := fun m ρ _ =>
  (θ_run Cert.Reference3Ideal.defs _ _).mono (fun r h => ⟨fun c => (h c).2, sem_eq_zero_of_no_sems (by decide) r.2⟩)
    (Cert.Reference3Ideal.Value.run m ρ)

end Frames

/-- A row of residuals with its gated update, divided by the root of its mean square and weighted. -/
def row (x g y w : Fin 1024 → EReal) (j : Fin 1024) : EReal :=
  (x j + g j * y j)
    * Ideal.rsqrt (Ideal.div (∑ k : Fin 1024, (x k + g k * y k) * (x k + g k * y k)) (Ideal.ofBits .f32 0x44800000#32)
        + Ideal.ofBits .f32 0x358637BD#32)
    * w j

/-- The body's value at a row of its block. -/
theorem pay_at (x y : (⟨S1x256x1024, .f32⟩ : BufTy).Contents (Elt Ideal)) (g : (⟨S1x6x1024, .f32⟩ : BufTy).Contents (Elt Ideal))
    (w : (⟨S1x1024, .f32⟩ : BufTy).Contents (Elt Ideal)) (r : Fin 256) (j : Fin 1024) :
    k0_pay1 (F := Ideal) x g y w (ix3 (0 : Fin 1) r j)
      = row (fun k => x (ix3 (0 : Fin 1) r k)) (fun k => g (ix3 (0 : Fin 1) (5 : Fin 6) k)) (fun k => y (ix3 (0 : Fin 1) r k))
          (fun k => w (ix2 (0 : Fin 1) k)) j := by
  unfold row
  pointwise [k0_pay1]

section Reference

open Cert.Reference3Ideal.Read

/-- The reference's value at a row. -/
theorem ref_at (x0 x2 : (⟨S2x16384x1024, .f32⟩ : BufTy).Contents (Elt Ideal)) (x4 : (⟨S8x6144, .f32⟩ : BufTy).Contents (Elt Ideal))
    (x5 : (⟨S1024, .f32⟩ : BufTy).Contents (Elt Ideal)) (b : Fin 2) (r : Fin 16384) (j : Fin 1024) :
    val_main_v23 (F := Ideal) x0 x2 x4 x5 (ix3 b r j)
      = row (fun k => x0 (ix3 b r k)) (fun k => x4 (ix2 (⟨b.val, by omega⟩ : Fin 8) (⟨5120 + k.val, by omega⟩ : Fin 6144)))
          (fun k => x2 (ix3 b r k)) (fun k => x5 (ix1 k)) j := by
  unfold row
  pointwise [val_main_v23, val_main_v22, val_main_v21, val_main_v20, val_main_v19, val_main_v18, val_main_v17, val_main_v16,
    val_main_v15, val_main_v14, val_main_v13, val_main_v12, val_main_v11, val_main_v10, val_main_v9, val_main_v8, val_main_v7,
    val_main_v6, val_main_v0, val_main_cst, val_main_cst_0, val_main_cst_1]

end Reference

variable (m : (ℓ : Loc nD τ sig) → Buf (Elt Ideal) ℓ) (c : Dev nD)

/-- The residuals' array, in its latent rows. -/
theorem res_at (b : Fin 2) (r : Fin 16384) (k : Fin 1024) :
    V m c main_v0 (ix3 b (⟨r.val, by omega⟩ : Fin 16640) k) = m ((c : Thread nD τ).loc main_arg0) (ix3 b r k) := by
  unfold V
  after_reads_at

/-- The updates' array, in its latent rows. -/
theorem upd_at (b : Fin 2) (r : Fin 16384) (k : Fin 1024) :
    V m c main_v1 (ix3 b (⟨r.val, by omega⟩ : Fin 16640) k) = m ((c : Thread nD τ).loc main_arg2) (ix3 b r k) := by
  unfold V
  after_reads_at

/-- The modulation's array: the sixth thousand of a row. -/
theorem mod_at (b : Fin 8) (k : Fin 1024) :
    V m c main_v2 (ix3 b (5 : Fin 6) k) = m ((c : Thread nD τ).loc main_arg4) (ix2 b (⟨5120 + k.val, by omega⟩ : Fin 6144)) := by
  unfold V
  after_reads_at

/-- The weights' array. -/
theorem wts_at (k : Fin 1024) : V m c main_v3 (ix2 (0 : Fin 1) k) = m ((c : Thread nD τ).loc main_arg5) (ix1 k) := by
  unfold V
  after_reads_at

/-- The block indices of the windows at a point: its batch and row block. -/
theorem index0 : ∀ t : Fin cfg0.N, (cfg0.win 0).index t = ![t.val / 64, t.val % 64, 0] := by decide +kernel
/-- The updates' rows. -/
theorem index1 : ∀ t : Fin cfg0.N, (cfg0.win 1).index t = ![t.val / 64, t.val % 64, 0] := by decide +kernel
/-- The modulation of the batch. -/
theorem index2 : ∀ t : Fin cfg0.N, (cfg0.win 2).index t = ![t.val / 64, 0, 0] := by decide +kernel
/-- The weights, whole. -/
theorem index3 : ∀ t : Fin cfg0.N, (cfg0.win 3).index t = ![0, 0] := by decide +kernel
/-- The result's rows. -/
theorem index4 : ∀ t : Fin cfg0.N, (cfg0.win 4).index t = ![t.val / 64, t.val % 64, 0] := by decide +kernel

/-- A point is one of the two batches' sixty-four. -/
theorem lt_points (t : Fin cfg0.N) : t.val < 128 := by have h : t.val < grid0.N := t.isLt; have e := N_0; omega

/-- The point's batch. -/
def pb (t : Fin cfg0.N) : Fin 2 := ⟨t.val / 64, by have := lt_points t; omega⟩

/-- The array's row a row of the point's block is. -/
def pr (t : Fin cfg0.N) (r : Fin 256) : Fin 16384 := ⟨t.val % 64 * 256 + r.val, by omega⟩

/-- The block of residuals. -/
theorem iblk0_at (t : Fin cfg0.N) (r : Fin 256) (k : Fin 1024) :
    iblk m c 0 t (ix3 (0 : Fin 1) r k) = V m c main_v0 (ix3 (pb t) (⟨(pr t r).val, by omega⟩ : Fin 16640) k) := by
  blk_ext [iblk, index0 t]
  all_goals rfl

/-- The block of updates. -/
theorem iblk1_at (t : Fin cfg0.N) (r : Fin 256) (k : Fin 1024) :
    iblk m c 1 t (ix3 (0 : Fin 1) r k) = V m c main_v1 (ix3 (pb t) (⟨(pr t r).val, by omega⟩ : Fin 16640) k) := by
  blk_ext [iblk, index1 t]
  all_goals rfl

/-- The block of modulation. -/
theorem iblk2_at (t : Fin cfg0.N) (k : Fin 1024) :
    iblk m c 2 t (ix3 (0 : Fin 1) (5 : Fin 6) k) = V m c main_v2 (ix3 (⟨(pb t).val, by omega⟩ : Fin 8) (5 : Fin 6) k) := by
  blk_ext [iblk, index2 t]
  rfl

/-- The block of weights. -/
theorem iblk3_at (t : Fin cfg0.N) (k : Fin 1024) :
    iblk m c 3 t (ix2 (0 : Fin 1) k) = V m c main_v3 (ix2 (0 : Fin 1) k) := by
  blk_ext [iblk, index3 t]

/-- The reference's result, from the kernel's arguments. -/
abbrev want : S2x16384x1024.Idx → EReal :=
  Cert.Reference3Ideal.Read.val_main_v23 (F := Ideal) (m ((c : Thread nD τ).loc main_arg0)) (m ((c : Thread nD τ).loc main_arg2))
    (m ((c : Thread nD τ).loc main_arg4)) (m ((c : Thread nD τ).loc main_arg5))

/-- Rows of equal parts are equal. -/
theorem row_congr {x x' g g' y y' w w' : Fin 1024 → EReal} (j : Fin 1024) (hx : ∀ k, x k = x' k) (hg : ∀ k, g k = g' k)
    (hy : ∀ k, y k = y' k) (hw : ∀ k, w k = w' k) : row x g y w j = row x' g' y' w' j := by
  rw [funext hx, funext hg, funext hy, funext hw]

/-- A point's block holds the reference's rows. -/
theorem tile_at (t : Fin cfg0.N) (r : Fin 256) (j : Fin 1024) :
    k0_pay1 (F := Ideal) (iblk m c 0 t) (iblk m c 2 t) (iblk m c 1 t) (iblk m c 3 t) (ix3 (0 : Fin 1) r j)
      = want m c (ix3 (pb t) (pr t r) j) := by
  refine (pay_at _ _ _ _ r j).trans (Eq.trans ?_ (ref_at _ _ _ _ (pb t) (pr t r) j).symm)
  exact row_congr j (fun k => (iblk0_at m c t r k).trans (res_at m c _ _ k)) (fun k => (iblk2_at m c t k).trans (mod_at m c _ k))
    (fun k => (iblk1_at m c t r k).trans (upd_at m c _ _ k)) (fun k => (iblk3_at m c t k).trans (wts_at m c k))

/-- What the body leaves in the result's block is its payload. -/
theorem out_eq (x y : (⟨S1x256x1024, .f32⟩ : BufTy).Contents (Elt Ideal)) (g : (⟨S1x6x1024, .f32⟩ : BufTy).Contents (Elt Ideal))
    (w : (⟨S1x1024, .f32⟩ : BufTy).Contents (Elt Ideal)) : out0_4 (F := Ideal) x y g w = k0_pay1 x g y w := by
  have z3 : (![0, 0, 0] : Fin 3 → ℕ) = fun _ => 0 := by decide
  have z2 : (![0, 0] : Fin 2 → ℕ) = fun _ => 0 := by decide
  unfold out0_4
  refine (View.canon_cons_unit_zero z3 _ _ _).trans ?_
  rw [View.ld_unit_zero z3, View.ld_unit_zero z3, View.ld_unit_zero z3, View.ld_unit_zero z2]

/-- The same at any index of the block and the index of the array it goes to. -/
theorem tile_emb (t : Fin cfg0.N) (q : S1x256x1024.Idx) (p : S2x16384x1024.Idx)
    (p0 : (p (0 : Fin 3)).val = t.val / 64 * 1 + 1 * (q (0 : Fin 3)).val)
    (p1 : (p (1 : Fin 3)).val = t.val % 64 * 256 + 1 * (q (1 : Fin 3)).val)
    (p2 : (p (2 : Fin 3)).val = 0 * 1024 + 1 * (q (2 : Fin 3)).val) :
    out0_4 (F := Ideal) (iblk m c 0 t) (iblk m c 1 t) (iblk m c 2 t) (iblk m c 3 t) q = want m c p := by
  have q0 : (q (0 : Fin 3)).val = 0 := Nat.lt_one_iff.mp (q (0 : Fin 3)).isLt
  obtain ⟨r, hr⟩ : ∃ r : Fin 256, r.val = (q (1 : Fin 3)).val := ⟨q (1 : Fin 3), rfl⟩
  obtain ⟨j, hj⟩ : ∃ j : Fin 1024, j.val = (q (2 : Fin 3)).val := ⟨q (2 : Fin 3), rfl⟩
  have eq : q = ix3 (0 : Fin 1) r j := by
    funext a
    match a with
    | ⟨0, _⟩ => exact Fin.ext q0
    | ⟨1, _⟩ => exact Fin.ext hr.symm
    | ⟨2, _⟩ => exact Fin.ext hj.symm
  refine (congrArg _ eq).trans ((congrFun (out_eq _ _ _ _) _).trans ((tile_at m c t r j).trans (congrArg (want m c) ?_)))
  funext a
  match a with
  | ⟨0, _⟩ => exact Fin.ext (by show t.val / 64 = (p (0 : Fin 3)).val; omega)
  | ⟨1, _⟩ => exact Fin.ext (by show t.val % 64 * 256 + r.val = (p (1 : Fin 3)).val; omega)
  | ⟨2, _⟩ => exact Fin.ext (by show j.val = (p (2 : Fin 3)).val; omega)

/-- The launch's result is the reference's. -/
theorem arr_eq : (dats m 0 c).arrAt 4 cfg0.N = want m c := by
  funext i
  refine ((dats m 0 c).arrAt_apply_of_coversWhere 4 (want m c) (P := fun _ => True) (fun _ => True) (by decide +kernel)
    (fun t hf y => ?_) (fun j => Iff.rfl) i).trans (if_pos trivial)
  have e : ∀ a : Fin 3, ((((cfg0.win 4).blk t).view.emb y) a).val = (cfg0.win 4).index t a * S1x256x1024.size a + 1 * (y a).val := fun a => rfl
  have e0 := e 0
  have e1 := e 1
  have e2 := e 2
  rw [index4 t] at e0 e1 e2
  exact (congrFun (Cert.Kernel3Ideal.Value.flushed4 m c t) y).trans (tile_emb m c t _ _ e0 e1 e2)

/-- The idealized kernel and the idealized reference end with one result. -/
theorem algebraic : Cert.algebraic_Kernel3Ideal_Reference3Ideal := fun m ρ m' ρ' _ hargs => by
  refine ⟨fun c => want m c,
    (θ_run defs _ _).mono (fun r h c => ⟨(h c).1.trans (arr_eq m c), (h c).2⟩) (Cert.Kernel3Ideal.Value.run_blocks m ρ),
    (θ_run Cert.Reference3Ideal.defs _ _).mono (fun r h c => ⟨?_, (h c).2⟩) (Cert.Reference3Ideal.Value.run m' ρ')⟩
  obtain ⟨e0, e1, e2, e3, e4, e5⟩ := hargs c
  refine (h c).1.trans ((Cert.Reference3Ideal.Read.val_main_v23_eq _ _ _ _).trans ?_)
  rw [e0, e2, e4, e5]

end Cert.Last

end
-- ==== Proof.ProjTile.lean ====
/-
  The projections' tiles: the modulated row, the products with the weights' columns, the rotation of a tile of lanes.
-/
module

public import proofs.«01_k».proof.Defs
public import proofs.«01_k».proof.Proof.Gen.Kernel4Ideal.Frame
public import Idealize.ShloMosaic.Lib.Pipeline.ValueKit

@[expose] public section

set_option maxRecDepth 16384
set_option maxHeartbeats 4000000

noncomputable section

namespace Cert.Proj

open Cert.Kernel4Ideal Cert.Kernel4Ideal.Gen
open Idealize.ShloMosaic Idealize.SL.Sem
open Idealize.ShloMosaic.TcCoe Idealize.ShloMosaic.Tactic

/-- A row over the root of its mean square, weighted, scaled and shifted. -/
def hrow (x sh sc w : Fin 1024 → EReal) (j : Fin 1024) : EReal :=
  x j * Ideal.rsqrt (Ideal.div (∑ k : Fin 1024, x k * x k) (Ideal.ofBits .f32 0x44800000#32) + Ideal.ofBits .f32 0x358637BD#32)
    * w j * (Ideal.ofBits .f32 0x3F800000#32 + sc j) + sh j

/-- The other lane of a lane's pair: sixteen away within its thirty-two. -/
def other (e : Fin 1024) : Fin 1024 := ⟨e.val / 32 * 32 + (e.val % 32 + 16) % 32, by omega⟩

/-- The lane of a column within its tile. -/
def lane (e : Fin 1024) : Fin 128 := ⟨e.val % 128, by omega⟩

/-- A row rotated: each lane times its cosine and the other lane times its signed sine. -/
def turn (u : Fin 1024 → EReal) (co si : Fin 128 → EReal) (e : Fin 1024) : EReal :=
  u e * co (lane e) + u (other e) * si (lane e)

/-- The rotation from its parts as the body selects them. -/
theorem turn_of (u : Fin 1024 → EReal) (co si : Fin 128 → EReal) (e : Fin 1024) {a b b' p q : EReal} {k : BitVec 1}
    (hk : k = if e.val % 32 < 16 then 1#1 else 0#1) (ha : a = u e) (hb : e.val % 32 < 16 → b = u (other e))
    (hb' : ¬ e.val % 32 < 16 → b' = u (other e)) (hp : p = co (lane e)) (hq : q = si (lane e)) :
    a * p + Scalar.select k b b' * q = turn u co si e := by
  have hs : Scalar.select k b b' = u (other e) := by
    by_cases h : e.val % 32 < 16
    · rw [hk, if_pos h, ← hb h]; rfl
    · rw [hk, if_neg h, ← hb' h]; rfl
  rw [hs, ha, hp, hq, turn]

/-- A row's product with a column of the weights, from their numbers. -/
def fe (x : Fin 1024 → EReal) (W : (⟨2, ![1024, 3584]⟩ : Shape).Idx → EReal) (e : Fin 3584) : EReal := ∑ d : Fin 1024, x d * W (ix2 d e)

/-- The sign a lane's sine carries. -/
def sign (l : Fin 128) : EReal := if l.val % 32 < 16 then -1 else 1

/-- The angle of a row at a lane: the row's or the column's number of the picture's, over a power of ten thousand. -/
def angle (r : Fin 16384) (l : Fin 128) : EReal :=
  FloatOps.sitofp (F := Ideal) FTy.f32 (BitVec.ofNat 32 (if l.val % 64 < 32 then r.val / 64 else r.val % 64))
    * Ideal.pow (Ideal.ofBits .f32 0x461C4000#32)
        (Ideal.div (-FloatOps.sitofp (F := Ideal) FTy.f32 (BitVec.ofNat 32 (l.val % 16))) (Ideal.ofBits .f32 0x41800000#32))

/-- A row's lanes turned by their angles. -/
abbrev turned (u : Fin 1024 → EReal) (B : Fin 128 → EReal) (e : Fin 1024) : EReal :=
  turn u (fun l => Ideal.cos (B l)) (fun l => Ideal.sin (B l) * sign l) e

/-- A lane of a first half, turned. -/
theorem turned_first (u : Fin 1024 → EReal) (B : Fin 128 → EReal) (e : Fin 1024) {a p b q : EReal} (he : e.val % 32 < 16)
    (ha : a = u e) (hp : p = B (lane e)) (hb : b = u (other e)) (hq : q = B (lane e)) :
    a * Ideal.cos p - b * Ideal.sin q = turned u B e := by
  have hs : sign (lane e) = -1 := if_pos (show e.val % 128 % 32 < 16 by omega)
  rw [ha, hp, hb, hq, turned, turn, hs, mul_neg_one, mul_neg, sub_eq_add_neg]

/-- A lane of a second half, turned. -/
theorem turned_second (u : Fin 1024 → EReal) (B : Fin 128 → EReal) (e : Fin 1024) {a p b q : EReal} (he : ¬ e.val % 32 < 16)
    (ha : a = u e) (hp : p = B (lane e)) (hb : b = u (other e)) (hq : q = B (lane e)) :
    b * Ideal.sin q + a * Ideal.cos p = turned u B e := by
  have hs : sign (lane e) = 1 := if_neg (show ¬ e.val % 128 % 32 < 16 by omega)
  rw [ha, hp, hb, hq, turned, turn, hs, mul_one, add_comm]

/-- A row turned by nothing. -/
theorem turn_still (u : Fin 1024 → EReal) (e : Fin 1024) : turn u (fun _ => 1) (fun _ => 0) e = u e := by
  rw [turn, mul_one, mul_zero, add_zero]

/-- The body's modulated rows. -/
theorem hb_at (x : (⟨S1x256x1024, .f32⟩ : BufTy).Contents (Elt Ideal)) (g : (⟨S1x6x1024, .f32⟩ : BufTy).Contents (Elt Ideal))
    (w : (⟨S1x1024, .f32⟩ : BufTy).Contents (Elt Ideal)) (r : Fin 256) (j : Fin 1024) :
    k0_pay3 (F := Ideal) x g w (ix2 r j)
      = hrow (fun k => x (ix3 (0 : Fin 1) r k)) (fun k => g (ix3 (0 : Fin 1) (0 : Fin 6) k)) (fun k => g (ix3 (0 : Fin 1) (1 : Fin 6) k))
          (fun k => w (ix2 (0 : Fin 1) k)) j := by
  unfold hrow
  pointwise [k0_pay3]

/-- The mask marks the first half of each thirty-two lanes. -/
theorem first_at (r : Fin 256) (c : Fin 128) :
    k0_pay8 (Scalar.select (Scalar.cmpi .eq 32#32 0#32) 1#32 32#32) k0_pay6 k0_pay7 (ix2 r c) = if c.val % 32 < 16 then 1#1 else 0#1 := by
  pointwise [k0_pay8, k0_pay6, k0_pay7]
  clear r
  revert c
  decide +kernel

variable (h : FVec Ideal S256x1024 .bf16) (co si : FVec Ideal S256x128 .f32) (mk : IVec S256x128 1)
  (W : (⟨S1024x3584, .bf16⟩ : BufTy).Contents (Elt Ideal))

/-- A row's product with a column of the weights. -/
def col (r : Fin 256) (e : Fin 3584) : EReal := ∑ d : Fin 1024, h (ix2 r d) * W (ix2 d e)

/-- The same column named twice. -/
theorem col_eq (r : Fin 256) {e e' : Fin 3584} (he : e.val = e'.val) :
    (∑ d : Fin 1024, h (ix2 r d) * W (ix2 d e)) = col h W r e' := by rw [Fin.ext he]; rfl

/-- The first tile of the queries. -/
theorem q0_at (r : Fin 256) (c : Fin 128) :
    k0_pay11 (F := Ideal) h co si (Scalar.select (Scalar.cmpi .eq 32#32 0#32) 1#32 32#32) k0_pay6 k0_pay7 (View.ld W r0_4) (ix3 (0 : Fin 1) r c)
      =
      turn (fun e => col h W r (⟨0 + e.val, by omega⟩ : Fin 3584)) (fun e => co (ix2 r e)) (fun e => si (ix2 r e)) (⟨0 + c.val, by omega⟩ : Fin 1024)
        * Ideal.ofBits .f32 0x3E38AA3B#32 := by
  pointwise [k0_pay11, k0_pay9]
  refine congrArg (fun z : EReal => z * Ideal.ofBits .f32 0x3E38AA3B#32) (turn_of _ _ _ _ (first_at r c) ?_ ?_ ?_ ?_ ?_)
  · exact col_eq h W r (by simp only [] <;> omega)
  · exact fun hc => col_eq h W r (by simp only [other] at hc ⊢; omega)
  · exact fun hc => col_eq h W r (by simp only [other] at hc ⊢; omega)
  · exact congrArg (fun z : Fin 128 => co (ix2 r z)) (Fin.ext (by simp only [lane]; omega))
  · exact congrArg (fun z : Fin 128 => si (ix2 r z)) (Fin.ext (by simp only [lane]; omega))

/-- The second tile of the queries. -/
theorem q1_at (hm : ∀ (r : Fin 256) (c : Fin 128), mk (ix2 r c) = if c.val % 32 < 16 then 1#1 else 0#1) (r : Fin 256) (c : Fin 128) :
    k0_pay14 (F := Ideal) co si mk (k0_pay9 h (View.ld W r0_4)) (ix3 (0 : Fin 1) r c)
      =
      turn (fun e => col h W r (⟨0 + e.val, by omega⟩ : Fin 3584)) (fun e => co (ix2 r e)) (fun e => si (ix2 r e)) (⟨128 + c.val, by omega⟩ : Fin 1024)
        * Ideal.ofBits .f32 0x3E38AA3B#32 := by
  pointwise [k0_pay14, k0_pay9]
  refine congrArg (fun z : EReal => z * Ideal.ofBits .f32 0x3E38AA3B#32) (turn_of _ _ _ _ ((hm r c).trans (by rw [show (128 + c.val) % 32 = c.val % 32 by omega])) ?_ ?_ ?_ ?_ ?_)
  · exact col_eq h W r (by simp only [] <;> omega)
  · exact fun hc => col_eq h W r (by simp only [other] at hc ⊢; omega)
  · exact fun hc => col_eq h W r (by simp only [other] at hc ⊢; omega)
  · exact congrArg (fun z : Fin 128 => co (ix2 r z)) (Fin.ext (by simp only [lane]; omega))
  · exact congrArg (fun z : Fin 128 => si (ix2 r z)) (Fin.ext (by simp only [lane]; omega))

/-- The third tile of the queries. -/
theorem q2_at (hm : ∀ (r : Fin 256) (c : Fin 128), mk (ix2 r c) = if c.val % 32 < 16 then 1#1 else 0#1) (r : Fin 256) (c : Fin 128) :
    k0_pay21 (F := Ideal) si (k0_pay19 h co (View.ld W r0_8)) (k0_pay20 h mk (View.ld W r0_8)) (ix3 (0 : Fin 1) r c)
      =
      turn (fun e => col h W r (⟨0 + e.val, by omega⟩ : Fin 3584)) (fun e => co (ix2 r e)) (fun e => si (ix2 r e)) (⟨256 + c.val, by omega⟩ : Fin 1024)
        * Ideal.ofBits .f32 0x3E38AA3B#32 := by
  pointwise [k0_pay21, k0_pay20, k0_pay19, k0_pay18, k0_pay16]
  refine congrArg (fun z : EReal => z * Ideal.ofBits .f32 0x3E38AA3B#32) (turn_of _ _ _ _ ((hm r c).trans (by rw [show (256 + c.val) % 32 = c.val % 32 by omega])) ?_ ?_ ?_ ?_ ?_)
  · exact col_eq h W r (by simp only [] <;> omega)
  · exact fun hc => col_eq h W r (by simp only [other] at hc ⊢; omega)
  · exact fun hc => col_eq h W r (by simp only [other] at hc ⊢; omega)
  · exact congrArg (fun z : Fin 128 => co (ix2 r z)) (Fin.ext (by simp only [lane]; omega))
  · exact congrArg (fun z : Fin 128 => si (ix2 r z)) (Fin.ext (by simp only [lane]; omega))

/-- The fourth tile of the queries. -/
theorem q3_at (hm : ∀ (r : Fin 256) (c : Fin 128), mk (ix2 r c) = if c.val % 32 < 16 then 1#1 else 0#1) (r : Fin 256) (c : Fin 128) :
    k0_pay23 (F := Ideal) co si mk (k0_pay16 h (View.ld W r0_8)) (ix3 (0 : Fin 1) r c)
      =
      turn (fun e => col h W r (⟨0 + e.val, by omega⟩ : Fin 3584)) (fun e => co (ix2 r e)) (fun e => si (ix2 r e)) (⟨384 + c.val, by omega⟩ : Fin 1024)
        * Ideal.ofBits .f32 0x3E38AA3B#32 := by
  pointwise [k0_pay23, k0_pay16]
  refine congrArg (fun z : EReal => z * Ideal.ofBits .f32 0x3E38AA3B#32) (turn_of _ _ _ _ ((hm r c).trans (by rw [show (384 + c.val) % 32 = c.val % 32 by omega])) ?_ ?_ ?_ ?_ ?_)
  · exact col_eq h W r (by simp only [] <;> omega)
  · exact fun hc => col_eq h W r (by simp only [other] at hc ⊢; omega)
  · exact fun hc => col_eq h W r (by simp only [other] at hc ⊢; omega)
  · exact congrArg (fun z : Fin 128 => co (ix2 r z)) (Fin.ext (by simp only [lane]; omega))
  · exact congrArg (fun z : Fin 128 => si (ix2 r z)) (Fin.ext (by simp only [lane]; omega))

/-- The fifth tile of the queries. -/
theorem q4_at (hm : ∀ (r : Fin 256) (c : Fin 128), mk (ix2 r c) = if c.val % 32 < 16 then 1#1 else 0#1) (r : Fin 256) (c : Fin 128) :
    k0_pay28 (F := Ideal) h co si mk (View.ld W r0_12) (ix3 (0 : Fin 1) r c)
      =
      turn (fun e => col h W r (⟨0 + e.val, by omega⟩ : Fin 3584)) (fun e => co (ix2 r e)) (fun e => si (ix2 r e)) (⟨512 + c.val, by omega⟩ : Fin 1024)
        * Ideal.ofBits .f32 0x3E38AA3B#32 := by
  pointwise [k0_pay28, k0_pay26]
  refine congrArg (fun z : EReal => z * Ideal.ofBits .f32 0x3E38AA3B#32) (turn_of _ _ _ _ ((hm r c).trans (by rw [show (512 + c.val) % 32 = c.val % 32 by omega])) ?_ ?_ ?_ ?_ ?_)
  · exact col_eq h W r (by simp only [] <;> omega)
  · exact fun hc => col_eq h W r (by simp only [other] at hc ⊢; omega)
  · exact fun hc => col_eq h W r (by simp only [other] at hc ⊢; omega)
  · exact congrArg (fun z : Fin 128 => co (ix2 r z)) (Fin.ext (by simp only [lane]; omega))
  · exact congrArg (fun z : Fin 128 => si (ix2 r z)) (Fin.ext (by simp only [lane]; omega))

/-- The sixth tile of the queries. -/
theorem q5_at (hm : ∀ (r : Fin 256) (c : Fin 128), mk (ix2 r c) = if c.val % 32 < 16 then 1#1 else 0#1) (r : Fin 256) (c : Fin 128) :
    k0_pay32 (F := Ideal) co si mk (k0_pay30 h (View.ld W r0_12)) (k0_pay31 h (View.ld W r0_12)) 16#32 (ix3 (0 : Fin 1) r c)
      =
      turn (fun e => col h W r (⟨0 + e.val, by omega⟩ : Fin 3584)) (fun e => co (ix2 r e)) (fun e => si (ix2 r e)) (⟨640 + c.val, by omega⟩ : Fin 1024)
        * Ideal.ofBits .f32 0x3E38AA3B#32 := by
  pointwise [k0_pay32, k0_pay31, k0_pay30, k0_pay26]
  refine congrArg (fun z : EReal => z * Ideal.ofBits .f32 0x3E38AA3B#32) (turn_of _ _ _ _ ((hm r c).trans (by rw [show (640 + c.val) % 32 = c.val % 32 by omega])) ?_ ?_ ?_ ?_ ?_)
  · exact col_eq h W r (by simp only [] <;> omega)
  · exact fun hc => col_eq h W r (by simp only [other] at hc ⊢; omega)
  · exact fun hc => col_eq h W r (by simp only [other] at hc ⊢; omega)
  · exact congrArg (fun z : Fin 128 => co (ix2 r z)) (Fin.ext (by simp only [lane]; omega))
  · exact congrArg (fun z : Fin 128 => si (ix2 r z)) (Fin.ext (by simp only [lane]; omega))

/-- The seventh tile of the queries. -/
theorem q6_at (hm : ∀ (r : Fin 256) (c : Fin 128), mk (ix2 r c) = if c.val % 32 < 16 then 1#1 else 0#1) (r : Fin 256) (c : Fin 128) :
    k0_pay37 (F := Ideal) (k0_pay36 h co si mk (View.ld W r0_16)) (ix3 (0 : Fin 1) r c)
      =
      turn (fun e => col h W r (⟨0 + e.val, by omega⟩ : Fin 3584)) (fun e => co (ix2 r e)) (fun e => si (ix2 r e)) (⟨768 + c.val, by omega⟩ : Fin 1024)
        * Ideal.ofBits .f32 0x3E38AA3B#32 := by
  pointwise [k0_pay37, k0_pay36, k0_pay34]
  refine congrArg (fun z : EReal => z * Ideal.ofBits .f32 0x3E38AA3B#32) (turn_of _ _ _ _ ((hm r c).trans (by rw [show (768 + c.val) % 32 = c.val % 32 by omega])) ?_ ?_ ?_ ?_ ?_)
  · exact col_eq h W r (by simp only [] <;> omega)
  · exact fun hc => col_eq h W r (by simp only [other] at hc ⊢; omega)
  · exact fun hc => col_eq h W r (by simp only [other] at hc ⊢; omega)
  · exact congrArg (fun z : Fin 128 => co (ix2 r z)) (Fin.ext (by simp only [lane]; omega))
  · exact congrArg (fun z : Fin 128 => si (ix2 r z)) (Fin.ext (by simp only [lane]; omega))

/-- The eighth tile of the queries. -/
theorem q7_at (hm : ∀ (r : Fin 256) (c : Fin 128), mk (ix2 r c) = if c.val % 32 < 16 then 1#1 else 0#1) (r : Fin 256) (c : Fin 128) :
    k0_pay39 (F := Ideal) co si mk (k0_pay34 h (View.ld W r0_16)) (ix3 (0 : Fin 1) r c)
      =
      turn (fun e => col h W r (⟨0 + e.val, by omega⟩ : Fin 3584)) (fun e => co (ix2 r e)) (fun e => si (ix2 r e)) (⟨896 + c.val, by omega⟩ : Fin 1024)
        * Ideal.ofBits .f32 0x3E38AA3B#32 := by
  pointwise [k0_pay39, k0_pay34]
  refine congrArg (fun z : EReal => z * Ideal.ofBits .f32 0x3E38AA3B#32) (turn_of _ _ _ _ ((hm r c).trans (by rw [show (896 + c.val) % 32 = c.val % 32 by omega])) ?_ ?_ ?_ ?_ ?_)
  · exact col_eq h W r (by simp only [] <;> omega)
  · exact fun hc => col_eq h W r (by simp only [other] at hc ⊢; omega)
  · exact fun hc => col_eq h W r (by simp only [other] at hc ⊢; omega)
  · exact congrArg (fun z : Fin 128 => co (ix2 r z)) (Fin.ext (by simp only [lane]; omega))
  · exact congrArg (fun z : Fin 128 => si (ix2 r z)) (Fin.ext (by simp only [lane]; omega))

/-- The first tile of the keys. -/
theorem k0_at (r : Fin 256) (c : Fin 128) :
    k0_pay13 (F := Ideal) (k0_pay12 h co si (Scalar.select (Scalar.cmpi .eq 32#32 0#32) 1#32 32#32) k0_pay6 k0_pay7 (View.ld W r0_5)) (ix3 (0 : Fin 1) r c)
      =
      turn (fun e => col h W r (⟨1024 + e.val, by omega⟩ : Fin 3584)) (fun e => co (ix2 r e)) (fun e => si (ix2 r e)) (⟨0 + c.val, by omega⟩ : Fin 1024) := by
  pointwise [k0_pay13, k0_pay12, k0_pay10]
  refine turn_of _ _ _ _ (first_at r c) ?_ ?_ ?_ ?_ ?_
  · exact col_eq h W r (by simp only [] <;> omega)
  · exact fun hc => col_eq h W r (by simp only [other] at hc ⊢; omega)
  · exact fun hc => col_eq h W r (by simp only [other] at hc ⊢; omega)
  · exact congrArg (fun z : Fin 128 => co (ix2 r z)) (Fin.ext (by simp only [lane]; omega))
  · exact congrArg (fun z : Fin 128 => si (ix2 r z)) (Fin.ext (by simp only [lane]; omega))

/-- The second tile of the keys. -/
theorem k1_at (hm : ∀ (r : Fin 256) (c : Fin 128), mk (ix2 r c) = if c.val % 32 < 16 then 1#1 else 0#1) (r : Fin 256) (c : Fin 128) :
    k0_pay15 (F := Ideal) co si mk (k0_pay10 h (View.ld W r0_5)) (ix3 (0 : Fin 1) r c)
      =
      turn (fun e => col h W r (⟨1024 + e.val, by omega⟩ : Fin 3584)) (fun e => co (ix2 r e)) (fun e => si (ix2 r e)) (⟨128 + c.val, by omega⟩ : Fin 1024) := by
  pointwise [k0_pay15, k0_pay10]
  refine turn_of _ _ _ _ ((hm r c).trans (by rw [show (128 + c.val) % 32 = c.val % 32 by omega])) ?_ ?_ ?_ ?_ ?_
  · exact col_eq h W r (by simp only [] <;> omega)
  · exact fun hc => col_eq h W r (by simp only [other] at hc ⊢; omega)
  · exact fun hc => col_eq h W r (by simp only [other] at hc ⊢; omega)
  · exact congrArg (fun z : Fin 128 => co (ix2 r z)) (Fin.ext (by simp only [lane]; omega))
  · exact congrArg (fun z : Fin 128 => si (ix2 r z)) (Fin.ext (by simp only [lane]; omega))

/-- The third tile of the keys. -/
theorem k2_at (hm : ∀ (r : Fin 256) (c : Fin 128), mk (ix2 r c) = if c.val % 32 < 16 then 1#1 else 0#1) (r : Fin 256) (c : Fin 128) :
    k0_pay22 (F := Ideal) co si mk (k0_pay17 h (View.ld W r0_9)) (ix3 (0 : Fin 1) r c)
      =
      turn (fun e => col h W r (⟨1024 + e.val, by omega⟩ : Fin 3584)) (fun e => co (ix2 r e)) (fun e => si (ix2 r e)) (⟨256 + c.val, by omega⟩ : Fin 1024) := by
  pointwise [k0_pay22, k0_pay17]
  refine turn_of _ _ _ _ ((hm r c).trans (by rw [show (256 + c.val) % 32 = c.val % 32 by omega])) ?_ ?_ ?_ ?_ ?_
  · exact col_eq h W r (by simp only [] <;> omega)
  · exact fun hc => col_eq h W r (by simp only [other] at hc ⊢; omega)
  · exact fun hc => col_eq h W r (by simp only [other] at hc ⊢; omega)
  · exact congrArg (fun z : Fin 128 => co (ix2 r z)) (Fin.ext (by simp only [lane]; omega))
  · exact congrArg (fun z : Fin 128 => si (ix2 r z)) (Fin.ext (by simp only [lane]; omega))

/-- The fourth tile of the keys. -/
theorem k3_at (hm : ∀ (r : Fin 256) (c : Fin 128), mk (ix2 r c) = if c.val % 32 < 16 then 1#1 else 0#1) (r : Fin 256) (c : Fin 128) :
    k0_pay25 (F := Ideal) (k0_pay24 co si mk (k0_pay17 h (View.ld W r0_9))) (ix3 (0 : Fin 1) r c)
      =
      turn (fun e => col h W r (⟨1024 + e.val, by omega⟩ : Fin 3584)) (fun e => co (ix2 r e)) (fun e => si (ix2 r e)) (⟨384 + c.val, by omega⟩ : Fin 1024) := by
  pointwise [k0_pay25, k0_pay24, k0_pay17]
  refine turn_of _ _ _ _ ((hm r c).trans (by rw [show (384 + c.val) % 32 = c.val % 32 by omega])) ?_ ?_ ?_ ?_ ?_
  · exact col_eq h W r (by simp only [] <;> omega)
  · exact fun hc => col_eq h W r (by simp only [other] at hc ⊢; omega)
  · exact fun hc => col_eq h W r (by simp only [other] at hc ⊢; omega)
  · exact congrArg (fun z : Fin 128 => co (ix2 r z)) (Fin.ext (by simp only [lane]; omega))
  · exact congrArg (fun z : Fin 128 => si (ix2 r z)) (Fin.ext (by simp only [lane]; omega))

/-- The fifth tile of the keys. -/
theorem k4_at (hm : ∀ (r : Fin 256) (c : Fin 128), mk (ix2 r c) = if c.val % 32 < 16 then 1#1 else 0#1) (r : Fin 256) (c : Fin 128) :
    k0_pay29 (F := Ideal) h co si mk (View.ld W r0_13) (ix3 (0 : Fin 1) r c)
      =
      turn (fun e => col h W r (⟨1024 + e.val, by omega⟩ : Fin 3584)) (fun e => co (ix2 r e)) (fun e => si (ix2 r e)) (⟨512 + c.val, by omega⟩ : Fin 1024) := by
  pointwise [k0_pay29, k0_pay27]
  refine turn_of _ _ _ _ ((hm r c).trans (by rw [show (512 + c.val) % 32 = c.val % 32 by omega])) ?_ ?_ ?_ ?_ ?_
  · exact col_eq h W r (by simp only [] <;> omega)
  · exact fun hc => col_eq h W r (by simp only [other] at hc ⊢; omega)
  · exact fun hc => col_eq h W r (by simp only [other] at hc ⊢; omega)
  · exact congrArg (fun z : Fin 128 => co (ix2 r z)) (Fin.ext (by simp only [lane]; omega))
  · exact congrArg (fun z : Fin 128 => si (ix2 r z)) (Fin.ext (by simp only [lane]; omega))

/-- The sixth tile of the keys. -/
theorem k5_at (hm : ∀ (r : Fin 256) (c : Fin 128), mk (ix2 r c) = if c.val % 32 < 16 then 1#1 else 0#1) (r : Fin 256) (c : Fin 128) :
    k0_pay33 (F := Ideal) co si mk (k0_pay27 h (View.ld W r0_13)) (ix3 (0 : Fin 1) r c)
      =
      turn (fun e => col h W r (⟨1024 + e.val, by omega⟩ : Fin 3584)) (fun e => co (ix2 r e)) (fun e => si (ix2 r e)) (⟨640 + c.val, by omega⟩ : Fin 1024) := by
  pointwise [k0_pay33, k0_pay27]
  refine turn_of _ _ _ _ ((hm r c).trans (by rw [show (640 + c.val) % 32 = c.val % 32 by omega])) ?_ ?_ ?_ ?_ ?_
  · exact col_eq h W r (by simp only [] <;> omega)
  · exact fun hc => col_eq h W r (by simp only [other] at hc ⊢; omega)
  · exact fun hc => col_eq h W r (by simp only [other] at hc ⊢; omega)
  · exact congrArg (fun z : Fin 128 => co (ix2 r z)) (Fin.ext (by simp only [lane]; omega))
  · exact congrArg (fun z : Fin 128 => si (ix2 r z)) (Fin.ext (by simp only [lane]; omega))

/-- The seventh tile of the keys. -/
theorem k6_at (hm : ∀ (r : Fin 256) (c : Fin 128), mk (ix2 r c) = if c.val % 32 < 16 then 1#1 else 0#1) (r : Fin 256) (c : Fin 128) :
    k0_pay38 (F := Ideal) co si mk (k0_pay35 h (View.ld W r0_17)) (ix3 (0 : Fin 1) r c)
      =
      turn (fun e => col h W r (⟨1024 + e.val, by omega⟩ : Fin 3584)) (fun e => co (ix2 r e)) (fun e => si (ix2 r e)) (⟨768 + c.val, by omega⟩ : Fin 1024) := by
  pointwise [k0_pay38, k0_pay35]
  refine turn_of _ _ _ _ ((hm r c).trans (by rw [show (768 + c.val) % 32 = c.val % 32 by omega])) ?_ ?_ ?_ ?_ ?_
  · exact col_eq h W r (by simp only [] <;> omega)
  · exact fun hc => col_eq h W r (by simp only [other] at hc ⊢; omega)
  · exact fun hc => col_eq h W r (by simp only [other] at hc ⊢; omega)
  · exact congrArg (fun z : Fin 128 => co (ix2 r z)) (Fin.ext (by simp only [lane]; omega))
  · exact congrArg (fun z : Fin 128 => si (ix2 r z)) (Fin.ext (by simp only [lane]; omega))

/-- The eighth tile of the keys. -/
theorem k7_at (hm : ∀ (r : Fin 256) (c : Fin 128), mk (ix2 r c) = if c.val % 32 < 16 then 1#1 else 0#1) (r : Fin 256) (c : Fin 128) :
    k0_pay40 (F := Ideal) co si mk (k0_pay35 h (View.ld W r0_17)) (ix3 (0 : Fin 1) r c)
      =
      turn (fun e => col h W r (⟨1024 + e.val, by omega⟩ : Fin 3584)) (fun e => co (ix2 r e)) (fun e => si (ix2 r e)) (⟨896 + c.val, by omega⟩ : Fin 1024) := by
  pointwise [k0_pay40, k0_pay35]
  refine turn_of _ _ _ _ ((hm r c).trans (by rw [show (896 + c.val) % 32 = c.val % 32 by omega])) ?_ ?_ ?_ ?_ ?_
  · exact col_eq h W r (by simp only [] <;> omega)
  · exact fun hc => col_eq h W r (by simp only [other] at hc ⊢; omega)
  · exact fun hc => col_eq h W r (by simp only [other] at hc ⊢; omega)
  · exact congrArg (fun z : Fin 128 => co (ix2 r z)) (Fin.ext (by simp only [lane]; omega))
  · exact congrArg (fun z : Fin 128 => si (ix2 r z)) (Fin.ext (by simp only [lane]; omega))

/-- The first tile of the values. -/
theorem v0_at (r c : Fin 256) : k0_pay41 (F := Ideal) h (View.ld W r0_20) (ix3 (0 : Fin 1) r c) = col h W r (⟨2048 + c.val, by omega⟩ : Fin 3584) := by
  pointwise [k0_pay41]
  exact col_eq h W r (by simp only [])

/-- The second tile of the values. -/
theorem v1_at (r c : Fin 256) : k0_pay42 (F := Ideal) h (View.ld W r0_22) (ix3 (0 : Fin 1) r c) = col h W r (⟨2304 + c.val, by omega⟩ : Fin 3584) := by
  pointwise [k0_pay42]
  exact col_eq h W r (by simp only [])

/-- The third tile of the values. -/
theorem v2_at (r c : Fin 256) : k0_pay43 (F := Ideal) h (View.ld W r0_24) (ix3 (0 : Fin 1) r c) = col h W r (⟨2560 + c.val, by omega⟩ : Fin 3584) := by
  pointwise [k0_pay43]
  exact col_eq h W r (by simp only [])

/-- The fourth tile of the values. -/
theorem v3_at (r c : Fin 256) : k0_pay44 (F := Ideal) h (View.ld W r0_26) (ix3 (0 : Fin 1) r c) = col h W r (⟨2816 + c.val, by omega⟩ : Fin 3584) := by
  pointwise [k0_pay44]
  exact col_eq h W r (by simp only [])

/-- The first tile of the Fourier channels. -/
theorem f0_at (r c : Fin 256) : k0_pay1 (F := Ideal) h (k0_pay45 (View.ld W r0_28)) (constant S256x256 .f32 0x00000000#32) (ix3 (0 : Fin 1) r c) = col h W r (⟨3072 + c.val, by omega⟩ : Fin 3584) := by
  pointwise [k0_pay1, k0_pay45]
  exact col_eq h W r (by simp only [])

/-- The second tile of the Fourier channels. -/
theorem f1_at (r c : Fin 256) : k0_pay2 (F := Ideal) h (View.ld W r0_30) (ix3 (0 : Fin 1) r c) = col h W r (⟨3328 + c.val, by omega⟩ : Fin 3584) := by
  pointwise [k0_pay2]
  exact col_eq h W r (by simp only [])

end Cert.Proj

end
-- ==== Proof.ProjTiles.lean ====
/-
  The projections' blocks: each of the four results' stores make up one function of the block's index.
-/
module

public import proofs.«01_k».proof.Proof.ProjTile

@[expose] public section

set_option maxRecDepth 16384
set_option maxHeartbeats 4000000

noncomputable section

namespace Cert.Proj

open Cert.Kernel4Ideal Cert.Kernel4Ideal.Gen
open Idealize.ShloMosaic Idealize.SL.Sem
open Idealize.ShloMosaic.TcCoe Idealize.ShloMosaic.Tactic

/-- A store of columns `o` to `o + w` of a block of `n` columns holds a function of the block's index where its payload does. -/
theorem piece_of {e : EltTy} {n w : ℕ} (G : (⟨3, ![1, 256, n]⟩ : Shape).Idx → Elt Ideal e) (P : (⟨3, ![1, 256, w]⟩ : Shape).Idx → Elt Ideal e)
    (o : ℕ) (ho : o + w ≤ n) (inb) (hP : ∀ (r : Fin 256) (c : Fin w), P (ix3 (0 : Fin 1) r c) = G (ix3 (0 : Fin 1) r (⟨o + c.val, by omega⟩ : Fin n)))
    (x : (⟨3, ![1, 256, w]⟩ : Shape).Idx) :
    P x = G ((Rect.unit (s := ⟨3, ![1, 256, n]⟩) ![0, 0, o] (⟨3, ![1, 256, w]⟩ : Shape).size inb).emb x) := by
  have x0 : (x (0 : Fin 3)).val = 0 := Nat.lt_one_iff.mp (x (0 : Fin 3)).isLt
  obtain ⟨r, hr⟩ : ∃ r : Fin 256, r.val = (x (1 : Fin 3)).val := ⟨x (1 : Fin 3), rfl⟩
  obtain ⟨c, hc⟩ : ∃ c : Fin w, c.val = (x (2 : Fin 3)).val := ⟨x (2 : Fin 3), rfl⟩
  have ex : x = ix3 (0 : Fin 1) r c := by
    funext a
    match a with
    | ⟨0, _⟩ => exact Fin.ext x0
    | ⟨1, _⟩ => exact Fin.ext hr.symm
    | ⟨2, _⟩ => exact Fin.ext hc.symm
  subst ex
  refine (hP r c).trans (congrArg G ?_)
  funext a
  match a with
  | ⟨0, _⟩ => rfl
  | ⟨1, _⟩ => exact Fin.ext (show r.val = 0 + 1 * r.val by omega)
  | ⟨2, _⟩ => exact Fin.ext (show o + c.val = o + 1 * c.val by omega)

section Functions

variable (h : FVec Ideal S256x1024 .bf16) (co si : FVec Ideal S256x128 .f32) (W : (⟨S1024x3584, .bf16⟩ : BufTy).Contents (Elt Ideal))

/-- The queries' block. -/
def Qb (y : S1x256x1024.Idx) : EReal :=
  turn (fun e => col h W (y (1 : Fin 3)) (⟨0 + e.val, by omega⟩ : Fin 3584)) (fun e => co (ix2 (y (1 : Fin 3)) e))
    (fun e => si (ix2 (y (1 : Fin 3)) e)) (y (2 : Fin 3)) * Ideal.ofBits .f32 0x3E38AA3B#32

/-- The keys' block. -/
def Kb (y : S1x256x1024.Idx) : EReal :=
  turn (fun e => col h W (y (1 : Fin 3)) (⟨1024 + e.val, by omega⟩ : Fin 3584)) (fun e => co (ix2 (y (1 : Fin 3)) e))
    (fun e => si (ix2 (y (1 : Fin 3)) e)) (y (2 : Fin 3))

/-- The values' block. -/
def Vb (y : S1x256x1024.Idx) : EReal :=
  col h W (y (1 : Fin 3)) (⟨2048 + (y (2 : Fin 3)).val, by have : (y (2 : Fin 3)).val < 1024 := (y (2 : Fin 3)).isLt; omega⟩ : Fin 3584)

/-- The Fourier channels' block. -/
def Fb (y : S1x256x512.Idx) : EReal :=
  col h W (y (1 : Fin 3)) (⟨3072 + (y (2 : Fin 3)).val, by have : (y (2 : Fin 3)).val < 512 := (y (2 : Fin 3)).isLt; omega⟩ : Fin 3584)

end Functions

variable (x0 : Vec Ideal S1x256x1024 .f32) (x1 : Vec Ideal S1x6x1024 .f32) (x2 : Vec Ideal S1x1024 .f32)
  (x3 : Vec Ideal S1024x3584 .bf16) (x4 : Vec Ideal S256x128 .f32) (x5 : Vec Ideal S256x128 .f32)

/-- The mask at a lane. -/
theorem mask_at (r : Fin 256) (c : Fin 128) : k0_pay51 x0 x1 x2 x3 x4 x5 (ix2 r c) = if c.val % 32 < 16 then 1#1 else 0#1 :=
  first_at r c

/-- What the body leaves in the queries' block. -/
theorem out6_eq (y) : out0_6 (F := Ideal) x0 x1 x2 x3 x4 x5 y = Qb (k0_pay46 x0 x1 x2 x3 x4 x5) (k0_pay47 x0 x1 x2 x3 x4 x5) (k0_pay48 x0 x1 x2 x3 x4 x5) x3 y := by
  unfold out0_6
  refine View.canon_apply_of_pieces (Val := Elt Ideal) (e := .bf16) (Qb (k0_pay46 x0 x1 x2 x3 x4 x5) (k0_pay47 x0 x1 x2 x3 x4 x5) (k0_pay48 x0 x1 x2 x3 x4 x5) x3) _ ?_ y (cover0_6 _ _ _ _ _ _ _ _ y)
  intro p hp
  simp only [List.mem_cons, List.not_mem_nil, or_false] at hp
  rcases hp with rfl | rfl | rfl | rfl | rfl | rfl | rfl | rfl
  · exact piece_of (e := .bf16) (n := 1024) (w := 128) (Qb (k0_pay46 x0 x1 x2 x3 x4 x5) (k0_pay47 x0 x1 x2 x3 x4 x5) (k0_pay48 x0 x1 x2 x3 x4 x5) x3) _ 896 (by omega) inb_S1x256x1024_S1x256x128_0_0_896 (fun r c => q7_at (k0_pay46 x0 x1 x2 x3 x4 x5) (k0_pay47 x0 x1 x2 x3 x4 x5) (k0_pay48 x0 x1 x2 x3 x4 x5) (k0_pay51 x0 x1 x2 x3 x4 x5) x3 (mask_at x0 x1 x2 x3 x4 x5) r c)
  · exact piece_of (e := .bf16) (n := 1024) (w := 128) (Qb (k0_pay46 x0 x1 x2 x3 x4 x5) (k0_pay47 x0 x1 x2 x3 x4 x5) (k0_pay48 x0 x1 x2 x3 x4 x5) x3) _ 768 (by omega) inb_S1x256x1024_S1x256x128_0_0_768 (fun r c => q6_at (k0_pay46 x0 x1 x2 x3 x4 x5) (k0_pay47 x0 x1 x2 x3 x4 x5) (k0_pay48 x0 x1 x2 x3 x4 x5) (k0_pay51 x0 x1 x2 x3 x4 x5) x3 (mask_at x0 x1 x2 x3 x4 x5) r c)
  · exact piece_of (e := .bf16) (n := 1024) (w := 128) (Qb (k0_pay46 x0 x1 x2 x3 x4 x5) (k0_pay47 x0 x1 x2 x3 x4 x5) (k0_pay48 x0 x1 x2 x3 x4 x5) x3) _ 640 (by omega) inb_S1x256x1024_S1x256x128_0_0_640 (fun r c => q5_at (k0_pay46 x0 x1 x2 x3 x4 x5) (k0_pay47 x0 x1 x2 x3 x4 x5) (k0_pay48 x0 x1 x2 x3 x4 x5) (k0_pay51 x0 x1 x2 x3 x4 x5) x3 (mask_at x0 x1 x2 x3 x4 x5) r c)
  · exact piece_of (e := .bf16) (n := 1024) (w := 128) (Qb (k0_pay46 x0 x1 x2 x3 x4 x5) (k0_pay47 x0 x1 x2 x3 x4 x5) (k0_pay48 x0 x1 x2 x3 x4 x5) x3) _ 512 (by omega) inb_S1x256x1024_S1x256x128_0_0_512 (fun r c => q4_at (k0_pay46 x0 x1 x2 x3 x4 x5) (k0_pay47 x0 x1 x2 x3 x4 x5) (k0_pay48 x0 x1 x2 x3 x4 x5) (k0_pay51 x0 x1 x2 x3 x4 x5) x3 (mask_at x0 x1 x2 x3 x4 x5) r c)
  · exact piece_of (e := .bf16) (n := 1024) (w := 128) (Qb (k0_pay46 x0 x1 x2 x3 x4 x5) (k0_pay47 x0 x1 x2 x3 x4 x5) (k0_pay48 x0 x1 x2 x3 x4 x5) x3) _ 384 (by omega) inb_S1x256x1024_S1x256x128_0_0_384 (fun r c => q3_at (k0_pay46 x0 x1 x2 x3 x4 x5) (k0_pay47 x0 x1 x2 x3 x4 x5) (k0_pay48 x0 x1 x2 x3 x4 x5) (k0_pay51 x0 x1 x2 x3 x4 x5) x3 (mask_at x0 x1 x2 x3 x4 x5) r c)
  · exact piece_of (e := .bf16) (n := 1024) (w := 128) (Qb (k0_pay46 x0 x1 x2 x3 x4 x5) (k0_pay47 x0 x1 x2 x3 x4 x5) (k0_pay48 x0 x1 x2 x3 x4 x5) x3) _ 256 (by omega) inb_S1x256x1024_S1x256x128_0_0_256 (fun r c => q2_at (k0_pay46 x0 x1 x2 x3 x4 x5) (k0_pay47 x0 x1 x2 x3 x4 x5) (k0_pay48 x0 x1 x2 x3 x4 x5) (k0_pay51 x0 x1 x2 x3 x4 x5) x3 (mask_at x0 x1 x2 x3 x4 x5) r c)
  · exact piece_of (e := .bf16) (n := 1024) (w := 128) (Qb (k0_pay46 x0 x1 x2 x3 x4 x5) (k0_pay47 x0 x1 x2 x3 x4 x5) (k0_pay48 x0 x1 x2 x3 x4 x5) x3) _ 128 (by omega) inb_S1x256x1024_S1x256x128_0_0_128 (fun r c => q1_at (k0_pay46 x0 x1 x2 x3 x4 x5) (k0_pay47 x0 x1 x2 x3 x4 x5) (k0_pay48 x0 x1 x2 x3 x4 x5) (k0_pay51 x0 x1 x2 x3 x4 x5) x3 (mask_at x0 x1 x2 x3 x4 x5) r c)
  · exact piece_of (e := .bf16) (n := 1024) (w := 128) (Qb (k0_pay46 x0 x1 x2 x3 x4 x5) (k0_pay47 x0 x1 x2 x3 x4 x5) (k0_pay48 x0 x1 x2 x3 x4 x5) x3) _ 0 (by omega) inb_S1x256x1024_S1x256x128_0_0_0 (fun r c => q0_at (k0_pay46 x0 x1 x2 x3 x4 x5) (k0_pay47 x0 x1 x2 x3 x4 x5) (k0_pay48 x0 x1 x2 x3 x4 x5) x3 r c)

/-- What the body leaves in the keys' block. -/
theorem out7_eq (y) : out0_7 (F := Ideal) x0 x1 x2 x3 x4 x5 y = Kb (k0_pay46 x0 x1 x2 x3 x4 x5) (k0_pay47 x0 x1 x2 x3 x4 x5) (k0_pay48 x0 x1 x2 x3 x4 x5) x3 y := by
  unfold out0_7
  refine View.canon_apply_of_pieces (Val := Elt Ideal) (e := .bf16) (Kb (k0_pay46 x0 x1 x2 x3 x4 x5) (k0_pay47 x0 x1 x2 x3 x4 x5) (k0_pay48 x0 x1 x2 x3 x4 x5) x3) _ ?_ y (cover0_7 _ _ _ _ _ _ _ _ y)
  intro p hp
  simp only [List.mem_cons, List.not_mem_nil, or_false] at hp
  rcases hp with rfl | rfl | rfl | rfl | rfl | rfl | rfl | rfl
  · exact piece_of (e := .bf16) (n := 1024) (w := 128) (Kb (k0_pay46 x0 x1 x2 x3 x4 x5) (k0_pay47 x0 x1 x2 x3 x4 x5) (k0_pay48 x0 x1 x2 x3 x4 x5) x3) _ 896 (by omega) inb_S1x256x1024_S1x256x128_0_0_896 (fun r c => k7_at (k0_pay46 x0 x1 x2 x3 x4 x5) (k0_pay47 x0 x1 x2 x3 x4 x5) (k0_pay48 x0 x1 x2 x3 x4 x5) (k0_pay51 x0 x1 x2 x3 x4 x5) x3 (mask_at x0 x1 x2 x3 x4 x5) r c)
  · exact piece_of (e := .bf16) (n := 1024) (w := 128) (Kb (k0_pay46 x0 x1 x2 x3 x4 x5) (k0_pay47 x0 x1 x2 x3 x4 x5) (k0_pay48 x0 x1 x2 x3 x4 x5) x3) _ 768 (by omega) inb_S1x256x1024_S1x256x128_0_0_768 (fun r c => k6_at (k0_pay46 x0 x1 x2 x3 x4 x5) (k0_pay47 x0 x1 x2 x3 x4 x5) (k0_pay48 x0 x1 x2 x3 x4 x5) (k0_pay51 x0 x1 x2 x3 x4 x5) x3 (mask_at x0 x1 x2 x3 x4 x5) r c)
  · exact piece_of (e := .bf16) (n := 1024) (w := 128) (Kb (k0_pay46 x0 x1 x2 x3 x4 x5) (k0_pay47 x0 x1 x2 x3 x4 x5) (k0_pay48 x0 x1 x2 x3 x4 x5) x3) _ 640 (by omega) inb_S1x256x1024_S1x256x128_0_0_640 (fun r c => k5_at (k0_pay46 x0 x1 x2 x3 x4 x5) (k0_pay47 x0 x1 x2 x3 x4 x5) (k0_pay48 x0 x1 x2 x3 x4 x5) (k0_pay51 x0 x1 x2 x3 x4 x5) x3 (mask_at x0 x1 x2 x3 x4 x5) r c)
  · exact piece_of (e := .bf16) (n := 1024) (w := 128) (Kb (k0_pay46 x0 x1 x2 x3 x4 x5) (k0_pay47 x0 x1 x2 x3 x4 x5) (k0_pay48 x0 x1 x2 x3 x4 x5) x3) _ 512 (by omega) inb_S1x256x1024_S1x256x128_0_0_512 (fun r c => k4_at (k0_pay46 x0 x1 x2 x3 x4 x5) (k0_pay47 x0 x1 x2 x3 x4 x5) (k0_pay48 x0 x1 x2 x3 x4 x5) (k0_pay51 x0 x1 x2 x3 x4 x5) x3 (mask_at x0 x1 x2 x3 x4 x5) r c)
  · exact piece_of (e := .bf16) (n := 1024) (w := 128) (Kb (k0_pay46 x0 x1 x2 x3 x4 x5) (k0_pay47 x0 x1 x2 x3 x4 x5) (k0_pay48 x0 x1 x2 x3 x4 x5) x3) _ 384 (by omega) inb_S1x256x1024_S1x256x128_0_0_384 (fun r c => k3_at (k0_pay46 x0 x1 x2 x3 x4 x5) (k0_pay47 x0 x1 x2 x3 x4 x5) (k0_pay48 x0 x1 x2 x3 x4 x5) (k0_pay51 x0 x1 x2 x3 x4 x5) x3 (mask_at x0 x1 x2 x3 x4 x5) r c)
  · exact piece_of (e := .bf16) (n := 1024) (w := 128) (Kb (k0_pay46 x0 x1 x2 x3 x4 x5) (k0_pay47 x0 x1 x2 x3 x4 x5) (k0_pay48 x0 x1 x2 x3 x4 x5) x3) _ 256 (by omega) inb_S1x256x1024_S1x256x128_0_0_256 (fun r c => k2_at (k0_pay46 x0 x1 x2 x3 x4 x5) (k0_pay47 x0 x1 x2 x3 x4 x5) (k0_pay48 x0 x1 x2 x3 x4 x5) (k0_pay51 x0 x1 x2 x3 x4 x5) x3 (mask_at x0 x1 x2 x3 x4 x5) r c)
  · exact piece_of (e := .bf16) (n := 1024) (w := 128) (Kb (k0_pay46 x0 x1 x2 x3 x4 x5) (k0_pay47 x0 x1 x2 x3 x4 x5) (k0_pay48 x0 x1 x2 x3 x4 x5) x3) _ 128 (by omega) inb_S1x256x1024_S1x256x128_0_0_128 (fun r c => k1_at (k0_pay46 x0 x1 x2 x3 x4 x5) (k0_pay47 x0 x1 x2 x3 x4 x5) (k0_pay48 x0 x1 x2 x3 x4 x5) (k0_pay51 x0 x1 x2 x3 x4 x5) x3 (mask_at x0 x1 x2 x3 x4 x5) r c)
  · exact piece_of (e := .bf16) (n := 1024) (w := 128) (Kb (k0_pay46 x0 x1 x2 x3 x4 x5) (k0_pay47 x0 x1 x2 x3 x4 x5) (k0_pay48 x0 x1 x2 x3 x4 x5) x3) _ 0 (by omega) inb_S1x256x1024_S1x256x128_0_0_0 (fun r c => k0_at (k0_pay46 x0 x1 x2 x3 x4 x5) (k0_pay47 x0 x1 x2 x3 x4 x5) (k0_pay48 x0 x1 x2 x3 x4 x5) x3 r c)

/-- What the body leaves in the values' block. -/
theorem out8_eq (y) : out0_8 (F := Ideal) x0 x1 x2 x3 x4 x5 y = Vb (k0_pay46 x0 x1 x2 x3 x4 x5) x3 y := by
  unfold out0_8
  refine View.canon_apply_of_pieces (Val := Elt Ideal) (e := .bf16) (Vb (k0_pay46 x0 x1 x2 x3 x4 x5) x3) _ ?_ y (cover0_8 _ _ _ _ y)
  intro p hp
  simp only [List.mem_cons, List.not_mem_nil, or_false] at hp
  rcases hp with rfl | rfl | rfl | rfl
  · exact piece_of (e := .bf16) (n := 1024) (w := 256) (Vb (k0_pay46 x0 x1 x2 x3 x4 x5) x3) _ 768 (by omega) inb_S1x256x1024_S1x256x256_0_0_768 (fun r c => (v3_at (k0_pay46 x0 x1 x2 x3 x4 x5) x3 r c).trans (congrArg (col (k0_pay46 x0 x1 x2 x3 x4 x5) x3 r) (Fin.ext (show 2816 + c.val = 2048 + (768 + c.val) by omega))))
  · exact piece_of (e := .bf16) (n := 1024) (w := 256) (Vb (k0_pay46 x0 x1 x2 x3 x4 x5) x3) _ 512 (by omega) inb_S1x256x1024_S1x256x256_0_0_512 (fun r c => (v2_at (k0_pay46 x0 x1 x2 x3 x4 x5) x3 r c).trans (congrArg (col (k0_pay46 x0 x1 x2 x3 x4 x5) x3 r) (Fin.ext (show 2560 + c.val = 2048 + (512 + c.val) by omega))))
  · exact piece_of (e := .bf16) (n := 1024) (w := 256) (Vb (k0_pay46 x0 x1 x2 x3 x4 x5) x3) _ 256 (by omega) inb_S1x256x1024_S1x256x256_0_0_256 (fun r c => (v1_at (k0_pay46 x0 x1 x2 x3 x4 x5) x3 r c).trans (congrArg (col (k0_pay46 x0 x1 x2 x3 x4 x5) x3 r) (Fin.ext (show 2304 + c.val = 2048 + (256 + c.val) by omega))))
  · exact piece_of (e := .bf16) (n := 1024) (w := 256) (Vb (k0_pay46 x0 x1 x2 x3 x4 x5) x3) _ 0 (by omega) inb_S1x256x1024_S1x256x256_0_0_0 (fun r c => (v0_at (k0_pay46 x0 x1 x2 x3 x4 x5) x3 r c).trans (congrArg (col (k0_pay46 x0 x1 x2 x3 x4 x5) x3 r) (Fin.ext (show 2048 + c.val = 2048 + (0 + c.val) by omega))))

/-- What the body leaves in the Fourier channels' block. -/
theorem out9_eq (y) : out0_9 (F := Ideal) x0 x1 x2 x3 x4 x5 y = Fb (k0_pay46 x0 x1 x2 x3 x4 x5) x3 y := by
  unfold out0_9
  refine View.canon_apply_of_pieces (Val := Elt Ideal) (e := .f32) (Fb (k0_pay46 x0 x1 x2 x3 x4 x5) x3) _ ?_ y (cover0_9 _ _ y)
  intro p hp
  simp only [List.mem_cons, List.not_mem_nil, or_false] at hp
  rcases hp with rfl | rfl
  · exact piece_of (e := .f32) (n := 512) (w := 256) (Fb (k0_pay46 x0 x1 x2 x3 x4 x5) x3) _ 256 (by omega) inb_S1x256x512_S1x256x256_0_0_256 (fun r c => (f1_at (k0_pay46 x0 x1 x2 x3 x4 x5) x3 r c).trans (congrArg (col (k0_pay46 x0 x1 x2 x3 x4 x5) x3 r) (Fin.ext (show 3328 + c.val = 3072 + (256 + c.val) by omega))))
  · exact piece_of (e := .f32) (n := 512) (w := 256) (Fb (k0_pay46 x0 x1 x2 x3 x4 x5) x3) _ 0 (by omega) inb_S1x256x512_S1x256x256_0_0_0 (fun r c => (f0_at (k0_pay46 x0 x1 x2 x3 x4 x5) x3 r c).trans (congrArg (col (k0_pay46 x0 x1 x2 x3 x4 x5) x3 r) (Fin.ext (show 3072 + c.val = 3072 + (0 + c.val) by omega))))

/-- The body's rows, from its blocks. -/
theorem rows_at (r : Fin 256) (d : Fin 1024) :
    k0_pay46 x0 x1 x2 x3 x4 x5 (ix2 r d)
      = hrow (fun k => x0 (ix3 (0 : Fin 1) r k)) (fun k => x1 (ix3 (0 : Fin 1) (0 : Fin 6) k)) (fun k => x1 (ix3 (0 : Fin 1) (1 : Fin 6) k))
          (fun k => x2 (ix2 (0 : Fin 1) k)) d := by
  have z3 : (![0, 0, 0] : Fin 3 → ℕ) = fun _ => 0 := by decide
  have z2 : (![0, 0] : Fin 2 → ℕ) = fun _ => 0 := by decide
  unfold k0_pay46
  rw [View.ld_unit_zero z3, View.ld_unit_zero z3, View.ld_unit_zero z2]
  exact hb_at x0 x1 x2 r d

/-- The cosines' block as loaded. -/
theorem cos_at (r : Fin 256) (e : Fin 128) : k0_pay47 x0 x1 x2 x3 x4 x5 (ix2 r e) = x4 (ix2 r e) := by
  pointwise [k0_pay47, k0_pay4]

/-- The sines' block as loaded. -/
theorem sin_at (r : Fin 256) (e : Fin 128) : k0_pay48 x0 x1 x2 x3 x4 x5 (ix2 r e) = x5 (ix2 r e) := by
  pointwise [k0_pay48, k0_pay5]

end Cert.Proj

end
-- ==== Proof.ProjHost.lean ====
/-
  The projections' arrays before the launch, and the blocks a point reads of them.
-/
module

public import proofs.«01_k».proof.Proof.ProjTiles
public import Idealize.ShloMosaic.Lib.StableHlo.ReadAt

@[expose] public section

set_option maxRecDepth 65536
set_option maxHeartbeats 4000000

noncomputable section

namespace Cert.Proj

open Cert.Kernel4Ideal Cert.Kernel4Ideal.Gen
open Idealize.ShloMosaic Idealize.SL.Sem
open Idealize.ShloMosaic.TcCoe Idealize.ShloMosaic.Tactic

/-- Which lanes turn by the row. -/
theorem lane_axis : ∀ e : Fin 128, IntOp.cmpi CmpIPredicate.slt (IntOp.remsi ArithUnit.host (BitVec.ofNat 32 e.val) 64#32) 32#32
    = if e.val % 64 < 32 then 1#1 else 0#1 := by decide +kernel

/-- A lane's frequency. -/
theorem lane_freq : ∀ e : Fin 128, IntOp.remsi ArithUnit.host (BitVec.ofNat 32 e.val) 16#32 = BitVec.ofNat 32 (e.val % 16) := by
  decide +kernel

/-- Which lanes lead their pair. -/
theorem lane_half : ∀ e : Fin 128, IntOp.cmpi CmpIPredicate.slt (IntOp.remsi ArithUnit.host (BitVec.ofNat 32 e.val) 32#32) 16#32
    = if e.val % 32 < 16 then 1#1 else 0#1 := by decide +kernel

/-- A row's row of the picture. -/
theorem row_div : ∀ r : Fin 16384, IntOp.divsi ArithUnit.host (BitVec.ofNat 32 r.val) 64#32 = BitVec.ofNat 32 (r.val / 64) := by
  decide +kernel

/-- A row's column of the picture. -/
theorem row_rem : ∀ r : Fin 16384, IntOp.remsi ArithUnit.host (BitVec.ofNat 32 r.val) 64#32 = BitVec.ofNat 32 (r.val % 64) := by
  decide +kernel

/-- The word of minus one. -/
theorem word_minus_one : Ideal.ofBits .f32 0xBF800000#32 = (-1 : EReal) := by
  simp [Ideal.ofBits, Ideal.ieee]
  rw [← EReal.coe_mul]
  norm_num

/-- The table's angle is the reference's. -/
theorem angle_words (r : Fin 16384) (e : Fin 128) :
    FloatOps.sitofp (F := Ideal) FTy.f32
        (Scalar.select (IntOp.cmpi CmpIPredicate.slt (IntOp.remsi ArithUnit.host (BitVec.ofNat 32 e.val) 64#32) 32#32)
          (IntOp.divsi ArithUnit.host (BitVec.ofNat 32 r.val) 64#32) (IntOp.remsi ArithUnit.host (BitVec.ofNat 32 r.val) 64#32))
      * Ideal.pow (Ideal.ofBits .f32 0x461C4000#32)
          (Ideal.div (-FloatOps.sitofp (F := Ideal) FTy.f32 (IntOp.remsi ArithUnit.host (BitVec.ofNat 32 e.val) 16#32))
            (Ideal.ofBits .f32 0x41800000#32)) = angle r e := by
  rw [lane_axis, row_div, row_rem, lane_freq, angle]
  by_cases h : e.val % 64 < 32
  · rw [if_pos h, if_pos h]; rfl
  · rw [if_neg h, if_neg h]; rfl

variable (m : (ℓ : Loc nD τ sig) → Buf (Elt Ideal) ℓ) (c : Dev nD)

/-- The rows' array, in its latent rows. -/
theorem x_lat (b : Fin 2) (r : Fin 16384) (k : Fin 1024) :
    V m c main_v34 (ix3 b (⟨r.val, by omega⟩ : Fin 16640) k) = m ((c : Thread nD τ).loc main_arg0) (ix3 b r k) := by
  unfold V
  after_reads_at

/-- The rows' array, in its context rows. -/
theorem x_ctx (b : Fin 2) (r : Fin 256) (k : Fin 1024) :
    V m c main_v34 (ix3 b (⟨16384 + r.val, by omega⟩ : Fin 16640) k) = m ((c : Thread nD τ).loc main_arg1) (ix3 b r k) := by
  unfold V
  after_reads_at

/-- The modulation's array. -/
theorem mod_at (b : Fin 8) (s : Fin 6) (k : Fin 1024) :
    V m c main_v35 (ix3 b s k) = m ((c : Thread nD τ).loc main_arg2) (ix2 b (⟨s.val * 1024 + k.val, by omega⟩ : Fin 6144)) := by
  unfold V
  after_reads_at

/-- The norm's weights. -/
theorem g_at (k : Fin 1024) : V m c main_v36 (ix2 (0 : Fin 1) k) = m ((c : Thread nD τ).loc main_arg3) (ix1 k) := by
  unfold V
  after_reads_at

/-- The projection's weights. -/
theorem w_at (k : Fin 1024) (e : Fin 3584) : V m c main_v37 (ix2 k e) = m ((c : Thread nD τ).loc main_arg4) (ix2 k e) := by
  unfold V
  after_reads_at

/-- The table of cosines, in its latent rows. -/
theorem cos_lat (r : Fin 16384) (e : Fin 128) :
    V m c main_v28 (ix2 (⟨r.val, by omega⟩ : Fin 16640) e) = (Ideal.cos (angle r e) : EReal) := by
  rw [← angle_words]
  unfold V
  after_reads_at

/-- The table of cosines, in its context rows. -/
theorem cos_ctx (r : Fin 256) (e : Fin 128) : V m c main_v28 (ix2 (⟨16384 + r.val, by omega⟩ : Fin 16640) e) = (1 : EReal) := by
  unfold V
  after_reads_at

/-- The table of sines, in its latent rows. -/
theorem sin_lat (r : Fin 16384) (e : Fin 128) :
    V m c main_v33 (ix2 (⟨r.val, by omega⟩ : Fin 16640) e) = (Ideal.sin (angle r e) * sign e : EReal) := by
  have hs : sign e = Scalar.select (IntOp.cmpi CmpIPredicate.slt (IntOp.remsi ArithUnit.host (BitVec.ofNat 32 e.val) 32#32) 16#32)
      (Ideal.ofBits .f32 0xBF800000#32) (Ideal.ofBits .f32 0x3F800000#32) := by
    rw [lane_half, word_minus_one, Ideal.ofBits_one_f32, sign]
    by_cases h : e.val % 32 < 16
    · rw [if_pos h, if_pos h]; rfl
    · rw [if_neg h, if_neg h]; rfl
  rw [← angle_words, hs]
  unfold V
  after_reads_at
  refine congrArg₂ (fun y z : EReal => y * z) rfl ?_
  rw [← Ideal.ofBits_one_f32]
  rfl

/-- The table of sines, in its context rows. -/
theorem sin_ctx (r : Fin 256) (e : Fin 128) : V m c main_v33 (ix2 (⟨16384 + r.val, by omega⟩ : Fin 16640) e) = (0 : EReal) := by
  unfold V
  after_reads_at

/-- The block indices of the windows at a point: its batch and row block. -/
theorem index0 : ∀ t : Fin cfg0.N, (cfg0.win 0).index t = ![t.val / 65, t.val % 65, 0] := by decide +kernel
/-- The modulation of the batch, or of the context. -/
theorem index1 : ∀ t : Fin cfg0.N, (cfg0.win 1).index t = ![if t.val % 65 = 64 then 2 else t.val / 65, 0, 0] := by decide +kernel
/-- The norm's weights, whole. -/
theorem index2 : ∀ t : Fin cfg0.N, (cfg0.win 2).index t = ![0, 0] := by decide +kernel
/-- The projection's weights, whole. -/
theorem index3 : ∀ t : Fin cfg0.N, (cfg0.win 3).index t = ![0, 0] := by decide +kernel
/-- The cosines' rows. -/
theorem index4 : ∀ t : Fin cfg0.N, (cfg0.win 4).index t = ![t.val % 65, 0] := by decide +kernel
/-- The sines' rows. -/
theorem index5 : ∀ t : Fin cfg0.N, (cfg0.win 5).index t = ![t.val % 65, 0] := by decide +kernel
/-- The queries' rows. -/
theorem index6 : ∀ t : Fin cfg0.N, (cfg0.win 6).index t = ![t.val / 65, t.val % 65, 0] := by decide +kernel
/-- The keys' rows. -/
theorem index7 : ∀ t : Fin cfg0.N, (cfg0.win 7).index t = ![t.val / 65, t.val % 65, 0] := by decide +kernel
/-- The values' rows. -/
theorem index8 : ∀ t : Fin cfg0.N, (cfg0.win 8).index t = ![t.val / 65, t.val % 65, 0] := by decide +kernel
/-- The Fourier channels' rows. -/
theorem index9 : ∀ t : Fin cfg0.N, (cfg0.win 9).index t = ![t.val / 65, t.val % 65, 0] := by decide +kernel

/-- A point is one of the two batches' sixty-five. -/
theorem lt_points (t : Fin cfg0.N) : t.val < 130 := by have h : t.val < grid0.N := t.isLt; have e := N_0; omega

/-- The point's batch. -/
def pb (t : Fin cfg0.N) : Fin 2 := ⟨t.val / 65, by have := lt_points t; omega⟩

/-- The array's row a row of the point's block is. -/
def pr (t : Fin cfg0.N) (r : Fin 256) : Fin 16640 := ⟨t.val % 65 * 256 + r.val, by omega⟩

/-- The modulation's row of a point. -/
def pm (t : Fin cfg0.N) : Fin 8 := ⟨if t.val % 65 = 64 then 2 else t.val / 65, by have := lt_points t; split <;> omega⟩

/-- The block of rows. -/
theorem iblk0_at (t : Fin cfg0.N) (r : Fin 256) (k : Fin 1024) :
    iblk m c 0 t (ix3 (0 : Fin 1) r k) = V m c main_v34 (ix3 (pb t) (pr t r) k) := by
  blk_ext [iblk, index0 t]
  all_goals rfl

/-- The block of modulation. -/
theorem iblk1_at (t : Fin cfg0.N) (s : Fin 6) (k : Fin 1024) :
    iblk m c 1 t (ix3 (0 : Fin 1) s k) = V m c main_v35 (ix3 (pm t) s k) := by
  blk_ext [iblk, index1 t]
  all_goals rfl

/-- The block of the norm's weights. -/
theorem iblk2_at (t : Fin cfg0.N) (k : Fin 1024) :
    iblk m c 2 t (ix2 (0 : Fin 1) k) = V m c main_v36 (ix2 (0 : Fin 1) k) := by
  blk_ext [iblk, index2 t]

/-- The block of the projection's weights. -/
theorem iblk3_at (t : Fin cfg0.N) (k : Fin 1024) (e : Fin 3584) :
    iblk m c 3 t (ix2 k e) = V m c main_v37 (ix2 k e) := by
  blk_ext [iblk, index3 t]

/-- The block of cosines. -/
theorem iblk4_at (t : Fin cfg0.N) (r : Fin 256) (e : Fin 128) :
    iblk m c 4 t (ix2 r e) = V m c main_v28 (ix2 (pr t r) e) := by
  blk_ext [iblk, index4 t]
  all_goals rfl

/-- The block of sines. -/
theorem iblk5_at (t : Fin cfg0.N) (r : Fin 256) (e : Fin 128) :
    iblk m c 5 t (ix2 r e) = V m c main_v33 (ix2 (pr t r) e) := by
  blk_ext [iblk, index5 t]
  all_goals rfl

end Cert.Proj

end
-- ==== Proof.ProjRef.lean ====
/-
  The projections' reference: its four results at a latent row and at a context row.
-/
module

public import proofs.«01_k».proof.Defs
public import proofs.«01_k».proof.Proof.Gen.Reference4Ideal.Run
public import proofs.«01_k».proof.Proof.Gen.Reference4Ideal.Read
public import proofs.«01_k».proof.Proof.ProjTile
public import Idealize.ShloMosaic.Lib.Pipeline.ValueKit

@[expose] public section

set_option maxRecDepth 16384
set_option maxHeartbeats 4000000

noncomputable section

namespace Cert.Proj

open Cert.Reference4Ideal Cert.Reference4Ideal.Read
open Idealize.ShloMosaic Idealize.SL.Sem
open Idealize.ShloMosaic.TcCoe Idealize.ShloMosaic.Tactic

variable (x0 : (⟨S2x16384x1024, .f32⟩ : BufTy).Contents (Elt Ideal)) (x1 : (⟨S2x256x1024, .f32⟩ : BufTy).Contents (Elt Ideal))
  (x2 : (⟨S8x6144, .f32⟩ : BufTy).Contents (Elt Ideal)) (x3 : (⟨S1024, .f32⟩ : BufTy).Contents (Elt Ideal))
  (x4 : (⟨S1024x3584, .f32⟩ : BufTy).Contents (Elt Ideal))

/-- A latent row, normed and modulated by its batch. -/
def latRow (b : Fin 2) (r : Fin 16384) : Fin 1024 → EReal :=
  hrow (fun k => x0 (ix3 b r k)) (fun k => x2 (ix2 (⟨b.val, by omega⟩ : Fin 8) (⟨k.val, by omega⟩ : Fin 6144)))
    (fun k => x2 (ix2 (⟨b.val, by omega⟩ : Fin 8) (⟨1024 + k.val, by omega⟩ : Fin 6144))) (fun k => x3 (ix1 k))

/-- A context row, normed and modulated by the third row of the modulation. -/
def ctxRow (b : Fin 2) (r : Fin 256) : Fin 1024 → EReal :=
  hrow (fun k => x1 (ix3 b r k)) (fun k => x2 (ix2 (2 : Fin 8) (⟨k.val, by omega⟩ : Fin 6144)))
    (fun k => x2 (ix2 (2 : Fin 8) (⟨1024 + k.val, by omega⟩ : Fin 6144))) (fun k => x3 (ix1 k))

/-- The reference's latent rows. -/
theorem lat_at (b : Fin 2) (r : Fin 16384) (j : Fin 1024) : val_main_v28 (F := Ideal) x0 x2 x3 (ix3 b r j) = latRow x0 x2 x3 b r j := by
  unfold latRow hrow
  pointwise [val_main_v28, val_main_v27, val_main_v26, val_main_v25, val_main_v24, val_main_v23, val_main_v22, val_main_v21,
    val_main_v20, val_main_v19, val_main_v18, val_main_v17, val_main_v16, val_main_v15, val_main_v14, val_main_v13, val_main_v12,
    val_main_v11, val_main_v10, val_main_v9, val_main_v8, val_main_v7, val_main_v6, val_main_v1, val_main_v0, val_main_cst,
    val_main_cst_0, val_main_cst_1, val_main_cst_2]

/-- The reference's context rows. -/
theorem ctx_at (b : Fin 2) (r : Fin 256) (j : Fin 1024) : val_main_v53 (F := Ideal) x1 x2 x3 (ix3 b r j) = ctxRow x1 x2 x3 b r j := by
  unfold ctxRow hrow
  pointwise [val_main_v53, val_main_v52, val_main_v51, val_main_v50, val_main_v49, val_main_v48, val_main_v47, val_main_v46,
    val_main_v45, val_main_v44, val_main_v43, val_main_v42, val_main_v41, val_main_v40, val_main_v39, val_main_v38, val_main_v37,
    val_main_v36, val_main_v35, val_main_v34, val_main_v33, val_main_v32, val_main_v31, val_main_v30, val_main_v29, val_main_v1,
    val_main_v0, val_main_cst_3, val_main_cst_4, val_main_cst_5, val_main_cst_6]

/-- The reference's projection of a latent row. -/
theorem ulat_at (b : Fin 2) (r : Fin 16384) (e : Fin 3584) :
    val_main_v54 (F := Ideal) x0 x2 x3 x4 (ix3 b r e) = fe (latRow x0 x2 x3 b r) x4 e := by
  rw [fe, ← funext (lat_at x0 x2 x3 b r)]
  pointwise [val_main_v54]

/-- The reference's projection of a context row. -/
theorem uctx_at (b : Fin 2) (r : Fin 256) (e : Fin 3584) :
    val_main_v55 (F := Ideal) x1 x2 x3 x4 (ix3 b r e) = fe (ctxRow x1 x2 x3 b r) x4 e := by
  rw [fe, ← funext (ctx_at x1 x2 x3 b r)]
  pointwise [val_main_v55]

/-- The reference's angles: sixteen of the row's number, sixteen of the column's. -/
theorem angle_at (r : Fin 16384) (e : Fin 32) (l : Fin 128) (h : e.val = l.val / 32 % 2 * 16 + l.val % 16) :
    val_main_v82 (F := Ideal) (ix2 r e) = angle r l := by
  pointwise [val_main_v82, val_main_v81, val_main_v80, val_main_v79, val_main_v78, val_main_v77, val_main_v76, val_main_v75,
    val_main_v74, val_main_v73, val_main_v72, val_main_v71, val_main_v70, val_main_v69, val_main_v68, val_main_v67, val_main_v66,
    val_main_v65, val_main_v64, val_main_v63, val_main_v62, val_main_v61, val_main_v60, val_main_v59, val_main_v58, val_main_v57,
    val_main_v56, val_main_cst_7, val_main_cst_8]
  unfold angle
  by_cases he : e.val < 16
  · rw [dif_pos he, if_pos (show l.val % 64 < 32 by omega), show e.val = l.val % 16 by omega]
  · rw [dif_neg he, if_neg (show ¬ l.val % 64 < 32 by omega), show e.val - 16 = l.val % 16 by omega]

/-- The reference's rotated queries. -/
theorem qrot_at (b : Fin 2) (r : Fin 16384) (c : Fin 1024) : val_main_v104 (F := Ideal) x0 x2 x3 x4 (ix3 b r c)
    = turned (fun e => fe (latRow x0 x2 x3 b r) x4 (⟨0 + e.val, by omega⟩ : Fin 3584)) (angle r) c := by
  rw [← (funext fun e : Fin 1024 => ulat_at x0 x2 x3 x4 b r (⟨0 + e.val, by omega⟩ : Fin 3584))]
  pointwise [val_main_v104, val_main_v103, val_main_v102, val_main_v101, val_main_v100, val_main_v99, val_main_v98, val_main_v97,
    val_main_v96, val_main_v95, val_main_v94, val_main_v93, val_main_v92, val_main_v91, val_main_v90, val_main_v89, val_main_v88,
    val_main_v87, val_main_v86, val_main_v85, val_main_v84, val_main_v83]
  by_cases h : c.val % 32 < 16
  · rw [dif_pos h]
    refine turned_first _ _ _ h ?_ ?_ ?_ ?_
    · exact congrArg (fun z : Fin 3584 => val_main_v54 x0 x2 x3 x4 (ix3 b r z)) (Fin.ext (by simp only [] <;> omega))
    · exact angle_at _ _ _ (by simp only [lane] <;> omega)
    · exact congrArg (fun z : Fin 3584 => val_main_v54 x0 x2 x3 x4 (ix3 b r z)) (Fin.ext (by simp only [other] <;> omega))
    · exact angle_at _ _ _ (by simp only [lane] <;> omega)
  · rw [dif_neg h]
    refine turned_second _ _ _ h ?_ ?_ ?_ ?_
    · exact congrArg (fun z : Fin 3584 => val_main_v54 x0 x2 x3 x4 (ix3 b r z)) (Fin.ext (by simp only [] <;> omega))
    · exact angle_at _ _ _ (by simp only [lane] <;> omega)
    · exact congrArg (fun z : Fin 3584 => val_main_v54 x0 x2 x3 x4 (ix3 b r z)) (Fin.ext (by simp only [other] <;> omega))
    · exact angle_at _ _ _ (by simp only [lane] <;> omega)

/-- The reference's rotated keys. -/
theorem krot_at (b : Fin 2) (r : Fin 16384) (c : Fin 1024) : val_main_v130 (F := Ideal) x0 x2 x3 x4 (ix3 b r c)
    = turned (fun e => fe (latRow x0 x2 x3 b r) x4 (⟨1024 + e.val, by omega⟩ : Fin 3584)) (angle r) c := by
  rw [← (funext fun e : Fin 1024 => ulat_at x0 x2 x3 x4 b r (⟨1024 + e.val, by omega⟩ : Fin 3584))]
  pointwise [val_main_v130, val_main_v129, val_main_v128, val_main_v127, val_main_v126, val_main_v125, val_main_v124, val_main_v123,
    val_main_v122, val_main_v121, val_main_v120, val_main_v119, val_main_v118, val_main_v117, val_main_v116, val_main_v115,
    val_main_v114, val_main_v113, val_main_v112, val_main_v111, val_main_v110, val_main_v109]
  by_cases h : c.val % 32 < 16
  · rw [dif_pos h]
    refine turned_first _ _ _ h ?_ ?_ ?_ ?_
    · exact congrArg (fun z : Fin 3584 => val_main_v54 x0 x2 x3 x4 (ix3 b r z)) (Fin.ext (by simp only [] <;> omega))
    · exact angle_at _ _ _ (by simp only [lane] <;> omega)
    · exact congrArg (fun z : Fin 3584 => val_main_v54 x0 x2 x3 x4 (ix3 b r z)) (Fin.ext (by simp only [other] <;> omega))
    · exact angle_at _ _ _ (by simp only [lane] <;> omega)
  · rw [dif_neg h]
    refine turned_second _ _ _ h ?_ ?_ ?_ ?_
    · exact congrArg (fun z : Fin 3584 => val_main_v54 x0 x2 x3 x4 (ix3 b r z)) (Fin.ext (by simp only [] <;> omega))
    · exact angle_at _ _ _ (by simp only [lane] <;> omega)
    · exact congrArg (fun z : Fin 3584 => val_main_v54 x0 x2 x3 x4 (ix3 b r z)) (Fin.ext (by simp only [other] <;> omega))
    · exact angle_at _ _ _ (by simp only [lane] <;> omega)

/-- The queries at a latent row. -/
theorem ref_q_lat (b : Fin 2) (r : Fin 16384) (c : Fin 1024) :
    val_main_v139 (F := Ideal) x0 x1 x2 x3 x4 (ix3 b (⟨r.val, by omega⟩ : Fin 16640) c)
      = turned (fun e => fe (latRow x0 x2 x3 b r) x4 (⟨0 + e.val, by omega⟩ : Fin 3584)) (angle r) c * Ideal.ofBits .f32 0x3E38AA3B#32 := by
  rw [← qrot_at]
  pointwise [val_main_v139, val_main_v108, val_main_v107, val_main_v106, val_main_cst_9]

/-- The queries at a context row. -/
theorem ref_q_ctx (b : Fin 2) (r : Fin 256) (c : Fin 1024) :
    val_main_v139 (F := Ideal) x0 x1 x2 x3 x4 (ix3 b (⟨16384 + r.val, by omega⟩ : Fin 16640) c)
      = fe (ctxRow x1 x2 x3 b r) x4 (⟨0 + c.val, by omega⟩ : Fin 3584) * Ideal.ofBits .f32 0x3E38AA3B#32 := by
  rw [← uctx_at]
  pointwise [val_main_v139, val_main_v108, val_main_v107, val_main_v106, val_main_v105, val_main_cst_9]

/-- The keys at a latent row. -/
theorem ref_k_lat (b : Fin 2) (r : Fin 16384) (c : Fin 1024) :
    val_main_v140 (F := Ideal) x0 x1 x2 x3 x4 (ix3 b (⟨r.val, by omega⟩ : Fin 16640) c)
      = turned (fun e => fe (latRow x0 x2 x3 b r) x4 (⟨1024 + e.val, by omega⟩ : Fin 3584)) (angle r) c := by
  rw [← krot_at]
  pointwise [val_main_v140, val_main_v132]

/-- The keys at a context row. -/
theorem ref_k_ctx (b : Fin 2) (r : Fin 256) (c : Fin 1024) :
    val_main_v140 (F := Ideal) x0 x1 x2 x3 x4 (ix3 b (⟨16384 + r.val, by omega⟩ : Fin 16640) c)
      = fe (ctxRow x1 x2 x3 b r) x4 (⟨1024 + c.val, by omega⟩ : Fin 3584) := by
  rw [← uctx_at]
  pointwise [val_main_v140, val_main_v132, val_main_v131]

/-- The values at a latent row. -/
theorem ref_v_lat (b : Fin 2) (r : Fin 16384) (c : Fin 1024) :
    val_main_v141 (F := Ideal) x0 x1 x2 x3 x4 (ix3 b (⟨r.val, by omega⟩ : Fin 16640) c)
      = fe (latRow x0 x2 x3 b r) x4 (⟨2048 + c.val, by omega⟩ : Fin 3584) := by
  rw [← ulat_at]
  pointwise [val_main_v141, val_main_v135, val_main_v133]

/-- The values at a context row. -/
theorem ref_v_ctx (b : Fin 2) (r : Fin 256) (c : Fin 1024) :
    val_main_v141 (F := Ideal) x0 x1 x2 x3 x4 (ix3 b (⟨16384 + r.val, by omega⟩ : Fin 16640) c)
      = fe (ctxRow x1 x2 x3 b r) x4 (⟨2048 + c.val, by omega⟩ : Fin 3584) := by
  rw [← uctx_at]
  pointwise [val_main_v141, val_main_v135, val_main_v134]

/-- The Fourier channels at a latent row. -/
theorem ref_f_lat (b : Fin 2) (r : Fin 16384) (c : Fin 512) :
    val_main_v138 (F := Ideal) x0 x1 x2 x3 x4 (ix3 b (⟨r.val, by omega⟩ : Fin 16640) c)
      = fe (latRow x0 x2 x3 b r) x4 (⟨3072 + c.val, by omega⟩ : Fin 3584) := by
  rw [← ulat_at]
  pointwise [val_main_v138, val_main_v136]

/-- The Fourier channels at a context row. -/
theorem ref_f_ctx (b : Fin 2) (r : Fin 256) (c : Fin 512) :
    val_main_v138 (F := Ideal) x0 x1 x2 x3 x4 (ix3 b (⟨16384 + r.val, by omega⟩ : Fin 16640) c)
      = fe (ctxRow x1 x2 x3 b r) x4 (⟨3072 + c.val, by omega⟩ : Fin 3584) := by
  rw [← uctx_at]
  pointwise [val_main_v138, val_main_v137]

end Cert.Proj

end
-- ==== Proof.Proj.lean ====
/-
  The projections: the frames, the four results at a row, and the claim that they and the reference's are one.
-/
module

public import proofs.«01_k».proof.Proof.Gen.Kernel4
public import proofs.«01_k».proof.Proof.Gen.Kernel4Ideal.Value
public import proofs.«01_k».proof.Proof.ProjHost
public import proofs.«01_k».proof.Proof.ProjRef

@[expose] public section

set_option maxRecDepth 16384
set_option maxHeartbeats 4000000

noncomputable section

namespace Cert.Proj

open Cert.Kernel4Ideal Cert.Kernel4Ideal.Gen
open Idealize.ShloMosaic Idealize.SL.Sem
open Idealize.ShloMosaic.TcCoe Idealize.ShloMosaic.Tactic

section Frames

variable {F : FTy → Type} [FloatOps F]

/-- The body the printed kernel calls at a point is the idealized copy's. -/
theorem body_kernel : Cert.Kernel4.defs₀ (F := F) = defs₀ := by
  unfold Cert.Kernel4.defs₀ defs₀
  refine congrArg Defs.onTc ?_
  funext l a
  match l with
  | 0 => rfl

/-- So are its definitions. -/
theorem defs_kernel : Cert.Kernel4.defs (F := F) = defs := congrArg (Pipeline.defs pcfgs) body_kernel

variable (m : (ℓ : Loc nD τ sig) → Buf (Elt F) ℓ) (ρ : Dev nD → PrngReg)

/-- Every argument ends as it began. -/
def Kept (r : PUnit × MemSt nD τ sig (Elt F)) (c : Dev nD) : Prop :=
  r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)

/-- The run under definitions equal to the idealized copy's. -/
theorem frame_defs (d : Defs nD τ sig (Elt F) (Pipeline.Sig Λ₀ (Fin 1) fun p => (pcfgs (F := F) p).Adm))
    (hd : d = defs) : θ_run d (onTc (τ := τ) (main (F := F))) ⟨m, fun _ => 0, ρ⟩ (fun r =>
    (∀ c : Dev nD, Kept m r c) ∧ r.2.sem = fun _ => 0) := by
  subst hd
  exact Cert.Kernel4Ideal.Gen.frame m ρ

/-- The frame of the kernel as printed: it has the text of its idealized copy. -/
theorem frame_kernel : Cert.quiescent_Kernel4 := fun m ρ _ => frame_defs (F := Bits) m ρ _ defs_kernel

/-- The frame of the idealized kernel. -/
theorem frame_ideal : Cert.quiescent_Kernel4Ideal := fun m ρ _ => frame_defs (F := Ideal) m ρ _ rfl

/-- The frame of the reference. -/
theorem frame_reference : Cert.quiescent_Reference4Ideal := fun m ρ _ =>
  (θ_run Cert.Reference4Ideal.defs _ _).mono (fun r h => ⟨fun c => (h c).2.2.2.2, sem_eq_zero_of_no_sems (by decide) r.2⟩)
    (Cert.Reference4Ideal.Value.run m ρ)

end Frames

variable (m : (ℓ : Loc nD τ sig) → Buf (Elt Ideal) ℓ) (c : Dev nD)

/-- The arguments by name. -/
abbrev a0 : (⟨S2x16384x1024, .f32⟩ : BufTy).Contents (Elt Ideal) := m ((c : Thread nD τ).loc main_arg0)
/-- The context's rows. -/
abbrev a1 : (⟨S2x256x1024, .f32⟩ : BufTy).Contents (Elt Ideal) := m ((c : Thread nD τ).loc main_arg1)
/-- The modulation. -/
abbrev a2 : (⟨S8x6144, .f32⟩ : BufTy).Contents (Elt Ideal) := m ((c : Thread nD τ).loc main_arg2)
/-- The norm's weights. -/
abbrev a3 : (⟨S1024, .f32⟩ : BufTy).Contents (Elt Ideal) := m ((c : Thread nD τ).loc main_arg3)
/-- The projection's weights. -/
abbrev a4 : (⟨S1024x3584, .f32⟩ : BufTy).Contents (Elt Ideal) := m ((c : Thread nD τ).loc main_arg4)

/-- Rows of equal parts are equal. -/
theorem hrow_congr {x x' sh sh' sc sc' w w' : Fin 1024 → EReal} (hx : ∀ k, x k = x' k) (hs : ∀ k, sh k = sh' k)
    (hc : ∀ k, sc k = sc' k) (hw : ∀ k, w k = w' k) : hrow x sh sc w = hrow x' sh' sc' w' := by
  rw [funext hx, funext hs, funext hc, funext hw]

/-- Rotations of equal parts are equal. -/
theorem turn_congr {u u' : Fin 1024 → EReal} {co co' si si' : Fin 128 → EReal} (e : Fin 1024) (hu : ∀ k, u k = u' k)
    (hc : ∀ k, co k = co' k) (hs : ∀ k, si k = si' k) : turn u co si e = turn u' co' si' e := by
  rw [funext hu, funext hc, funext hs]

/-- The array's latent row a row of a latent point's block is. -/
def lr (t : Fin cfg0.N) (ht : t.val % 65 < 64) (r : Fin 256) : Fin 16384 := ⟨t.val % 65 * 256 + r.val, by omega⟩

/-- The rows' array at a context point. -/
theorem pr_ctx (t : Fin cfg0.N) (ht : ¬ t.val % 65 < 64) (r : Fin 256) : pr t r = (⟨16384 + r.val, by omega⟩ : Fin 16640) :=
  Fin.ext (show t.val % 65 * 256 + r.val = 16384 + r.val by omega)

/-- The modulation's row of a latent point. -/
theorem pm_lat (t : Fin cfg0.N) (ht : t.val % 65 < 64) : pm t = (⟨(pb t).val, by omega⟩ : Fin 8) :=
  Fin.ext (if_neg (show ¬ t.val % 65 = 64 by omega))

/-- The modulation's row of a context point. -/
theorem pm_ctx (t : Fin cfg0.N) (ht : ¬ t.val % 65 < 64) : pm t = (2 : Fin 8) :=
  Fin.ext (if_pos (show t.val % 65 = 64 by omega))

/-- The block's rows at a latent point. -/
theorem row_lat (t : Fin cfg0.N) (ht : t.val % 65 < 64) (r : Fin 256) :
    hrow (fun k => iblk m c 0 t (ix3 (0 : Fin 1) r k)) (fun k => iblk m c 1 t (ix3 (0 : Fin 1) (0 : Fin 6) k))
        (fun k => iblk m c 1 t (ix3 (0 : Fin 1) (1 : Fin 6) k)) (fun k => iblk m c 2 t (ix2 (0 : Fin 1) k))
      = latRow (a0 m c) (a2 m c) (a3 m c) (pb t) (lr t ht r) := by
  refine hrow_congr (fun k => (iblk0_at m c t r k).trans (x_lat m c (pb t) (lr t ht r) k)) (fun k => ?_) (fun k => ?_)
    (fun k => (iblk2_at m c t k).trans (g_at m c k))
  · refine (iblk1_at m c t _ k).trans ((mod_at m c _ _ k).trans ?_)
    rw [pm_lat t ht]
    exact congrArg (fun z : Fin 6144 => a2 m c (ix2 (⟨(pb t).val, by omega⟩ : Fin 8) z)) (Fin.ext (show 0 * 1024 + k.val = k.val by omega))
  · refine (iblk1_at m c t _ k).trans ((mod_at m c _ _ k).trans ?_)
    rw [pm_lat t ht]
    exact congrArg (fun z : Fin 6144 => a2 m c (ix2 (⟨(pb t).val, by omega⟩ : Fin 8) z)) (Fin.ext (show 1 * 1024 + k.val = 1024 + k.val by omega))

/-- The block's rows at a context point. -/
theorem row_ctx (t : Fin cfg0.N) (ht : ¬ t.val % 65 < 64) (r : Fin 256) :
    hrow (fun k => iblk m c 0 t (ix3 (0 : Fin 1) r k)) (fun k => iblk m c 1 t (ix3 (0 : Fin 1) (0 : Fin 6) k))
        (fun k => iblk m c 1 t (ix3 (0 : Fin 1) (1 : Fin 6) k)) (fun k => iblk m c 2 t (ix2 (0 : Fin 1) k))
      = ctxRow (a1 m c) (a2 m c) (a3 m c) (pb t) r := by
  refine hrow_congr (fun k => (iblk0_at m c t r k).trans ?_) (fun k => ?_) (fun k => ?_)
    (fun k => (iblk2_at m c t k).trans (g_at m c k))
  · rw [pr_ctx t ht r]
    exact x_ctx m c (pb t) r k
  · refine (iblk1_at m c t _ k).trans ((mod_at m c _ _ k).trans ?_)
    rw [pm_ctx t ht]
    exact congrArg (fun z : Fin 6144 => a2 m c (ix2 (2 : Fin 8) z)) (Fin.ext (show 0 * 1024 + k.val = k.val by omega))
  · refine (iblk1_at m c t _ k).trans ((mod_at m c _ _ k).trans ?_)
    rw [pm_ctx t ht]
    exact congrArg (fun z : Fin 6144 => a2 m c (ix2 (2 : Fin 8) z)) (Fin.ext (show 1 * 1024 + k.val = 1024 + k.val by omega))

/-- The body's columns at a point, from the rows it normed. -/
theorem col_at (t : Fin cfg0.N) (r : Fin 256) (e : Fin 3584) {x : Fin 1024 → EReal}
    (hx : hrow (fun k => iblk m c 0 t (ix3 (0 : Fin 1) r k)) (fun k => iblk m c 1 t (ix3 (0 : Fin 1) (0 : Fin 6) k))
        (fun k => iblk m c 1 t (ix3 (0 : Fin 1) (1 : Fin 6) k)) (fun k => iblk m c 2 t (ix2 (0 : Fin 1) k)) = x) :
    col (k0_pay46 (F := Ideal) (iblk m c 0 t) (iblk m c 1 t) (iblk m c 2 t) (iblk m c 3 t) (iblk m c 4 t) (iblk m c 5 t)) (iblk m c 3 t) r e
      = fe x (a4 m c) e := by
  unfold col fe
  refine Finset.sum_congr rfl fun d _ => ?_
  rw [rows_at, hx]
  exact congrArg (fun z : EReal => x d * z) ((iblk3_at m c t d e).trans (w_at m c d e))

/-- The rotation's columns at a latent point. -/
theorem turn_lat (t : Fin cfg0.N) (ht : t.val % 65 < 64) (r : Fin 256) (o : ℕ) (ho : o + 1024 ≤ 3584) (e : Fin 1024) :
    turn (fun e => col (k0_pay46 (F := Ideal) (iblk m c 0 t) (iblk m c 1 t) (iblk m c 2 t) (iblk m c 3 t) (iblk m c 4 t) (iblk m c 5 t))
          (iblk m c 3 t) r (⟨o + e.val, by omega⟩ : Fin 3584))
        (fun e => k0_pay47 (F := Ideal) (iblk m c 0 t) (iblk m c 1 t) (iblk m c 2 t) (iblk m c 3 t) (iblk m c 4 t) (iblk m c 5 t) (ix2 r e))
        (fun e => k0_pay48 (F := Ideal) (iblk m c 0 t) (iblk m c 1 t) (iblk m c 2 t) (iblk m c 3 t) (iblk m c 4 t) (iblk m c 5 t) (ix2 r e)) e
      = turned (fun e => fe (latRow (a0 m c) (a2 m c) (a3 m c) (pb t) (lr t ht r)) (a4 m c) (⟨o + e.val, by omega⟩ : Fin 3584))
          (angle (lr t ht r)) e :=
  turn_congr e (fun k => col_at m c t r _ (row_lat m c t ht r))
    (fun k => (cos_at _ _ _ _ _ _ r k).trans ((iblk4_at m c t r k).trans (cos_lat m c (lr t ht r) k)))
    (fun k => (sin_at _ _ _ _ _ _ r k).trans ((iblk5_at m c t r k).trans (sin_lat m c (lr t ht r) k)))

/-- The rotation's columns at a context point: not turned. -/
theorem turn_ctx (t : Fin cfg0.N) (ht : ¬ t.val % 65 < 64) (r : Fin 256) (o : ℕ) (ho : o + 1024 ≤ 3584) (e : Fin 1024) :
    turn (fun e => col (k0_pay46 (F := Ideal) (iblk m c 0 t) (iblk m c 1 t) (iblk m c 2 t) (iblk m c 3 t) (iblk m c 4 t) (iblk m c 5 t))
          (iblk m c 3 t) r (⟨o + e.val, by omega⟩ : Fin 3584))
        (fun e => k0_pay47 (F := Ideal) (iblk m c 0 t) (iblk m c 1 t) (iblk m c 2 t) (iblk m c 3 t) (iblk m c 4 t) (iblk m c 5 t) (ix2 r e))
        (fun e => k0_pay48 (F := Ideal) (iblk m c 0 t) (iblk m c 1 t) (iblk m c 2 t) (iblk m c 3 t) (iblk m c 4 t) (iblk m c 5 t) (ix2 r e)) e
      = fe (ctxRow (a1 m c) (a2 m c) (a3 m c) (pb t) r) (a4 m c) (⟨o + e.val, by omega⟩ : Fin 3584) := by
  refine (turn_congr e (fun k => col_at m c t r _ (row_ctx m c t ht r)) (fun k => (cos_at _ _ _ _ _ _ r k).trans ((iblk4_at m c t r k).trans ?_))
    (fun k => (sin_at _ _ _ _ _ _ r k).trans ((iblk5_at m c t r k).trans ?_))).trans (turn_still _ e)
  · rw [pr_ctx t ht r]
    exact cos_ctx m c r k
  · rw [pr_ctx t ht r]
    exact sin_ctx m c r k

/-- The reference's queries, from the kernel's arguments. -/
abbrev wantQ : S2x16640x1024.Idx → EReal :=
  Cert.Reference4Ideal.Read.val_main_v139 (F := Ideal) (a0 m c) (a1 m c) (a2 m c) (a3 m c) (a4 m c)
/-- The reference's keys. -/
abbrev wantK : S2x16640x1024.Idx → EReal :=
  Cert.Reference4Ideal.Read.val_main_v140 (F := Ideal) (a0 m c) (a1 m c) (a2 m c) (a3 m c) (a4 m c)
/-- The reference's values. -/
abbrev wantV : S2x16640x1024.Idx → EReal :=
  Cert.Reference4Ideal.Read.val_main_v141 (F := Ideal) (a0 m c) (a1 m c) (a2 m c) (a3 m c) (a4 m c)
/-- The reference's Fourier channels. -/
abbrev wantF : S2x16640x512.Idx → EReal :=
  Cert.Reference4Ideal.Read.val_main_v138 (F := Ideal) (a0 m c) (a1 m c) (a2 m c) (a3 m c) (a4 m c)

/-- A point's queries are the reference's. -/
theorem tileQ_at (t : Fin cfg0.N) (r : Fin 256) (e : Fin 1024) :
    out0_6 (F := Ideal) (iblk m c 0 t) (iblk m c 1 t) (iblk m c 2 t) (iblk m c 3 t) (iblk m c 4 t) (iblk m c 5 t) (ix3 (0 : Fin 1) r e)
      = wantQ m c (ix3 (pb t) (pr t r) e) := by
  refine (out6_eq _ _ _ _ _ _ _).trans ?_
  by_cases ht : t.val % 65 < 64
  · exact (congrArg (fun z : EReal => z * Ideal.ofBits .f32 0x3E38AA3B#32) (turn_lat m c t ht r 0 (by omega) e)).trans
      (ref_q_lat (a0 m c) (a1 m c) (a2 m c) (a3 m c) (a4 m c) (pb t) (lr t ht r) e).symm
  · rw [pr_ctx t ht r]
    exact (congrArg (fun z : EReal => z * Ideal.ofBits .f32 0x3E38AA3B#32) (turn_ctx m c t ht r 0 (by omega) e)).trans
      (ref_q_ctx (a0 m c) (a1 m c) (a2 m c) (a3 m c) (a4 m c) (pb t) r e).symm

/-- A point's keys are the reference's. -/
theorem tileK_at (t : Fin cfg0.N) (r : Fin 256) (e : Fin 1024) :
    out0_7 (F := Ideal) (iblk m c 0 t) (iblk m c 1 t) (iblk m c 2 t) (iblk m c 3 t) (iblk m c 4 t) (iblk m c 5 t) (ix3 (0 : Fin 1) r e)
      = wantK m c (ix3 (pb t) (pr t r) e) := by
  refine (out7_eq _ _ _ _ _ _ _).trans ?_
  by_cases ht : t.val % 65 < 64
  · exact (turn_lat m c t ht r 1024 (by omega) e).trans
      (ref_k_lat (a0 m c) (a1 m c) (a2 m c) (a3 m c) (a4 m c) (pb t) (lr t ht r) e).symm
  · rw [pr_ctx t ht r]
    exact (turn_ctx m c t ht r 1024 (by omega) e).trans
      (ref_k_ctx (a0 m c) (a1 m c) (a2 m c) (a3 m c) (a4 m c) (pb t) r e).symm

/-- A point's values are the reference's. -/
theorem tileV_at (t : Fin cfg0.N) (r : Fin 256) (e : Fin 1024) :
    out0_8 (F := Ideal) (iblk m c 0 t) (iblk m c 1 t) (iblk m c 2 t) (iblk m c 3 t) (iblk m c 4 t) (iblk m c 5 t) (ix3 (0 : Fin 1) r e)
      = wantV m c (ix3 (pb t) (pr t r) e) := by
  refine (out8_eq _ _ _ _ _ _ _).trans ?_
  by_cases ht : t.val % 65 < 64
  · exact (col_at m c t r _ (row_lat m c t ht r)).trans
      (ref_v_lat (a0 m c) (a1 m c) (a2 m c) (a3 m c) (a4 m c) (pb t) (lr t ht r) e).symm
  · rw [pr_ctx t ht r]
    exact (col_at m c t r _ (row_ctx m c t ht r)).trans
      (ref_v_ctx (a0 m c) (a1 m c) (a2 m c) (a3 m c) (a4 m c) (pb t) r e).symm

/-- A point's Fourier channels are the reference's. -/
theorem tileF_at (t : Fin cfg0.N) (r : Fin 256) (e : Fin 512) :
    out0_9 (F := Ideal) (iblk m c 0 t) (iblk m c 1 t) (iblk m c 2 t) (iblk m c 3 t) (iblk m c 4 t) (iblk m c 5 t) (ix3 (0 : Fin 1) r e)
      = wantF m c (ix3 (pb t) (pr t r) e) := by
  refine (out9_eq _ _ _ _ _ _ _).trans ?_
  by_cases ht : t.val % 65 < 64
  · exact (col_at m c t r _ (row_lat m c t ht r)).trans
      (ref_f_lat (a0 m c) (a1 m c) (a2 m c) (a3 m c) (a4 m c) (pb t) (lr t ht r) e).symm
  · rw [pr_ctx t ht r]
    exact (col_at m c t r _ (row_ctx m c t ht r)).trans
      (ref_f_ctx (a0 m c) (a1 m c) (a2 m c) (a3 m c) (a4 m c) (pb t) r e).symm

/-- Blocks equal at their rows and columns are equal at any index of the block and the array's index it goes to. -/
theorem emb_of {n : ℕ} (t : Fin cfg0.N) (G : (⟨3, ![1, 256, n]⟩ : Shape).Idx → EReal) (H : (⟨3, ![2, 16640, n]⟩ : Shape).Idx → EReal)
    (hG : ∀ (r : Fin 256) (e : Fin n), G (ix3 (0 : Fin 1) r e) = H (ix3 (pb t) (pr t r) e))
    (q : (⟨3, ![1, 256, n]⟩ : Shape).Idx) (p : (⟨3, ![2, 16640, n]⟩ : Shape).Idx)
    (p0 : (p (0 : Fin 3)).val = t.val / 65 * 1 + 1 * (q (0 : Fin 3)).val)
    (p1 : (p (1 : Fin 3)).val = t.val % 65 * 256 + 1 * (q (1 : Fin 3)).val)
    (p2 : (p (2 : Fin 3)).val = 0 * n + 1 * (q (2 : Fin 3)).val) : G q = H p := by
  have q0 : (q (0 : Fin 3)).val = 0 := Nat.lt_one_iff.mp (q (0 : Fin 3)).isLt
  obtain ⟨r, hr⟩ : ∃ r : Fin 256, r.val = (q (1 : Fin 3)).val := ⟨q (1 : Fin 3), rfl⟩
  obtain ⟨j, hj⟩ : ∃ j : Fin n, j.val = (q (2 : Fin 3)).val := ⟨q (2 : Fin 3), rfl⟩
  have eq : q = ix3 (0 : Fin 1) r j := by
    funext a
    match a with
    | ⟨0, _⟩ => exact Fin.ext q0
    | ⟨1, _⟩ => exact Fin.ext hr.symm
    | ⟨2, _⟩ => exact Fin.ext hj.symm
  refine (congrArg G eq).trans ((hG r j).trans (congrArg H ?_))
  rw [Nat.zero_mul] at p2
  funext a
  match a with
  | ⟨0, _⟩ => exact Fin.ext (by show t.val / 65 = (p (0 : Fin 3)).val; omega)
  | ⟨1, _⟩ => exact Fin.ext (by show t.val % 65 * 256 + r.val = (p (1 : Fin 3)).val; omega)
  | ⟨2, _⟩ => exact Fin.ext (by show j.val = (p (2 : Fin 3)).val; omega)

/-- The launch's queries are the reference's. -/
theorem arrQ_eq : (dats m 0 c).arrAt 6 cfg0.N = wantQ m c := by
  funext i
  refine ((dats m 0 c).arrAt_apply_of_coversWhere 6 (wantQ m c) (P := fun _ => True) (fun _ => True) (by decide +kernel)
    (fun t hf y => ?_) (fun j => Iff.rfl) i).trans (if_pos trivial)
  have e : ∀ a : Fin 3, ((((cfg0.win 6).blk t).view.emb y) a).val = (cfg0.win 6).index t a * S1x256x1024.size a + 1 * (y a).val := fun a => rfl
  have e0 := e 0
  have e1 := e 1
  have e2 := e 2
  rw [index6 t] at e0 e1 e2
  exact (congrFun (Cert.Kernel4Ideal.Value.flushed6 m c t) y).trans (emb_of t _ _ (tileQ_at m c t) _ _ e0 e1 e2)

/-- The launch's keys are the reference's. -/
theorem arrK_eq : (dats m 0 c).arrAt 7 cfg0.N = wantK m c := by
  funext i
  refine ((dats m 0 c).arrAt_apply_of_coversWhere 7 (wantK m c) (P := fun _ => True) (fun _ => True) (by decide +kernel)
    (fun t hf y => ?_) (fun j => Iff.rfl) i).trans (if_pos trivial)
  have e : ∀ a : Fin 3, ((((cfg0.win 7).blk t).view.emb y) a).val = (cfg0.win 7).index t a * S1x256x1024.size a + 1 * (y a).val := fun a => rfl
  have e0 := e 0
  have e1 := e 1
  have e2 := e 2
  rw [index7 t] at e0 e1 e2
  exact (congrFun (Cert.Kernel4Ideal.Value.flushed7 m c t) y).trans (emb_of t _ _ (tileK_at m c t) _ _ e0 e1 e2)

/-- The launch's values are the reference's. -/
theorem arrV_eq : (dats m 0 c).arrAt 8 cfg0.N = wantV m c := by
  funext i
  refine ((dats m 0 c).arrAt_apply_of_coversWhere 8 (wantV m c) (P := fun _ => True) (fun _ => True) (by decide +kernel)
    (fun t hf y => ?_) (fun j => Iff.rfl) i).trans (if_pos trivial)
  have e : ∀ a : Fin 3, ((((cfg0.win 8).blk t).view.emb y) a).val = (cfg0.win 8).index t a * S1x256x1024.size a + 1 * (y a).val := fun a => rfl
  have e0 := e 0
  have e1 := e 1
  have e2 := e 2
  rw [index8 t] at e0 e1 e2
  exact (congrFun (Cert.Kernel4Ideal.Value.flushed8 m c t) y).trans (emb_of t _ _ (tileV_at m c t) _ _ e0 e1 e2)

/-- The launch's Fourier channels are the reference's. -/
theorem arrF_eq : (dats m 0 c).arrAt 9 cfg0.N = wantF m c := by
  funext i
  refine ((dats m 0 c).arrAt_apply_of_coversWhere 9 (wantF m c) (P := fun _ => True) (fun _ => True) (by decide +kernel)
    (fun t hf y => ?_) (fun j => Iff.rfl) i).trans (if_pos trivial)
  have e : ∀ a : Fin 3, ((((cfg0.win 9).blk t).view.emb y) a).val = (cfg0.win 9).index t a * S1x256x512.size a + 1 * (y a).val := fun a => rfl
  have e0 := e 0
  have e1 := e 1
  have e2 := e 2
  rw [index9 t] at e0 e1 e2
  exact (congrFun (Cert.Kernel4Ideal.Value.flushed9 m c t) y).trans (emb_of t _ _ (tileF_at m c t) _ _ e0 e1 e2)

/-- The idealized kernel and the idealized reference end with the same four results. -/
theorem algebraic : Cert.algebraic_Kernel4Ideal_Reference4Ideal := fun m ρ m' ρ' _ hargs => by
  refine ⟨fun c => wantQ m c, fun c => wantK m c, fun c => wantV m c, fun c => wantF m c,
    (θ_run defs _ _).mono (fun r h c => ⟨(h c).1.trans (arrQ_eq m c), (h c).2.1.trans (arrK_eq m c), (h c).2.2.1.trans (arrV_eq m c),
      (h c).2.2.2.1.trans (arrF_eq m c), (h c).2.2.2.2⟩) (Cert.Kernel4Ideal.Value.run_blocks m ρ),
    (θ_run Cert.Reference4Ideal.defs _ _).mono (fun r h c => ⟨?_, ?_, ?_, ?_, (h c).2.2.2.2⟩) (Cert.Reference4Ideal.Value.run m' ρ')⟩
  all_goals obtain ⟨e0, e1, e2, e3, e4⟩ := hargs c
  · refine (h c).1.trans ((Cert.Reference4Ideal.Read.val_main_v139_eq m' c).trans ?_)
    rw [e0, e1, e2, e3, e4]
  · refine (h c).2.1.trans ((Cert.Reference4Ideal.Read.val_main_v140_eq m' c).trans ?_)
    rw [e0, e1, e2, e3, e4]
  · refine (h c).2.2.1.trans ((Cert.Reference4Ideal.Read.val_main_v141_eq _ _ _ _ _).trans ?_)
    rw [e0, e1, e2, e3, e4]
  · refine (h c).2.2.2.1.trans ((Cert.Reference4Ideal.Read.val_main_v138_eq _ _ _ _ _).trans ?_)
    rw [e0, e1, e2, e3, e4]

end Cert.Proj

end
-- ==== Proof.lean ====
/- The claims of the certificate: the frames of the programs, that idealizing changed nothing, and that the kernel and the
   reference end with one result. -/
module

public import proofs.«01_k».proof.Defs
public import proofs.«01_k».proof.Proof.Frames
public import proofs.«01_k».proof.Proof.Result
public import proofs.«01_k».proof.Proof.ExpertResult
public import proofs.«01_k».proof.Proof.Last
public import proofs.«01_k».proof.Proof.Gen.KernelIdeal.Loops
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Gen.Kernel2
public import proofs.«01_k».proof.Proof.Gen.Kernel2Ideal
public import proofs.«01_k».proof.Proof.Gen.Kernel2Ideal.Launch
public import proofs.«01_k».proof.Proof.Gen.Kernel2Ideal.Skeleton
public import proofs.«01_k».proof.Proof.Gen.Reference2Ideal
public import proofs.«01_k».proof.Proof.Gen.Reference2Ideal.Run
public import proofs.«01_k».proof.Proof.Gen.Reference2Ideal.Read
public import proofs.«01_k».proof.Proof.Gen.Pre_experts_in_range
public import proofs.«01_k».proof.Proof.Gen.Kernel3
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Proj

@[expose] public section

noncomputable section

namespace Cert.Proof

/-- Everything the certificate claims. -/
theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts,
    Cert.Kernel3Ideal.Gen.facts, Cert.Reference3Ideal.Gen.facts, Cert.Kernel4.Gen.facts,
    Cert.Kernel4Ideal.Gen.facts, Cert.Reference4Ideal.Gen.facts, Cert.Pre_finite.Gen.facts, Cert.Pre_experts_in_range.Gen.facts,
    Cert.Attn.frame_kernel, Cert.Attn.frame_ideal, fun m ρ _ => Cert.Attn.frame_any m ρ,
    Cert.Attn.frame_reference, fun m ρ _ => Cert.Attn.frame_reference m ρ trivial,
    Cert.Experts.frame_kernel, Cert.Experts.frame_ideal, Cert.Experts.frame_reference,
    fun m ρ _ => Cert.Experts.frame_reference m ρ trivial, Cert.Last.frame_kernel, Cert.Last.frame_ideal,
    Cert.Last.frame_reference,
    Cert.Proj.frame_kernel, Cert.Proj.frame_ideal, Cert.Proj.frame_reference, trivial, Cert.Attn.algebraic, trivial, Cert.Experts.algebraic, trivial, Cert.Last.algebraic,
    trivial, Cert.Proj.algebraic⟩

end Cert.Proof

end
